-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x2048 : Shape := ⟨2, ![4, 2048]⟩
abbrev S32000x1408 : Shape := ⟨2, ![32000, 1408]⟩
abbrev S32000x88 : Shape := ⟨2, ![32000, 88]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : IVec S4x2048 32) (main_arg1 : IVec S32000x1408 8) (main_arg2 : IVec S32000x88 16) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 32000#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  main_v4
-- ==== Kernel.lean ====
abbrev S4x2048 : Shape := ⟨2, ![4, 2048]⟩
abbrev S32000x1408 : Shape := ⟨2, ![32000, 1408]⟩
abbrev S32000x88 : Shape := ⟨2, ![32000, 88]⟩
abbrev S88x32000 : Shape := ⟨2, ![88, 32000]⟩
abbrev S8000x4x1408 : Shape := ⟨3, ![8000, 4, 1408]⟩
abbrev S8000x1408x4 : Shape := ⟨3, ![8000, 1408, 4]⟩
abbrev S8000x1408 : Shape := ⟨2, ![8000, 1408]⟩
abbrev S8192x2816 : Shape := ⟨2, ![8192, 2816]⟩
abbrev S80080x128 : Shape := ⟨2, ![80080, 128]⟩
abbrev S8192x128 : Shape := ⟨2, ![8192, 128]⟩
abbrev S8192x256 : Shape := ⟨2, ![8192, 256]⟩
abbrev S256x2816 : Shape := ⟨2, ![256, 2816]⟩
abbrev S1560x128 : Shape := ⟨2, ![1560, 128]⟩
abbrev S128x128 : Shape := ⟨2, ![128, 128]⟩
abbrev S256x256 : Shape := ⟨2, ![256, 256]⟩
abbrev S2x256x1024 : Shape := ⟨3, ![2, 256, 1024]⟩
abbrev S_ : Shape := ⟨0, ![]⟩
abbrev S3 : Shape := ⟨1, ![3]⟩
abbrev S2 : Shape := ⟨1, ![2]⟩
abbrev S1 : Shape := ⟨1, ![1]⟩
abbrev S8000x128 : Shape := ⟨2, ![8000, 128]⟩
abbrev S1x128 : Shape := ⟨2, ![1, 128]⟩
abbrev S8x128 : Shape := ⟨2, ![8, 128]⟩
abbrev S88x128 : Shape := ⟨2, ![88, 128]⟩
abbrev S44x128 : Shape := ⟨2, ![44, 128]⟩
abbrev S20x128 : Shape := ⟨2, ![20, 128]⟩
abbrev S1x1 : Shape := ⟨2, ![1, 1]⟩
abbrev S3x128 : Shape := ⟨2, ![3, 128]⟩
abbrev S2x128 : Shape := ⟨2, ![2, 128]⟩
abbrev S256x768 : Shape := ⟨2, ![256, 768]⟩
abbrev S1x256x768 : Shape := ⟨3, ![1, 256, 768]⟩
abbrev S8x128x1 : Shape := ⟨3, ![8, 128, 1]⟩
abbrev S32x128 : Shape := ⟨2, ![32, 128]⟩
abbrev S1x32x128 : Shape := ⟨3, ![1, 32, 128]⟩
abbrev S4x128 : Shape := ⟨2, ![4, 128]⟩
abbrev S256x1024 : Shape := ⟨2, ![256, 1024]⟩
abbrev S1x256x1024 : Shape := ⟨3, ![1, 256, 1024]⟩

abbrev nBuf : Space → Nat
  | .hbm => 8
  | .vmem => 11
  | .smem => 1
  | _ => 0

abbrev bufTy : (tb : Table) → Fin (tcTables nBuf tb) → BufTy
  | .hbm, ⟨0, _⟩ => ⟨S4x2048, .i32⟩
  | .hbm, ⟨1, _⟩ => ⟨S32000x1408, .i8⟩
  | .hbm, ⟨2, _⟩ => ⟨S32000x88, .i16⟩
  | .hbm, ⟨3, _⟩ => ⟨S88x32000, .i16⟩
  | .hbm, ⟨4, _⟩ => ⟨S8000x4x1408, .i8⟩
  | .hbm, ⟨5, _⟩ => ⟨S8000x1408x4, .i8⟩
  | .hbm, ⟨6, _⟩ => ⟨S8000x1408, .i32⟩
  | .hbm, ⟨7, _⟩ => ⟨S8192x2816, .bf16⟩
  | .local _ .vmem, ⟨0, _⟩ => ⟨S4x2048, .i32⟩
  | .local _ .vmem, ⟨1, _⟩ => ⟨S80080x128, .i32⟩
  | .local _ .vmem, ⟨2, _⟩ => ⟨S88x32000, .i16⟩
  | .local _ .vmem, ⟨3, _⟩ => ⟨S4x2048, .i32⟩
  | .local _ .vmem, ⟨4, _⟩ => ⟨S8192x128, .i32⟩
  | .local _ .vmem, ⟨5, _⟩ => ⟨S8192x256, .f32⟩
  | .local _ .vmem, ⟨6, _⟩ => ⟨S256x2816, .bf16⟩
  | .local _ .vmem, ⟨7, _⟩ => ⟨S1560x128, .i32⟩
  | .local _ .vmem, ⟨8, _⟩ => ⟨S128x128, .i32⟩
  | .local _ .vmem, ⟨9, _⟩ => ⟨S256x256, .f32⟩
  | .local _ .vmem, ⟨10, _⟩ => ⟨S2x256x1024, .bf16⟩
  | .local _ .smem, ⟨0, _⟩ => ⟨S4x2048, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch3 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_23 : BitVec 32 := 0#32
  let c64_i32 : BitVec 32 := 64#32
  let v34 : BitVec 32 := Scalar.addi c0_i32_23 c64_i32
  let c1_i32_24 : BitVec 32 := 1#32
  ⟨c0_i32_23, v34, c1_i32_24⟩
def k0_off1 (k0_t1 : Fin k0_t1_loop.trips) : Fin 2 → Nat :=
  let c0_i32_23 : BitVec 32 := 0#32
  let c1_i32_24 : BitVec 32 := 1#32
  let arg19 : BitVec 32 := Scf.iv c0_i32_23 c1_i32_24 k0_t1
  let c4_i32 : BitVec 32 := 4#32
  let v228 : BitVec 32 := Scalar.shrsi arg19 c4_i32
  let v231 : Index := Scalar.indexCast v228
  let c15_i32 : BitVec 32 := 15#32
  let v229 : BitVec 32 := Scalar.andi arg19 c15_i32
  let c128_i32_172 : BitVec 32 := 128#32
  let v230 : BitVec 32 := Scalar.muli v229 c128_i32_172
  let v232 : Index := Scalar.indexCast v230
  ![v231.toNat, v232.toNat]
def k0_off2 (k0_t1 : Fin k0_t1_loop.trips) : Fin 2 → Nat :=
  let c0_i32_23 : BitVec 32 := 0#32
  let c1_i32_24 : BitVec 32 := 1#32
  let arg19 : BitVec 32 := Scf.iv c0_i32_23 c1_i32_24 k0_t1
  let c128_i32_174 : BitVec 32 := 128#32
  let v241 : BitVec 32 := Scalar.muli arg19 c128_i32_174
  let v242 : Index := Scalar.indexCast v241
  let c0_175 : Index := 0#32
  ![v242.toNat, 0]
@[reducible] def k0_t2_loop : Scf.Loop 32 :=
  let c0_i32_33 : BitVec 32 := 0#32
  let c11_i32 : BitVec 32 := 11#32
  let v74 : BitVec 32 := Scalar.addi c0_i32_33 c11_i32
  let c1_i32_34 : BitVec 32 := 1#32
  ⟨c0_i32_33, v74, c1_i32_34⟩
def k0_off3 (k0_t2 : Fin k0_t2_loop.trips) : Fin 2 → Nat :=
  let c0_174 : Index := 0#32
  let c0_i32_33 : BitVec 32 := 0#32
  let c1_i32_34 : BitVec 32 := 1#32
  let arg19 : BitVec 32 := Scf.iv c0_i32_33 c1_i32_34 k0_t2
  let c256_i32_173 : BitVec 32 := 256#32
  let v236 : BitVec 32 := Scalar.muli arg19 c256_i32_173
  let v237 : Index := Scalar.indexCast v236
  ![0, v237.toNat]
@[reducible] def k0_t3_loop : Scf.Loop 32 :=
  let c0_i32_37 : BitVec 32 := 0#32
  let c250_i32 : BitVec 32 := 250#32
  let v78 : BitVec 32 := Scalar.addi c0_i32_37 c250_i32
  let c1_i32_38 : BitVec 32 := 1#32
  ⟨c0_i32_37, v78, c1_i32_38⟩
def k0_off4 (k0_t3 : Fin k0_t3_loop.trips) : Fin 2 → Nat :=
  let c0_173 : Index := 0#32
  let c0_i32_37 : BitVec 32 := 0#32
  let c1_i32_38 : BitVec 32 := 1#32
  let arg19 : BitVec 32 := Scf.iv c0_i32_37 c1_i32_38 k0_t3
  let c128_i32_172 : BitVec 32 := 128#32
  let v228 : BitVec 32 := Scalar.muli arg19 c128_i32_172
  let v229 : Index := Scalar.indexCast v228
  ![0, v229.toNat]
def k0_off5 (k0_t3 : Fin k0_t3_loop.trips) (c0_i32_183 : BitVec 32) (c0_i32_184 : BitVec 32) : Fin 2 → Nat :=
  let c0_i32_37 : BitVec 32 := 0#32
  let c1_i32_38 : BitVec 32 := 1#32
  let arg19 : BitVec 32 := Scf.iv c0_i32_37 c1_i32_38 k0_t3
  let c32_i32_182 : BitVec 32 := 32#32
  let v243 : BitVec 32 := Scalar.muli arg19 c32_i32_182
  let v244 : BitVec 32 := Scalar.addi c0_i32_183 v243
  let v245 : BitVec 32 := Scalar.addi v244 c0_i32_184
  let v246 : Index := Scalar.indexCast v245
  let c0_185 : Index := 0#32
  ![v246.toNat, 0]
@[reducible] def k0_t4_loop : Scf.Loop 32 :=
  let c0_i32_73 : BitVec 32 := 0#32
  let c16_i32 : BitVec 32 := 16#32
  let v147 : BitVec 32 := Scalar.addi c0_i32_73 c16_i32
  let c1_i32_74 : BitVec 32 := 1#32
  ⟨c0_i32_73, v147, c1_i32_74⟩
@[reducible] def k0_t5_loop : Scf.Loop 32 :=
  let c0_i32_172 : BitVec 32 := 0#32
  let c2_i32_173 : BitVec 32 := 2#32
  let v228 : BitVec 32 := Scalar.addi c0_i32_172 c2_i32_173
  let c1_i32_174 : BitVec 32 := 1#32
  ⟨c0_i32_172, v228, c1_i32_174⟩
@[reducible] def k0_t6_loop : Scf.Loop 32 :=
  let c0_i32_190 : BitVec 32 := 0#32
  let c256_i32_191 : BitVec 32 := 256#32
  let v259 : BitVec 32 := Scalar.addi c0_i32_190 c256_i32_191
  let c1_i32_192 : BitVec 32 := 1#32
  ⟨c0_i32_190, v259, c1_i32_192⟩
def k0_off6 (k0_t4 : Fin k0_t4_loop.trips) (k0_t5 : Fin k0_t5_loop.trips) (k0_t6 : Fin k0_t6_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c0_i32_177 : BitVec 32 := 0#32
  let v232 : BitVec 1 := Scalar.cmpi .sgt v230 c0_i32_177
  let v233 : BitVec 32 := Scalar.extui v232
  let c0_i32_178 : BitVec 32 := 0#32
  let v234 : BitVec 1 := Scalar.cmpi .slt v230 c0_i32_178
  let v235 : BitVec 32 := Scalar.extui v234
  let v236 : BitVec 32 := Scalar.subi v233 v235
  let c8_i32 : BitVec 32 := 8#32
  let c0_i32_179 : BitVec 32 := 0#32
  let v237 : BitVec 1 := Scalar.cmpi .sgt c8_i32 c0_i32_179
  let v238 : BitVec 32 := Scalar.extui v237
  let c0_i32_180 : BitVec 32 := 0#32
  let v239 : BitVec 1 := Scalar.cmpi .slt c8_i32 c0_i32_180
  let v240 : BitVec 32 := Scalar.extui v239
  let v241 : BitVec 32 := Scalar.subi v238 v240
  let v242 : BitVec 1 := Scalar.cmpi .ne v236 v241
  let v243 : BitVec 32 := Scalar.remsi v230 c8_i32
  let c0_i32_181 : BitVec 32 := 0#32
  let v244 : BitVec 1 := Scalar.cmpi .ne v243 c0_i32_181
  let v245 : BitVec 1 := Scalar.andi v242 v244
  let v231 : BitVec 32 := Scalar.divsi v230 c8_i32
  let c1_i32_182 : BitVec 32 := 1#32
  let v246 : BitVec 32 := Scalar.subi v231 c1_i32_182
  let v247 : BitVec 32 := Scalar.select v245 v246 v231
  let v276 : Index := Scalar.indexCast v247
  let c8_i32_183 : BitVec 32 := 8#32
  let c0_i32_184 : BitVec 32 := 0#32
  let v248 : BitVec 1 := Scalar.cmpi .eq c8_i32_183 c0_i32_184
  let c1_i32_185 : BitVec 32 := 1#32
  let v249 : BitVec 32 := Scalar.select v248 c1_i32_185 c8_i32_183
  let v250 : BitVec 32 := Scalar.remsi v230 v249
  let c0_i32_187 : BitVec 32 := 0#32
  let v252 : BitVec 1 := Scalar.cmpi .slt v250 c0_i32_187
  let c0_i32_188 : BitVec 32 := 0#32
  let v253 : BitVec 1 := Scalar.cmpi .slt v249 c0_i32_188
  let v254 : BitVec 1 := Scalar.xori v252 v253
  let c0_i32_186 : BitVec 32 := 0#32
  let v251 : BitVec 1 := Scalar.cmpi .ne v250 c0_i32_186
  let v255 : BitVec 1 := Scalar.andi v254 v251
  let v256 : BitVec 32 := Scalar.addi v250 v249
  let v257 : BitVec 32 := Scalar.select v255 v256 v250
  let c256_i32_189 : BitVec 32 := 256#32
  let v258 : BitVec 32 := Scalar.muli v257 c256_i32_189
  let c0_i32_190 : BitVec 32 := 0#32
  let c1_i32_192 : BitVec 32 := 1#32
  let arg21 : BitVec 32 := Scf.iv c0_i32_190 c1_i32_192 k0_t6
  let v275 : BitVec 32 := Scalar.addi v258 arg21
  let v277 : Index := Scalar.indexCast v275
  ![v276.toNat, v277.toNat]
def k0_off7 (v278 : BitVec 32) : Fin 2 → Nat :=
  let c16016_i32_209 : BitVec 32 := 16016#32
  let v279 : BitVec 32 := Scalar.addi c16016_i32_209 v278
  let v280 : Index := Scalar.indexCast v279
  let c0_210 : Index := 0#32
  ![v280.toNat, 0]

def k0_off8 (k0_t6 : Fin k0_t6_loop.trips) : Fin 2 → Nat :=
  let c0_i32_211 : BitVec 32 := 0#32
  let c0_i32_190 : BitVec 32 := 0#32
  let c1_i32_192 : BitVec 32 := 1#32
  let arg21 : BitVec 32 := Scf.iv c0_i32_190 c1_i32_192 k0_t6
  let v282 : BitVec 32 := Scalar.addi c0_i32_211 arg21
  let v283 : Index := Scalar.indexCast v282
  let c0_212 : Index := 0#32
  ![v283.toNat, 0]
def k0_off9 (v278 : BitVec 32) : Fin 2 → Nat :=
  let c0_i32_213 : BitVec 32 := 0#32
  let v287 : BitVec 32 := Scalar.addi c0_i32_213 v278
  let v288 : Index := Scalar.indexCast v287
  let c0_214 : Index := 0#32
  ![v288.toNat, 0]

def k0_chk1 (v278 : BitVec 32) : Prop :=
  (∀ a, S3x128.size a = 0 ∨ (k0_off7 v278) a + (![8008, 1] : Fin 2 → Nat) a * (S3x128.size a - 1) < S80080x128.size a) ∧
  (∀ a, S2x128.size a = 0 ∨ (k0_off9 v278) a + (![8008, 1] : Fin 2 → Nat) a * (S2x128.size a - 1) < S80080x128.size a)
theorem k0_off7_inb : ∀ (v278 : BitVec 32) (k0_hw1 : k0_chk1 v278), ∀ a, S3x128.size a = 0 ∨ (k0_off7 v278) a + (![8008, 1] : Fin 2 → Nat) a * (S3x128.size a - 1) < S80080x128.size a := fun v278 k0_hw1 => k0_hw1.1
theorem k0_off9_inb : ∀ (v278 : BitVec 32) (k0_hw1 : k0_chk1 v278), ∀ a, S2x128.size a = 0 ∨ (k0_off9 v278) a + (![8008, 1] : Fin 2 → Nat) a * (S2x128.size a - 1) < S80080x128.size a := fun v278 k0_hw1 => k0_hw1.2

def k0_off10 (k0_t6 : Fin k0_t6_loop.trips) : Fin 2 → Nat :=
  let c1040_i32 : BitVec 32 := 1040#32
  let c0_i32_190 : BitVec 32 := 0#32
  let c1_i32_192 : BitVec 32 := 1#32
  let arg21 : BitVec 32 := Scf.iv c0_i32_190 c1_i32_192 k0_t6
  let v290 : BitVec 32 := Scalar.addi c1040_i32 arg21
  let v291 : Index := Scalar.indexCast v290
  let c0_215 : Index := 0#32
  ![v291.toNat, 0]
@[reducible] def k0_t7_loop : Scf.Loop 32 :=
  let c0_i32_194 : BitVec 32 := 0#32
  let c32_i32_195 : BitVec 32 := 32#32
  let v260 : BitVec 32 := Scalar.addi c0_i32_194 c32_i32_195
  let c1_i32_196 : BitVec 32 := 1#32
  ⟨c0_i32_194, v260, c1_i32_196⟩
def k0_off11 (k0_t4 : Fin k0_t4_loop.trips) (k0_t5 : Fin k0_t5_loop.trips) (k0_t7 : Fin k0_t7_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_209 : BitVec 32 := 256#32
  let v275 : BitVec 32 := Scalar.muli v230 c256_i32_209
  let c0_i32_194 : BitVec 32 := 0#32
  let c1_i32_196 : BitVec 32 := 1#32
  let arg21 : BitVec 32 := Scf.iv c0_i32_194 c1_i32_196 k0_t7
  let c8_i32_210 : BitVec 32 := 8#32
  let v276 : BitVec 32 := Scalar.muli arg21 c8_i32_210
  let v277 : BitVec 32 := Scalar.addi v275 v276
  let v278 : Index := Scalar.indexCast v277
  let c0_211 : Index := 0#32
  ![v278.toNat, 0]
def k0_off12 (k0_t7 : Fin k0_t7_loop.trips) (c1040_i32 : BitVec 32) : Fin 2 → Nat :=
  let c0_i32_194 : BitVec 32 := 0#32
  let c1_i32_196 : BitVec 32 := 1#32
  let arg21 : BitVec 32 := Scf.iv c0_i32_194 c1_i32_196 k0_t7
  let c8_i32_212 : BitVec 32 := 8#32
  let v280 : BitVec 32 := Scalar.muli arg21 c8_i32_212
  let v281 : BitVec 32 := Scalar.addi c1040_i32 v280
  let v282 : Index := Scalar.indexCast v281
  let c0_213 : Index := 0#32
  ![v282.toNat, 0]
def k0_off13 (k0_t4 : Fin k0_t4_loop.trips) (k0_t5 : Fin k0_t5_loop.trips) (k0_t7 : Fin k0_t7_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_209 : BitVec 32 := 256#32
  let v275 : BitVec 32 := Scalar.muli v230 c256_i32_209
  let c0_i32_194 : BitVec 32 := 0#32
  let c1_i32_196 : BitVec 32 := 1#32
  let arg21 : BitVec 32 := Scf.iv c0_i32_194 c1_i32_196 k0_t7
  let c8_i32_210 : BitVec 32 := 8#32
  let v276 : BitVec 32 := Scalar.muli arg21 c8_i32_210
  let v277 : BitVec 32 := Scalar.addi v275 v276
  let v334 : Index := Scalar.indexCast v277
  let c0_225 : Index := 0#32
  ![v334.toNat, 0]
def k0_off14 (k0_t4 : Fin k0_t4_loop.trips) (k0_t5 : Fin k0_t5_loop.trips) (k0_t7 : Fin k0_t7_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_209 : BitVec 32 := 256#32
  let v275 : BitVec 32 := Scalar.muli v230 c256_i32_209
  let c0_i32_194 : BitVec 32 := 0#32
  let c1_i32_196 : BitVec 32 := 1#32
  let arg21 : BitVec 32 := Scf.iv c0_i32_194 c1_i32_196 k0_t7
  let c8_i32_210 : BitVec 32 := 8#32
  let v276 : BitVec 32 := Scalar.muli arg21 c8_i32_210
  let v277 : BitVec 32 := Scalar.addi v275 v276
  let v338 : Index := Scalar.indexCast v277
  let c128 : Index := 128#32
  ![v338.toNat, 128]
def k0_cond1 (k0_t4 : Fin k0_t4_loop.trips) : BitVec 1 :=
  let c0_i32_73 : BitVec 32 := 0#32
  let c1_i32_74 : BitVec 32 := 1#32
  let arg19 : BitVec 32 := Scf.iv c0_i32_73 c1_i32_74 k0_t4
  let c0_i32_198 : BitVec 32 := 0#32
  let v261 : BitVec 1 := Scalar.cmpi .sgt arg19 c0_i32_198
  let v262 : BitVec 32 := Scalar.extui v261
  let c0_i32_199 : BitVec 32 := 0#32
  let v263 : BitVec 1 := Scalar.cmpi .ne v262 c0_i32_199
  v263

def k0_off15 (k0_t5 : Fin k0_t5_loop.trips) : Fin 1 → Nat :=
  let c0_i32_172 : BitVec 32 := 0#32
  let c1_i32_174 : BitVec 32 := 1#32
  let arg20 : BitVec 32 := Scf.iv c0_i32_172 c1_i32_174 k0_t5
  ![arg20.toNat]
def k0_off16 (k0_t4 : Fin k0_t4_loop.trips) (k0_t5 : Fin k0_t5_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c2_i32_209 : BitVec 32 := 2#32
  let v275 : BitVec 32 := Scalar.subi v230 c2_i32_209
  let c256_i32_210 : BitVec 32 := 256#32
  let v276 : BitVec 32 := Scalar.muli v275 c256_i32_210
  let c0_i32_211 : BitVec 32 := 0#32
  ![v276.toNat, 0]
def k0_off17 (k0_t5 : Fin k0_t5_loop.trips) : Fin 3 → Nat :=
  let c0_i32_172 : BitVec 32 := 0#32
  let c1_i32_174 : BitVec 32 := 1#32
  let arg20 : BitVec 32 := Scf.iv c0_i32_172 c1_i32_174 k0_t5
  let c0_i32_212 : BitVec 32 := 0#32
  let c0_i32_213 : BitVec 32 := 0#32
  ![arg20.toNat, 0, 0]
def k0_off18 (k0_t4 : Fin k0_t4_loop.trips) (k0_t5 : Fin k0_t5_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_200 : BitVec 32 := 256#32
  let v264 : BitVec 32 := Scalar.muli v230 c256_i32_200
  let v265 : Index := Scalar.indexCast v264
  let c0_201 : Index := 0#32
  ![v265.toNat, 0]
@[reducible] def k0_t8_loop : Scf.Loop 32 :=
  let c0_i32_202 : BitVec 32 := 0#32
  let c3_i32 : BitVec 32 := 3#32
  let v268 : BitVec 32 := Scalar.addi c0_i32_202 c3_i32
  let c1_i32_203 : BitVec 32 := 1#32
  ⟨c0_i32_202, v268, c1_i32_203⟩
def k0_off19 (k0_t8 : Fin k0_t8_loop.trips) : Fin 2 → Nat :=
  let c0_211 : Index := 0#32
  let c0_i32_209 : BitVec 32 := 0#32
  let c0_i32_202 : BitVec 32 := 0#32
  let c1_i32_203 : BitVec 32 := 1#32
  let arg21 : BitVec 32 := Scf.iv c0_i32_202 c1_i32_203 k0_t8
  let v275 : BitVec 32 := Scalar.addi c0_i32_209 arg21
  let c256_i32_210 : BitVec 32 := 256#32
  let v276 : BitVec 32 := Scalar.muli v275 c256_i32_210
  let v277 : Index := Scalar.indexCast v276
  ![0, v277.toNat]
@[reducible] def k0_t9_loop : Scf.Loop 32 :=
  let c0_i32_214 : BitVec 32 := 0#32
  let c8_i32_215 : BitVec 32 := 8#32
  let v283 : BitVec 32 := Scalar.addi c0_i32_214 c8_i32_215
  let c1_i32_216 : BitVec 32 := 1#32
  ⟨c0_i32_214, v283, c1_i32_216⟩
def k0_off20 (k0_t8 : Fin k0_t8_loop.trips) (k0_t9 : Fin k0_t9_loop.trips) (c0_i32_219 : BitVec 32) : Fin 2 → Nat :=
  let c0_i32_202 : BitVec 32 := 0#32
  let c1_i32_203 : BitVec 32 := 1#32
  let arg21 : BitVec 32 := Scf.iv c0_i32_202 c1_i32_203 k0_t8
  let c260_i32 : BitVec 32 := 260#32
  let v285 : BitVec 32 := Scalar.muli arg21 c260_i32
  let c0_i32_214 : BitVec 32 := 0#32
  let c1_i32_216 : BitVec 32 := 1#32
  let arg22 : BitVec 32 := Scf.iv c0_i32_214 c1_i32_216 k0_t9
  let c32_i32_218 : BitVec 32 := 32#32
  let v284 : BitVec 32 := Scalar.muli arg22 c32_i32_218
  let v286 : BitVec 32 := Scalar.addi v285 v284
  let v287 : BitVec 32 := Scalar.addi v286 c0_i32_219
  let v288 : Index := Scalar.indexCast v287
  let c0_220 : Index := 0#32
  ![v288.toNat, 0]
def k0_off21 (k0_t4 : Fin k0_t4_loop.trips) (k0_t5 : Fin k0_t5_loop.trips) (k0_t9 : Fin k0_t9_loop.trips) (c0_i32_222 : BitVec 32) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_221 : BitVec 32 := 256#32
  let v290 : BitVec 32 := Scalar.muli v230 c256_i32_221
  let c0_i32_214 : BitVec 32 := 0#32
  let c1_i32_216 : BitVec 32 := 1#32
  let arg22 : BitVec 32 := Scf.iv c0_i32_214 c1_i32_216 k0_t9
  let c32_i32_218 : BitVec 32 := 32#32
  let v284 : BitVec 32 := Scalar.muli arg22 c32_i32_218
  let v291 : BitVec 32 := Scalar.addi v290 v284
  let v292 : BitVec 32 := Scalar.addi v291 c0_i32_222
  let v293 : Index := Scalar.indexCast v292
  let c0_223 : Index := 0#32
  ![v293.toNat, 0]
def k0_off22 (k0_t9 : Fin k0_t9_loop.trips) : Fin 2 → Nat :=
  let c0_i32_214 : BitVec 32 := 0#32
  let c1_i32_216 : BitVec 32 := 1#32
  let arg22 : BitVec 32 := Scf.iv c0_i32_214 c1_i32_216 k0_t9
  let c32_i32_218 : BitVec 32 := 32#32
  let v284 : BitVec 32 := Scalar.muli arg22 c32_i32_218
  let v346 : Index := Scalar.indexCast v284
  let c0_244 : Index := 0#32
  ![v346.toNat, 0]
def k0_off23 (k0_t5 : Fin k0_t5_loop.trips) (k0_t8 : Fin k0_t8_loop.trips) (k0_t9 : Fin k0_t9_loop.trips) (c0_i32_246 : BitVec 32) : Fin 3 → Nat :=
  let c0_i32_172 : BitVec 32 := 0#32
  let c1_i32_174 : BitVec 32 := 1#32
  let arg20 : BitVec 32 := Scf.iv c0_i32_172 c1_i32_174 k0_t5
  let v352 : Index := Scalar.indexCast arg20
  let c0_i32_214 : BitVec 32 := 0#32
  let c1_i32_216 : BitVec 32 := 1#32
  let arg22 : BitVec 32 := Scf.iv c0_i32_214 c1_i32_216 k0_t9
  let c32_i32_218 : BitVec 32 := 32#32
  let v284 : BitVec 32 := Scalar.muli arg22 c32_i32_218
  let v353 : Index := Scalar.indexCast v284
  let c0_i32_202 : BitVec 32 := 0#32
  let c1_i32_203 : BitVec 32 := 1#32
  let arg21 : BitVec 32 := Scf.iv c0_i32_202 c1_i32_203 k0_t8
  let c256_i32_245 : BitVec 32 := 256#32
  let v350 : BitVec 32 := Scalar.muli arg21 c256_i32_245
  let v351 : BitVec 32 := Scalar.addi v350 c0_i32_246
  let v354 : Index := Scalar.indexCast v351
  ![v352.toNat, v353.toNat, v354.toNat]
def k0_off24 (k0_t9 : Fin k0_t9_loop.trips) : Fin 2 → Nat :=
  let c0_i32_214 : BitVec 32 := 0#32
  let c1_i32_216 : BitVec 32 := 1#32
  let arg22 : BitVec 32 := Scf.iv c0_i32_214 c1_i32_216 k0_t9
  let c32_i32_218 : BitVec 32 := 32#32
  let v284 : BitVec 32 := Scalar.muli arg22 c32_i32_218
  let v372 : Index := Scalar.indexCast v284
  let c128 : Index := 128#32
  ![v372.toNat, 128]
def k0_off25 (k0_t5 : Fin k0_t5_loop.trips) : Fin 1 → Nat :=
  let c0_i32_172 : BitVec 32 := 0#32
  let c1_i32_174 : BitVec 32 := 1#32
  let arg20 : BitVec 32 := Scf.iv c0_i32_172 c1_i32_174 k0_t5
  ![arg20.toNat]
def k0_off26 (k0_t4 : Fin k0_t4_loop.trips) (k0_t5 : Fin k0_t5_loop.trips) : Fin 2 → Nat :=
  let c2_i32_176 : BitVec 32 := 2#32
  let c0_i32_73 : BitVec 32 := 0#32
  let c1_i32_74 : BitVec 32 := 1#32
  let arg19 : BitVec 32 := Scf.iv c0_i32_73 c1_i32_74 k0_t4
  let v229 : BitVec 32 := Scalar.muli c2_i32_176 arg19
  let c0_i32_172 : BitVec 32 := 0#32
  let c1_i32_174 : BitVec 32 := 1#32
  let arg20 : BitVec 32 := Scf.iv c0_i32_172 c1_i32_174 k0_t5
  let v230 : BitVec 32 := Scalar.addi v229 arg20
  let c256_i32_205 : BitVec 32 := 256#32
  let v269 : BitVec 32 := Scalar.muli v230 c256_i32_205
  let c0_i32_206 : BitVec 32 := 0#32
  ![v269.toNat, 0]
def k0_off27 (k0_t5 : Fin k0_t5_loop.trips) : Fin 3 → Nat :=
  let c0_i32_172 : BitVec 32 := 0#32
  let c1_i32_174 : BitVec 32 := 1#32
  let arg20 : BitVec 32 := Scf.iv c0_i32_172 c1_i32_174 k0_t5
  let c0_i32_207 : BitVec 32 := 0#32
  let c0_i32_208 : BitVec 32 := 0#32
  ![arg20.toNat, 0, 0]
@[reducible] def k0_t10_loop : Scf.Loop 32 :=
  let c0_i32_121 : BitVec 32 := 0#32
  let c16_i32_122 : BitVec 32 := 16#32
  let v190 : BitVec 32 := Scalar.addi c0_i32_121 c16_i32_122
  let c1_i32_123 : BitVec 32 := 1#32
  ⟨c0_i32_121, v190, c1_i32_123⟩
@[reducible] def k0_t11_loop : Scf.Loop 32 :=
  let c0_i32_172 : BitVec 32 := 0#32
  let c2_i32_173 : BitVec 32 := 2#32
  let v228 : BitVec 32 := Scalar.addi c0_i32_172 c2_i32_173
  let c1_i32_174 : BitVec 32 := 1#32
  ⟨c0_i32_172, v228, c1_i32_174⟩
@[reducible] def k0_t12_loop : Scf.Loop 32 :=
  let c0_i32_190 : BitVec 32 := 0#32
  let c256_i32_191 : BitVec 32 := 256#32
  let v259 : BitVec 32 := Scalar.addi c0_i32_190 c256_i32_191
  let c1_i32_192 : BitVec 32 := 1#32
  ⟨c0_i32_190, v259, c1_i32_192⟩
def k0_off28 (k0_t10 : Fin k0_t10_loop.trips) (k0_t11 : Fin k0_t11_loop.trips) (k0_t12 : Fin k0_t12_loop.trips) : Fin 2 → Nat :=
  let c2_i32_176 : BitVec 32 := 2#32
  let c0_i32_121 : BitVec 32 := 0#32
  let c1_i32_123 : BitVec 32 := 1#32
  let arg19 : BitVec 32 := Scf.iv c0_i32_121 c1_i32_123 k0_t10
  let v229 : BitVec 32 := Scalar.muli c2_i32_176 arg19
  let c0_i32_172 : BitVec 32 := 0#32
  let c1_i32_174 : BitVec 32 := 1#32
  let arg20 : BitVec 32 := Scf.iv c0_i32_172 c1_i32_174 k0_t11
  let v230 : BitVec 32 := Scalar.addi v229 arg20
  let c0_i32_177 : BitVec 32 := 0#32
  let v232 : BitVec 1 := Scalar.cmpi .sgt v230 c0_i32_177
  let v233 : BitVec 32 := Scalar.extui v232
  let c0_i32_178 : BitVec 32 := 0#32
  let v234 : BitVec 1 := Scalar.cmpi .slt v230 c0_i32_178
  let v235 : BitVec 32 := Scalar.extui v234
  let v236 : BitVec 32 := Scalar.subi v233 v235
  let c8_i32 : BitVec 32 := 8#32
  let c0_i32_179 : BitVec 32 := 0#32
  let v237 : BitVec 1 := Scalar.cmpi .sgt c8_i32 c0_i32_179
  let v238 : BitVec 32 := Scalar.extui v237
  let c0_i32_180 : BitVec 32 := 0#32
  let v239 : BitVec 1 := Scalar.cmpi .slt c8_i32 c0_i32_180
  let v240 : BitVec 32 := Scalar.extui v239
  let v241 : BitVec 32 := Scalar.subi v238 v240
  let v242 : BitVec 1 := Scalar.cmpi .ne v236 v241
  let v243 : BitVec 32 := Scalar.remsi v230 c8_i32
  let c0_i32_181 : BitVec 32 := 0#32
  let v244 : BitVec 1 := Scalar.cmpi .ne v243 c0_i32_181
  let v245 : BitVec 1 := Scalar.andi v242 v244
  let v231 : BitVec 32 := Scalar.divsi v230 c8_i32
  let c1_i32_182 : BitVec 32 := 1#32
  let v246 : BitVec 32 := Scalar.subi v231 c1_i32_182
  let v247 : BitVec 32 := Scalar.select v245 v246 v231
  let v275 : Index := Scalar.indexCast v247
  let c8_i32_183 : BitVec 32 := 8#32
  let c0_i32_184 : BitVec 32 := 0#32
  let v248 : BitVec 1 := Scalar.cmpi .eq c8_i32_183 c0_i32_184
  let c1_i32_185 : BitVec 32 := 1#32
  let v249 : BitVec 32 := Scalar.select v248 c1_i32_185 c8_i32_183
  let v250 : BitVec 32 := Scalar.remsi v230 v249
  let c0_i32_187 : BitVec 32 := 0#32
  let v252 : BitVec 1 := Scalar.cmpi .slt v250 c0_i32_187
  let c0_i32_188 : BitVec 32 := 0#32
  let v253 : BitVec 1 := Scalar.cmpi .slt v249 c0_i32_188
  let v254 : BitVec 1 := Scalar.xori v252 v253
  let c0_i32_186 : BitVec 32 := 0#32
  let v251 : BitVec 1 := Scalar.cmpi .ne v250 c0_i32_186
  let v255 : BitVec 1 := Scalar.andi v254 v251
  let v256 : BitVec 32 := Scalar.addi v250 v249
  let v257 : BitVec 32 := Scalar.select v255 v256 v250
  let c256_i32_189 : BitVec 32 := 256#32
  let v258 : BitVec 32 := Scalar.muli v257 c256_i32_189
  let c0_i32_190 : BitVec 32 := 0#32
  let c1_i32_192 : BitVec 32 := 1#32
  let arg21 : BitVec 32 := Scf.iv c0_i32_190 c1_i32_192 k0_t12
  let v274 : BitVec 32 := Scalar.addi v258 arg21
  let v276 : Index := Scalar.indexCast v274
  ![v275.toNat, v276.toNat]
def k0_off29 (v277 : BitVec 32) : Fin 2 → Nat :=
  let c48048_i32_205 : BitVec 32 := 48048#32
  let v278 : BitVec 32 := Scalar.addi c48048_i32_205 v277
  let v279 : Index := Scalar.indexCast v278
  let c0_206 : Index := 0#32
  ![v279.toNat, 0]

def k0_chk2 (v277 : BitVec 32) : Prop :=
  (∀ a, S4x128.size a = 0 ∨ (k0_off29 v277) a + (![8008, 1] : Fin 2 → Nat) a * (S4x128.size a - 1) < S80080x128.size a)
theorem k0_off29_inb : ∀ (v277 : BitVec 32) (k0_hw2 : k0_chk2 v277), ∀ a, S4x128.size a = 0 ∨ (k0_off29 v277) a + (![8008, 1] : Fin 2 → Nat) a * (S4x128.size a - 1) < S80080x128.size a := fun v277 k0_hw2 => k0_hw2

def k0_off30 (k0_t12 : Fin k0_t12_loop.trips) : Fin 2 → Nat :=
  let c0_i32_207 : BitVec 32 := 0#32
  let c0_i32_190 : BitVec 32 := 0#32
  let c1_i32_192 : BitVec 32 := 1#32
  let arg21 : BitVec 32 := Scf.iv c0_i32_190 c1_i32_192 k0_t12
  let v281 : BitVec 32 := Scalar.addi c0_i32_207 arg21
  let v282 : Index := Scalar.indexCast v281
  let c0_208 : Index := 0#32
  ![v282.toNat, 0]
def k0_cond2 (k0_t10 : Fin k0_t10_loop.trips) : BitVec 1 :=
  let c0_i32_121 : BitVec 32 := 0#32
  let c1_i32_123 : BitVec 32 := 1#32
  let arg19 : BitVec 32 := Scf.iv c0_i32_121 c1_i32_123 k0_t10
  let c0_i32_194 : BitVec 32 := 0#32
  let v260 : BitVec 1 := Scalar.cmpi .sgt arg19 c0_i32_194
  let v261 : BitVec 32 := Scalar.extui v260
  let c0_i32_195 : BitVec 32 := 0#32
  let v262 : BitVec 1 := Scalar.cmpi .ne v261 c0_i32_195
  v262

def k0_off31 (k0_t11 : Fin k0_t11_loop.trips) : Fin 1 → Nat :=
  let c0_i32_172 : BitVec 32 := 0#32
  let c1_i32_174 : BitVec 32 := 1#32
  let arg20 : BitVec 32 := Scf.iv c0_i32_172 c1_i32_174 k0_t11
  ![arg20.toNat]
def k0_off32 (k0_t10 : Fin k0_t10_loop.trips) (k0_t11 : Fin k0_t11_loop.trips) : Fin 2 → Nat :=
  let c2_i32_176 : BitVec 32 := 2#32
  let c0_i32_121 : BitVec 32 := 0#32
  let c1_i32_123 : BitVec 32 := 1#32
  let arg19 : BitVec 32 := Scf.iv c0_i32_121 c1_i32_123 k0_t10
  let v229 : BitVec 32 := Scalar.muli c2_i32_176 arg19
  let c0_i32_172 : BitVec 32 := 0#32
  let c1_i32_174 : BitVec 32 := 1#32
  let arg20 : BitVec 32 := Scf.iv c0_i32_172 c1_i32_174 k0_t11
  let v230 : BitVec 32 := Scalar.addi v229 arg20
  let c2_i32_205 : BitVec 32 := 2#32
  let v274 : BitVec 32 := Scalar.subi v230 c2_i32_205
  let c256_i32_206 : BitVec 32 := 256#32
  let v275 : BitVec 32 := Scalar.muli v274 c256_i32_206
  let c768_i32_207 : BitVec 32 := 768#32
  ![v275.toNat, 768]
def k0_off33 (k0_t11 : Fin k0_t11_loop.trips) : Fin 3 → Nat :=
  let c0_i32_172 : BitVec 32 := 0#32
  let c1_i32_174 : BitVec 32 := 1#32
  let arg20 : BitVec 32 := Scf.iv c0_i32_172 c1_i32_174 k0_t11
  let c0_i32_208 : BitVec 32 := 0#32
  let c0_i32_209 : BitVec 32 := 0#32
  ![arg20.toNat, 0, 0]
def k0_off34 (k0_t10 : Fin k0_t10_loop.trips) (k0_t11 : Fin k0_t11_loop.trips) : Fin 2 → Nat :=
  let c2_i32_176 : BitVec 32 := 2#32
  let c0_i32_121 : BitVec 32 := 0#32
  let c1_i32_123 : BitVec 32 := 1#32
  let arg19 : BitVec 32 := Scf.iv c0_i32_121 c1_i32_123 k0_t10
  let v229 : BitVec 32 := Scalar.muli c2_i32_176 arg19
  let c0_i32_172 : BitVec 32 := 0#32
  let c1_i32_174 : BitVec 32 := 1#32
  let arg20 : BitVec 32 := Scf.iv c0_i32_172 c1_i32_174 k0_t11
  let v230 : BitVec 32 := Scalar.addi v229 arg20
  let c256_i32_196 : BitVec 32 := 256#32
  let v263 : BitVec 32 := Scalar.muli v230 c256_i32_196
  let v264 : Index := Scalar.indexCast v263
  let c0_197 : Index := 0#32
  ![v264.toNat, 0]
@[reducible] def k0_t13_loop : Scf.Loop 32 :=
  let c0_i32_198 : BitVec 32 := 0#32
  let c4_i32 : BitVec 32 := 4#32
  let v267 : BitVec 32 := Scalar.addi c0_i32_198 c4_i32
  let c1_i32_199 : BitVec 32 := 1#32
  ⟨c0_i32_198, v267, c1_i32_199⟩
def k0_off35 (k0_t13 : Fin k0_t13_loop.trips) : Fin 2 → Nat :=
  let c0_206 : Index := 0#32
  let c3_i32 : BitVec 32 := 3#32
  let c0_i32_198 : BitVec 32 := 0#32
  let c1_i32_199 : BitVec 32 := 1#32
  let arg21 : BitVec 32 := Scf.iv c0_i32_198 c1_i32_199 k0_t13
  let v274 : BitVec 32 := Scalar.addi c3_i32 arg21
  let c256_i32_205 : BitVec 32 := 256#32
  let v275 : BitVec 32 := Scalar.muli v274 c256_i32_205
  let v276 : Index := Scalar.indexCast v275
  ![0, v276.toNat]
@[reducible] def k0_t14_loop : Scf.Loop 32 :=
  let c0_i32_209 : BitVec 32 := 0#32
  let c8_i32_210 : BitVec 32 := 8#32
  let v282 : BitVec 32 := Scalar.addi c0_i32_209 c8_i32_210
  let c1_i32_211 : BitVec 32 := 1#32
  ⟨c0_i32_209, v282, c1_i32_211⟩
def k0_off36 (k0_t13 : Fin k0_t13_loop.trips) (k0_t14 : Fin k0_t14_loop.trips) (c0_i32_214 : BitVec 32) : Fin 2 → Nat :=
  let c0_i32_198 : BitVec 32 := 0#32
  let c1_i32_199 : BitVec 32 := 1#32
  let arg21 : BitVec 32 := Scf.iv c0_i32_198 c1_i32_199 k0_t13
  let c260_i32 : BitVec 32 := 260#32
  let v284 : BitVec 32 := Scalar.muli arg21 c260_i32
  let c0_i32_209 : BitVec 32 := 0#32
  let c1_i32_211 : BitVec 32 := 1#32
  let arg22 : BitVec 32 := Scf.iv c0_i32_209 c1_i32_211 k0_t14
  let c32_i32_213 : BitVec 32 := 32#32
  let v283 : BitVec 32 := Scalar.muli arg22 c32_i32_213
  let v285 : BitVec 32 := Scalar.addi v284 v283
  let v286 : BitVec 32 := Scalar.addi v285 c0_i32_214
  let v287 : Index := Scalar.indexCast v286
  let c0_215 : Index := 0#32
  ![v287.toNat, 0]
def k0_off37 (k0_t10 : Fin k0_t10_loop.trips) (k0_t11 : Fin k0_t11_loop.trips) (k0_t14 : Fin k0_t14_loop.trips) (c0_i32_217 : BitVec 32) : Fin 2 → Nat :=
  let c2_i32_176 : BitVec 32 := 2#32
  let c0_i32_121 : BitVec 32 := 0#32
  let c1_i32_123 : BitVec 32 := 1#32
  let arg19 : BitVec 32 := Scf.iv c0_i32_121 c1_i32_123 k0_t10
  let v229 : BitVec 32 := Scalar.muli c2_i32_176 arg19
  let c0_i32_172 : BitVec 32 := 0#32
  let c1_i32_174 : BitVec 32 := 1#32
  let arg20 : BitVec 32 := Scf.iv c0_i32_172 c1_i32_174 k0_t11
  let v230 : BitVec 32 := Scalar.addi v229 arg20
  let c256_i32_216 : BitVec 32 := 256#32
  let v289 : BitVec 32 := Scalar.muli v230 c256_i32_216
  let c0_i32_209 : BitVec 32 := 0#32
  let c1_i32_211 : BitVec 32 := 1#32
  let arg22 : BitVec 32 := Scf.iv c0_i32_209 c1_i32_211 k0_t14
  let c32_i32_213 : BitVec 32 := 32#32
  let v283 : BitVec 32 := Scalar.muli arg22 c32_i32_213
  let v290 : BitVec 32 := Scalar.addi v289 v283
  let v291 : BitVec 32 := Scalar.addi v290 c0_i32_217
  let v292 : Index := Scalar.indexCast v291
  let c0_218 : Index := 0#32
  ![v292.toNat, 0]
def k0_off38 (k0_t14 : Fin k0_t14_loop.trips) : Fin 2 → Nat :=
  let c0_i32_209 : BitVec 32 := 0#32
  let c1_i32_211 : BitVec 32 := 1#32
  let arg22 : BitVec 32 := Scf.iv c0_i32_209 c1_i32_211 k0_t14
  let c32_i32_213 : BitVec 32 := 32#32
  let v283 : BitVec 32 := Scalar.muli arg22 c32_i32_213
  let v345 : Index := Scalar.indexCast v283
  let c0_239 : Index := 0#32
  ![v345.toNat, 0]
def k0_off39 (k0_t11 : Fin k0_t11_loop.trips) (k0_t13 : Fin k0_t13_loop.trips) (k0_t14 : Fin k0_t14_loop.trips) (c0_i32_241 : BitVec 32) : Fin 3 → Nat :=
  let c0_i32_172 : BitVec 32 := 0#32
  let c1_i32_174 : BitVec 32 := 1#32
  let arg20 : BitVec 32 := Scf.iv c0_i32_172 c1_i32_174 k0_t11
  let v351 : Index := Scalar.indexCast arg20
  let c0_i32_209 : BitVec 32 := 0#32
  let c1_i32_211 : BitVec 32 := 1#32
  let arg22 : BitVec 32 := Scf.iv c0_i32_209 c1_i32_211 k0_t14
  let c32_i32_213 : BitVec 32 := 32#32
  let v283 : BitVec 32 := Scalar.muli arg22 c32_i32_213
  let v352 : Index := Scalar.indexCast v283
  let c0_i32_198 : BitVec 32 := 0#32
  let c1_i32_199 : BitVec 32 := 1#32
  let arg21 : BitVec 32 := Scf.iv c0_i32_198 c1_i32_199 k0_t13
  let c256_i32_240 : BitVec 32 := 256#32
  let v349 : BitVec 32 := Scalar.muli arg21 c256_i32_240
  let v350 : BitVec 32 := Scalar.addi v349 c0_i32_241
  let v353 : Index := Scalar.indexCast v350
  ![v351.toNat, v352.toNat, v353.toNat]
def k0_off40 (k0_t14 : Fin k0_t14_loop.trips) : Fin 2 → Nat :=
  let c0_i32_209 : BitVec 32 := 0#32
  let c1_i32_211 : BitVec 32 := 1#32
  let arg22 : BitVec 32 := Scf.iv c0_i32_209 c1_i32_211 k0_t14
  let c32_i32_213 : BitVec 32 := 32#32
  let v283 : BitVec 32 := Scalar.muli arg22 c32_i32_213
  let v371 : Index := Scalar.indexCast v283
  let c128 : Index := 128#32
  ![v371.toNat, 128]
def k0_off41 (k0_t11 : Fin k0_t11_loop.trips) : Fin 1 → Nat :=
  let c0_i32_172 : BitVec 32 := 0#32
  let c1_i32_174 : BitVec 32 := 1#32
  let arg20 : BitVec 32 := Scf.iv c0_i32_172 c1_i32_174 k0_t11
  ![arg20.toNat]
def k0_off42 (k0_t10 : Fin k0_t10_loop.trips) (k0_t11 : Fin k0_t11_loop.trips) : Fin 2 → Nat :=
  let c2_i32_176 : BitVec 32 := 2#32
  let c0_i32_121 : BitVec 32 := 0#32
  let c1_i32_123 : BitVec 32 := 1#32
  let arg19 : BitVec 32 := Scf.iv c0_i32_121 c1_i32_123 k0_t10
  let v229 : BitVec 32 := Scalar.muli c2_i32_176 arg19
  let c0_i32_172 : BitVec 32 := 0#32
  let c1_i32_174 : BitVec 32 := 1#32
  let arg20 : BitVec 32 := Scf.iv c0_i32_172 c1_i32_174 k0_t11
  let v230 : BitVec 32 := Scalar.addi v229 arg20
  let c256_i32_201 : BitVec 32 := 256#32
  let v268 : BitVec 32 := Scalar.muli v230 c256_i32_201
  let c768_i32_202 : BitVec 32 := 768#32
  ![v268.toNat, 768]
def k0_off43 (k0_t11 : Fin k0_t11_loop.trips) : Fin 3 → Nat :=
  let c0_i32_172 : BitVec 32 := 0#32
  let c1_i32_174 : BitVec 32 := 1#32
  let arg20 : BitVec 32 := Scf.iv c0_i32_172 c1_i32_174 k0_t11
  let c0_i32_203 : BitVec 32 := 0#32
  let c0_i32_204 : BitVec 32 := 0#32
  ![arg20.toNat, 0, 0]
@[reducible] def k0_t15_loop : Scf.Loop 32 :=
  let c0_i32_157 : BitVec 32 := 0#32
  let c16_i32_158 : BitVec 32 := 16#32
  let v217 : BitVec 32 := Scalar.addi c0_i32_157 c16_i32_158
  let c1_i32_159 : BitVec 32 := 1#32
  ⟨c0_i32_157, v217, c1_i32_159⟩
@[reducible] def k0_t16_loop : Scf.Loop 32 :=
  let c0_i32_172 : BitVec 32 := 0#32
  let c2_i32_173 : BitVec 32 := 2#32
  let v228 : BitVec 32 := Scalar.addi c0_i32_172 c2_i32_173
  let c1_i32_174 : BitVec 32 := 1#32
  ⟨c0_i32_172, v228, c1_i32_174⟩
@[reducible] def k0_t17_loop : Scf.Loop 32 :=
  let c0_i32_190 : BitVec 32 := 0#32
  let c256_i32_191 : BitVec 32 := 256#32
  let v259 : BitVec 32 := Scalar.addi c0_i32_190 c256_i32_191
  let c1_i32_192 : BitVec 32 := 1#32
  ⟨c0_i32_190, v259, c1_i32_192⟩
def k0_off44 (k0_t15 : Fin k0_t15_loop.trips) (k0_t16 : Fin k0_t16_loop.trips) (k0_t17 : Fin k0_t17_loop.trips) : Fin 2 → Nat :=
  let c2_i32_176 : BitVec 32 := 2#32
  let c0_i32_157 : BitVec 32 := 0#32
  let c1_i32_159 : BitVec 32 := 1#32
  let arg19 : BitVec 32 := Scf.iv c0_i32_157 c1_i32_159 k0_t15
  let v229 : BitVec 32 := Scalar.muli c2_i32_176 arg19
  let c0_i32_172 : BitVec 32 := 0#32
  let c1_i32_174 : BitVec 32 := 1#32
  let arg20 : BitVec 32 := Scf.iv c0_i32_172 c1_i32_174 k0_t16
  let v230 : BitVec 32 := Scalar.addi v229 arg20
  let c0_i32_177 : BitVec 32 := 0#32
  let v232 : BitVec 1 := Scalar.cmpi .sgt v230 c0_i32_177
  let v233 : BitVec 32 := Scalar.extui v232
  let c0_i32_178 : BitVec 32 := 0#32
  let v234 : BitVec 1 := Scalar.cmpi .slt v230 c0_i32_178
  let v235 : BitVec 32 := Scalar.extui v234
  let v236 : BitVec 32 := Scalar.subi v233 v235
  let c8_i32 : BitVec 32 := 8#32
  let c0_i32_179 : BitVec 32 := 0#32
  let v237 : BitVec 1 := Scalar.cmpi .sgt c8_i32 c0_i32_179
  let v238 : BitVec 32 := Scalar.extui v237
  let c0_i32_180 : BitVec 32 := 0#32
  let v239 : BitVec 1 := Scalar.cmpi .slt c8_i32 c0_i32_180
  let v240 : BitVec 32 := Scalar.extui v239
  let v241 : BitVec 32 := Scalar.subi v238 v240
  let v242 : BitVec 1 := Scalar.cmpi .ne v236 v241
  let v243 : BitVec 32 := Scalar.remsi v230 c8_i32
  let c0_i32_181 : BitVec 32 := 0#32
  let v244 : BitVec 1 := Scalar.cmpi .ne v243 c0_i32_181
  let v245 : BitVec 1 := Scalar.andi v242 v244
  let v231 : BitVec 32 := Scalar.divsi v230 c8_i32
  let c1_i32_182 : BitVec 32 := 1#32
  let v246 : BitVec 32 := Scalar.subi v231 c1_i32_182
  let v247 : BitVec 32 := Scalar.select v245 v246 v231
  let v275 : Index := Scalar.indexCast v247
  let c8_i32_183 : BitVec 32 := 8#32
  let c0_i32_184 : BitVec 32 := 0#32
  let v248 : BitVec 1 := Scalar.cmpi .eq c8_i32_183 c0_i32_184
  let c1_i32_185 : BitVec 32 := 1#32
  let v249 : BitVec 32 := Scalar.select v248 c1_i32_185 c8_i32_183
  let v250 : BitVec 32 := Scalar.remsi v230 v249
  let c0_i32_187 : BitVec 32 := 0#32
  let v252 : BitVec 1 := Scalar.cmpi .slt v250 c0_i32_187
  let c0_i32_188 : BitVec 32 := 0#32
  let v253 : BitVec 1 := Scalar.cmpi .slt v249 c0_i32_188
  let v254 : BitVec 1 := Scalar.xori v252 v253
  let c0_i32_186 : BitVec 32 := 0#32
  let v251 : BitVec 1 := Scalar.cmpi .ne v250 c0_i32_186
  let v255 : BitVec 1 := Scalar.andi v254 v251
  let v256 : BitVec 32 := Scalar.addi v250 v249
  let v257 : BitVec 32 := Scalar.select v255 v256 v250
  let c256_i32_189 : BitVec 32 := 256#32
  let v258 : BitVec 32 := Scalar.muli v257 c256_i32_189
  let c0_i32_190 : BitVec 32 := 0#32
  let c1_i32_192 : BitVec 32 := 1#32
  let arg21 : BitVec 32 := Scf.iv c0_i32_190 c1_i32_192 k0_t17
  let v274 : BitVec 32 := Scalar.addi v258 arg21
  let v276 : Index := Scalar.indexCast v274
  ![v275.toNat, v276.toNat]
def k0_off45 (v277 : BitVec 32) : Fin 2 → Nat :=
  let c16016_i32_205 : BitVec 32 := 16016#32
  let v278 : BitVec 32 := Scalar.addi c16016_i32_205 v277
  let v279 : Index := Scalar.indexCast v278
  let c0_206 : Index := 0#32
  ![v279.toNat, 0]

def k0_chk3 (v277 : BitVec 32) : Prop :=
  (∀ a, S4x128.size a = 0 ∨ (k0_off45 v277) a + (![8008, 1] : Fin 2 → Nat) a * (S4x128.size a - 1) < S80080x128.size a)
theorem k0_off45_inb : ∀ (v277 : BitVec 32) (k0_hw3 : k0_chk3 v277), ∀ a, S4x128.size a = 0 ∨ (k0_off45 v277) a + (![8008, 1] : Fin 2 → Nat) a * (S4x128.size a - 1) < S80080x128.size a := fun v277 k0_hw3 => k0_hw3

def k0_off46 (k0_t17 : Fin k0_t17_loop.trips) : Fin 2 → Nat :=
  let c0_i32_207 : BitVec 32 := 0#32
  let c0_i32_190 : BitVec 32 := 0#32
  let c1_i32_192 : BitVec 32 := 1#32
  let arg21 : BitVec 32 := Scf.iv c0_i32_190 c1_i32_192 k0_t17
  let v281 : BitVec 32 := Scalar.addi c0_i32_207 arg21
  let v282 : Index := Scalar.indexCast v281
  let c0_208 : Index := 0#32
  ![v282.toNat, 0]
def k0_cond3 (k0_t15 : Fin k0_t15_loop.trips) : BitVec 1 :=
  let c0_i32_157 : BitVec 32 := 0#32
  let c1_i32_159 : BitVec 32 := 1#32
  let arg19 : BitVec 32 := Scf.iv c0_i32_157 c1_i32_159 k0_t15
  let c0_i32_194 : BitVec 32 := 0#32
  let v260 : BitVec 1 := Scalar.cmpi .sgt arg19 c0_i32_194
  let v261 : BitVec 32 := Scalar.extui v260
  let c0_i32_195 : BitVec 32 := 0#32
  let v262 : BitVec 1 := Scalar.cmpi .ne v261 c0_i32_195
  v262

def k0_off47 (k0_t16 : Fin k0_t16_loop.trips) : Fin 1 → Nat :=
  let c0_i32_172 : BitVec 32 := 0#32
  let c1_i32_174 : BitVec 32 := 1#32
  let arg20 : BitVec 32 := Scf.iv c0_i32_172 c1_i32_174 k0_t16
  ![arg20.toNat]
def k0_off48 (k0_t15 : Fin k0_t15_loop.trips) (k0_t16 : Fin k0_t16_loop.trips) : Fin 2 → Nat :=
  let c2_i32_176 : BitVec 32 := 2#32
  let c0_i32_157 : BitVec 32 := 0#32
  let c1_i32_159 : BitVec 32 := 1#32
  let arg19 : BitVec 32 := Scf.iv c0_i32_157 c1_i32_159 k0_t15
  let v229 : BitVec 32 := Scalar.muli c2_i32_176 arg19
  let c0_i32_172 : BitVec 32 := 0#32
  let c1_i32_174 : BitVec 32 := 1#32
  let arg20 : BitVec 32 := Scf.iv c0_i32_172 c1_i32_174 k0_t16
  let v230 : BitVec 32 := Scalar.addi v229 arg20
  let c2_i32_205 : BitVec 32 := 2#32
  let v274 : BitVec 32 := Scalar.subi v230 c2_i32_205
  let c256_i32_206 : BitVec 32 := 256#32
  let v275 : BitVec 32 := Scalar.muli v274 c256_i32_206
  let c1792_i32_207 : BitVec 32 := 1792#32
  ![v275.toNat, 1792]
def k0_off49 (k0_t16 : Fin k0_t16_loop.trips) : Fin 3 → Nat :=
  let c0_i32_172 : BitVec 32 := 0#32
  let c1_i32_174 : BitVec 32 := 1#32
  let arg20 : BitVec 32 := Scf.iv c0_i32_172 c1_i32_174 k0_t16
  let c0_i32_208 : BitVec 32 := 0#32
  let c0_i32_209 : BitVec 32 := 0#32
  ![arg20.toNat, 0, 0]
def k0_off50 (k0_t15 : Fin k0_t15_loop.trips) (k0_t16 : Fin k0_t16_loop.trips) : Fin 2 → Nat :=
  let c2_i32_176 : BitVec 32 := 2#32
  let c0_i32_157 : BitVec 32 := 0#32
  let c1_i32_159 : BitVec 32 := 1#32
  let arg19 : BitVec 32 := Scf.iv c0_i32_157 c1_i32_159 k0_t15
  let v229 : BitVec 32 := Scalar.muli c2_i32_176 arg19
  let c0_i32_172 : BitVec 32 := 0#32
  let c1_i32_174 : BitVec 32 := 1#32
  let arg20 : BitVec 32 := Scf.iv c0_i32_172 c1_i32_174 k0_t16
  let v230 : BitVec 32 := Scalar.addi v229 arg20
  let c256_i32_196 : BitVec 32 := 256#32
  let v263 : BitVec 32 := Scalar.muli v230 c256_i32_196
  let v264 : Index := Scalar.indexCast v263
  let c0_197 : Index := 0#32
  ![v264.toNat, 0]
@[reducible] def k0_t18_loop : Scf.Loop 32 :=
  let c0_i32_198 : BitVec 32 := 0#32
  let c4_i32 : BitVec 32 := 4#32
  let v267 : BitVec 32 := Scalar.addi c0_i32_198 c4_i32
  let c1_i32_199 : BitVec 32 := 1#32
  ⟨c0_i32_198, v267, c1_i32_199⟩
def k0_off51 (k0_t18 : Fin k0_t18_loop.trips) : Fin 2 → Nat :=
  let c0_206 : Index := 0#32
  let c7_i32 : BitVec 32 := 7#32
  let c0_i32_198 : BitVec 32 := 0#32
  let c1_i32_199 : BitVec 32 := 1#32
  let arg21 : BitVec 32 := Scf.iv c0_i32_198 c1_i32_199 k0_t18
  let v274 : BitVec 32 := Scalar.addi c7_i32 arg21
  let c256_i32_205 : BitVec 32 := 256#32
  let v275 : BitVec 32 := Scalar.muli v274 c256_i32_205
  let v276 : Index := Scalar.indexCast v275
  ![0, v276.toNat]
@[reducible] def k0_t19_loop : Scf.Loop 32 :=
  let c0_i32_209 : BitVec 32 := 0#32
  let c8_i32_210 : BitVec 32 := 8#32
  let v282 : BitVec 32 := Scalar.addi c0_i32_209 c8_i32_210
  let c1_i32_211 : BitVec 32 := 1#32
  ⟨c0_i32_209, v282, c1_i32_211⟩
def k0_off52 (k0_t18 : Fin k0_t18_loop.trips) (k0_t19 : Fin k0_t19_loop.trips) (c0_i32_214 : BitVec 32) : Fin 2 → Nat :=
  let c0_i32_198 : BitVec 32 := 0#32
  let c1_i32_199 : BitVec 32 := 1#32
  let arg21 : BitVec 32 := Scf.iv c0_i32_198 c1_i32_199 k0_t18
  let c260_i32 : BitVec 32 := 260#32
  let v284 : BitVec 32 := Scalar.muli arg21 c260_i32
  let c0_i32_209 : BitVec 32 := 0#32
  let c1_i32_211 : BitVec 32 := 1#32
  let arg22 : BitVec 32 := Scf.iv c0_i32_209 c1_i32_211 k0_t19
  let c32_i32_213 : BitVec 32 := 32#32
  let v283 : BitVec 32 := Scalar.muli arg22 c32_i32_213
  let v285 : BitVec 32 := Scalar.addi v284 v283
  let v286 : BitVec 32 := Scalar.addi v285 c0_i32_214
  let v287 : Index := Scalar.indexCast v286
  let c0_215 : Index := 0#32
  ![v287.toNat, 0]
def k0_off53 (k0_t15 : Fin k0_t15_loop.trips) (k0_t16 : Fin k0_t16_loop.trips) (k0_t19 : Fin k0_t19_loop.trips) (c0_i32_217 : BitVec 32) : Fin 2 → Nat :=
  let c2_i32_176 : BitVec 32 := 2#32
  let c0_i32_157 : BitVec 32 := 0#32
  let c1_i32_159 : BitVec 32 := 1#32
  let arg19 : BitVec 32 := Scf.iv c0_i32_157 c1_i32_159 k0_t15
  let v229 : BitVec 32 := Scalar.muli c2_i32_176 arg19
  let c0_i32_172 : BitVec 32 := 0#32
  let c1_i32_174 : BitVec 32 := 1#32
  let arg20 : BitVec 32 := Scf.iv c0_i32_172 c1_i32_174 k0_t16
  let v230 : BitVec 32 := Scalar.addi v229 arg20
  let c256_i32_216 : BitVec 32 := 256#32
  let v289 : BitVec 32 := Scalar.muli v230 c256_i32_216
  let c0_i32_209 : BitVec 32 := 0#32
  let c1_i32_211 : BitVec 32 := 1#32
  let arg22 : BitVec 32 := Scf.iv c0_i32_209 c1_i32_211 k0_t19
  let c32_i32_213 : BitVec 32 := 32#32
  let v283 : BitVec 32 := Scalar.muli arg22 c32_i32_213
  let v290 : BitVec 32 := Scalar.addi v289 v283
  let v291 : BitVec 32 := Scalar.addi v290 c0_i32_217
  let v292 : Index := Scalar.indexCast v291
  let c0_218 : Index := 0#32
  ![v292.toNat, 0]
def k0_off54 (k0_t19 : Fin k0_t19_loop.trips) : Fin 2 → Nat :=
  let c0_i32_209 : BitVec 32 := 0#32
  let c1_i32_211 : BitVec 32 := 1#32
  let arg22 : BitVec 32 := Scf.iv c0_i32_209 c1_i32_211 k0_t19
  let c32_i32_213 : BitVec 32 := 32#32
  let v283 : BitVec 32 := Scalar.muli arg22 c32_i32_213
  let v345 : Index := Scalar.indexCast v283
  let c0_238 : Index := 0#32
  ![v345.toNat, 0]
def k0_off55 (k0_t16 : Fin k0_t16_loop.trips) (k0_t18 : Fin k0_t18_loop.trips) (k0_t19 : Fin k0_t19_loop.trips) (c0_i32_240 : BitVec 32) : Fin 3 → Nat :=
  let c0_i32_172 : BitVec 32 := 0#32
  let c1_i32_174 : BitVec 32 := 1#32
  let arg20 : BitVec 32 := Scf.iv c0_i32_172 c1_i32_174 k0_t16
  let v351 : Index := Scalar.indexCast arg20
  let c0_i32_209 : BitVec 32 := 0#32
  let c1_i32_211 : BitVec 32 := 1#32
  let arg22 : BitVec 32 := Scf.iv c0_i32_209 c1_i32_211 k0_t19
  let c32_i32_213 : BitVec 32 := 32#32
  let v283 : BitVec 32 := Scalar.muli arg22 c32_i32_213
  let v352 : Index := Scalar.indexCast v283
  let c0_i32_198 : BitVec 32 := 0#32
  let c1_i32_199 : BitVec 32 := 1#32
  let arg21 : BitVec 32 := Scf.iv c0_i32_198 c1_i32_199 k0_t18
  let c256_i32_239 : BitVec 32 := 256#32
  let v349 : BitVec 32 := Scalar.muli arg21 c256_i32_239
  let v350 : BitVec 32 := Scalar.addi v349 c0_i32_240
  let v353 : Index := Scalar.indexCast v350
  ![v351.toNat, v352.toNat, v353.toNat]
def k0_off56 (k0_t19 : Fin k0_t19_loop.trips) : Fin 2 → Nat :=
  let c0_i32_209 : BitVec 32 := 0#32
  let c1_i32_211 : BitVec 32 := 1#32
  let arg22 : BitVec 32 := Scf.iv c0_i32_209 c1_i32_211 k0_t19
  let c32_i32_213 : BitVec 32 := 32#32
  let v283 : BitVec 32 := Scalar.muli arg22 c32_i32_213
  let v371 : Index := Scalar.indexCast v283
  let c128 : Index := 128#32
  ![v371.toNat, 128]
def k0_off57 (k0_t16 : Fin k0_t16_loop.trips) : Fin 1 → Nat :=
  let c0_i32_172 : BitVec 32 := 0#32
  let c1_i32_174 : BitVec 32 := 1#32
  let arg20 : BitVec 32 := Scf.iv c0_i32_172 c1_i32_174 k0_t16
  ![arg20.toNat]
def k0_off58 (k0_t15 : Fin k0_t15_loop.trips) (k0_t16 : Fin k0_t16_loop.trips) : Fin 2 → Nat :=
  let c2_i32_176 : BitVec 32 := 2#32
  let c0_i32_157 : BitVec 32 := 0#32
  let c1_i32_159 : BitVec 32 := 1#32
  let arg19 : BitVec 32 := Scf.iv c0_i32_157 c1_i32_159 k0_t15
  let v229 : BitVec 32 := Scalar.muli c2_i32_176 arg19
  let c0_i32_172 : BitVec 32 := 0#32
  let c1_i32_174 : BitVec 32 := 1#32
  let arg20 : BitVec 32 := Scf.iv c0_i32_172 c1_i32_174 k0_t16
  let v230 : BitVec 32 := Scalar.addi v229 arg20
  let c256_i32_201 : BitVec 32 := 256#32
  let v268 : BitVec 32 := Scalar.muli v230 c256_i32_201
  let c1792_i32_202 : BitVec 32 := 1792#32
  ![v268.toNat, 1792]
def k0_off59 (k0_t16 : Fin k0_t16_loop.trips) : Fin 3 → Nat :=
  let c0_i32_172 : BitVec 32 := 0#32
  let c1_i32_174 : BitVec 32 := 1#32
  let arg20 : BitVec 32 := Scf.iv c0_i32_172 c1_i32_174 k0_t16
  let c0_i32_203 : BitVec 32 := 0#32
  let c0_i32_204 : BitVec 32 := 0#32
  ![arg20.toNat, 0, 0]
abbrev stage0_0 : Fin 1 → Memref sig .tc .vmem S4x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x2048 : Shape := ⟨2, ![4, 2048]⟩
abbrev S32000x1408 : Shape := ⟨2, ![32000, 1408]⟩
abbrev S32000x88 : Shape := ⟨2, ![32000, 88]⟩
abbrev S8192 : Shape := ⟨1, ![8192]⟩
abbrev S_ : Shape := ⟨0, ![]⟩
abbrev S8192x1 : Shape := ⟨2, ![8192, 1]⟩
abbrev S8192x1408 : Shape := ⟨2, ![8192, 1408]⟩
abbrev S8192x88 : Shape := ⟨2, ![8192, 88]⟩
abbrev S1408 : Shape := ⟨1, ![1408]⟩
abbrev S1x1408 : Shape := ⟨2, ![1, 1408]⟩
abbrev S88 : Shape := ⟨1, ![88]⟩
abbrev S88x1 : Shape := ⟨2, ![88, 1]⟩
abbrev S88x1408 : Shape := ⟨2, ![88, 1408]⟩
abbrev S8192x2816 : Shape := ⟨2, ![8192, 2816]⟩
abbrev S2816 : Shape := ⟨1, ![2816]⟩
abbrev S2816x1 : Shape := ⟨2, ![2816, 1]⟩
abbrev S1x2816 : Shape := ⟨2, ![1, 2816]⟩
abbrev S2816x2816 : Shape := ⟨2, ![2816, 2816]⟩

abbrev nBuf : Space → Nat
  | .hbm => 156
  | .vmem => 0
  | .smem => 0
  | _ => 0

abbrev hbmTy0_0 (i : Nat) : BufTy := match i % 128 with
  | 0 => ⟨S4x2048, .i32⟩
  | 1 => ⟨S32000x1408, .i8⟩
  | 2 => ⟨S32000x88, .i16⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x1408, .i8⟩
  | 13 => ⟨S8192x1408, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x88, .i16⟩
  | 23 => ⟨S8192x88, .i32⟩
  | 24 => ⟨S_, .i32⟩
  | 25 => ⟨S8192x88, .i32⟩
  | 26 => ⟨S8192x88, .i32⟩
  | 27 => ⟨S_, .i32⟩
  | 28 => ⟨S8192x88, .i32⟩
  | 29 => ⟨S8192x88, .i32⟩
  | 30 => ⟨S_, .i32⟩
  | 31 => ⟨S8192x88, .i32⟩
  | 32 => ⟨S8192x88, .i32⟩
  | 33 => ⟨S_, .i32⟩
  | 34 => ⟨S8192x88, .i32⟩
  | 35 => ⟨S8192x88, .i32⟩
  | 36 => ⟨S_, .i32⟩
  | 37 => ⟨S8192x88, .i32⟩
  | 38 => ⟨S8192x88, .i1⟩
  | 39 => ⟨S_, .f32⟩
  | 40 => ⟨S_, .f32⟩
  | 41 => ⟨S8192x88, .f32⟩
  | 42 => ⟨S8192x88, .f32⟩
  | 43 => ⟨S8192x88, .f32⟩
  | 44 => ⟨S_, .i32⟩
  | 45 => ⟨S8192x88, .i32⟩
  | 46 => ⟨S8192x88, .i1⟩
  | 47 => ⟨S_, .i32⟩
  | 48 => ⟨S8192x88, .i32⟩
  | 49 => ⟨S8192x88, .i32⟩
  | 50 => ⟨S8192x88, .i32⟩
  | 51 => ⟨S8192x88, .f32⟩
  | 52 => ⟨S_, .i32⟩
  | 53 => ⟨S8192x88, .i32⟩
  | 54 => ⟨S8192x88, .i32⟩
  | 55 => ⟨S_, .i32⟩
  | 56 => ⟨S8192x88, .i32⟩
  | 57 => ⟨S8192x88, .i32⟩
  | 58 => ⟨S8192x88, .f32⟩
  | 59 => ⟨S_, .f32⟩
  | 60 => ⟨S8192x88, .f32⟩
  | 61 => ⟨S8192x88, .f32⟩
  | 62 => ⟨S_, .i32⟩
  | 63 => ⟨S8192x88, .i32⟩
  | 64 => ⟨S8192x88, .i1⟩
  | 65 => ⟨S_, .f32⟩
  | 66 => ⟨S_, .f32⟩
  | 67 => ⟨S8192x88, .f32⟩
  | 68 => ⟨S8192x88, .f32⟩
  | 69 => ⟨S8192x88, .f32⟩
  | 70 => ⟨S_, .i32⟩
  | 71 => ⟨S8192x88, .i32⟩
  | 72 => ⟨S8192x88, .i1⟩
  | 73 => ⟨S8192x88, .f32⟩
  | 74 => ⟨S8192x88, .f32⟩
  | 75 => ⟨S8192x88, .f32⟩
  | 76 => ⟨S8192x88, .f32⟩
  | 77 => ⟨S8192x88, .f32⟩
  | 78 => ⟨S8192x88, .bf16⟩
  | 79 => ⟨S8192x88, .f32⟩
  | 80 => ⟨S8192x88, .f32⟩
  | 81 => ⟨S8192x88, .bf16⟩
  | 82 => ⟨S1408, .i32⟩
  | 83 => ⟨S1x1408, .i32⟩
  | 84 => ⟨S_, .i32⟩
  | 85 => ⟨S_, .i32⟩
  | 86 => ⟨S1x1408, .i32⟩
  | 87 => ⟨S1x1408, .i32⟩
  | 88 => ⟨S1x1408, .i32⟩
  | 89 => ⟨S_, .i32⟩
  | 90 => ⟨S1x1408, .i32⟩
  | 91 => ⟨S1x1408, .i1⟩
  | 92 => ⟨S1x1408, .i32⟩
  | 93 => ⟨S1x1408, .i32⟩
  | 94 => ⟨S_, .i32⟩
  | 95 => ⟨S1x1408, .i32⟩
  | 96 => ⟨S1x1408, .i1⟩
  | 97 => ⟨S1x1408, .i1⟩
  | 98 => ⟨S_, .i32⟩
  | 99 => ⟨S1x1408, .i32⟩
  | 100 => ⟨S1x1408, .i32⟩
  | 101 => ⟨S1x1408, .i32⟩
  | 102 => ⟨S88, .i32⟩
  | 103 => ⟨S88x1, .i32⟩
  | 104 => ⟨S88x1408, .i32⟩
  | 105 => ⟨S88x1408, .i32⟩
  | 106 => ⟨S88x1408, .i1⟩
  | 107 => ⟨S88x1408, .bf16⟩
  | 108 => ⟨S8192x1408, .f32⟩
  | 109 => ⟨S8192x1408, .f32⟩
  | 110 => ⟨S8192x1408, .f32⟩
  | 111 => ⟨S_, .i32⟩
  | 112 => ⟨S8192x1408, .i32⟩
  | 113 => ⟨S8192x1408, .i32⟩
  | 114 => ⟨S8192x1408, .f32⟩
  | 115 => ⟨S_, .f32⟩
  | 116 => ⟨S8192x1408, .f32⟩
  | 117 => ⟨S8192x1408, .f32⟩
  | 118 => ⟨S_, .i32⟩
  | 119 => ⟨S8192x1408, .i32⟩
  | 120 => ⟨S8192x1408, .i32⟩
  | 121 => ⟨S8192x1408, .f32⟩
  | 122 => ⟨S_, .f32⟩
  | 123 => ⟨S8192x1408, .f32⟩
  | 124 => ⟨S8192x1408, .f32⟩
  | 125 => ⟨S8192x1408, .f32⟩
  | 126 => ⟨S8192x1408, .bf16⟩
  | 127 => ⟨S8192x1408, .f32⟩
  | _ => ⟨S4x2048, .i32⟩

abbrev hbmTy0_1 (i : Nat) : BufTy := match i % 128 with
  | 0 => ⟨S8192x1408, .bf16⟩
  | 1 => ⟨S8192x2816, .bf16⟩
  | 2 => ⟨S2816, .i32⟩
  | 3 => ⟨S_, .i32⟩
  | 4 => ⟨S2816, .i32⟩
  | 5 => ⟨S2816, .i1⟩
  | 6 => ⟨S_, .i32⟩
  | 7 => ⟨S2816, .i32⟩
  | 8 => ⟨S2816, .i32⟩
  | 9 => ⟨S_, .i32⟩
  | 10 => ⟨S2816, .i32⟩
  | 11 => ⟨S2816, .i32⟩
  | 12 => ⟨S_, .i32⟩
  | 13 => ⟨S2816, .i32⟩
  | 14 => ⟨S2816, .i32⟩
  | 15 => ⟨S_, .i32⟩
  | 16 => ⟨S2816, .i32⟩
  | 17 => ⟨S2816, .i32⟩
  | 18 => ⟨S2816, .i32⟩
  | 19 => ⟨S2816x1, .i32⟩
  | 20 => ⟨S2816, .i32⟩
  | 21 => ⟨S1x2816, .i32⟩
  | 22 => ⟨S2816x2816, .i32⟩
  | 23 => ⟨S2816x2816, .i32⟩
  | 24 => ⟨S2816x2816, .i1⟩
  | 25 => ⟨S2816x2816, .bf16⟩
  | 26 => ⟨S8192x2816, .f32⟩
  | 27 => ⟨S8192x2816, .bf16⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_c_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_c_14 : Ref sig .tc := ⟨.hbm, 62, rfl⟩
abbrev main_v41 : Ref sig .tc := ⟨.hbm, 63, rfl⟩
abbrev main_v42 : Ref sig .tc := ⟨.hbm, 64, rfl⟩
abbrev main_cst_15 : Ref sig .tc := ⟨.hbm, 65, rfl⟩
abbrev main_cst_16 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_c_17 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_18 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_c : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_0 : Ref sig .tc := ⟨.hbm, 98, rfl⟩
abbrev main_call4_v12 : Ref sig .tc := ⟨.hbm, 99, rfl⟩
abbrev main_call4_v13 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_19 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_20 : Ref sig .tc := ⟨.hbm, 115, rfl⟩
abbrev main_v69 : Ref sig .tc := ⟨.hbm, 116, rfl⟩
abbrev main_v70 : Ref sig .tc := ⟨.hbm, 117, rfl⟩
abbrev main_c_21 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_22 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_23 : Ref sig .tc := ⟨.hbm, 131, rfl⟩
abbrev main_v82 : Ref sig .tc := ⟨.hbm, 132, rfl⟩
abbrev main_v83 : Ref sig .tc := ⟨.hbm, 133, rfl⟩
abbrev main_c_24 : Ref sig .tc := ⟨.hbm, 134, rfl⟩
abbrev main_v84 : Ref sig .tc := ⟨.hbm, 135, rfl⟩
abbrev main_v85 : Ref sig .tc := ⟨.hbm, 136, rfl⟩
abbrev main_c_25 : Ref sig .tc := ⟨.hbm, 137, rfl⟩
abbrev main_v86 : Ref sig .tc := ⟨.hbm, 138, rfl⟩
abbrev main_v87 : Ref sig .tc := ⟨.hbm, 139, rfl⟩
abbrev main_c_26 : Ref sig .tc := ⟨.hbm, 140, rfl⟩
abbrev main_v88 : Ref sig .tc := ⟨.hbm, 141, rfl⟩
abbrev main_v89 : Ref sig .tc := ⟨.hbm, 142, rfl⟩
abbrev main_c_27 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩

abbrev nD : Nat := 1
abbrev τ : Topo := Topo.v7x

variable {F : FTy → Type} [FloatOps F]
-- ==== Proof.At.lean ====
/-
  Ownership of part of a buffer at stated values, and one rule for each memory effect in those terms: `AT c m M q v` holds the elements
  of `m` whose index satisfies `M`, each at the value `v` names. The values are a function of the whole index, so two parts at one
  function join, and a part is copied, read and written by saying what the function becomes.
-/
module

public import Idealize.ShloMosaic.Lib.Batch
public import Idealize.ShloMosaic.Lib.Transfers
public import Idealize.ShloMosaic.Lib.Tactic
public import Idealize.ShloMosaic.Lib.Scf

@[expose] public section

noncomputable section

namespace Cert.At

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Classical in
/-- The indices that satisfy `M`, as a finite set. -/
def fset {s : Shape} (M : s.Idx → Prop) : Finset s.Idx := Finset.univ.filter M

theorem mem_fset {s : Shape} {M : s.Idx → Prop} {i : s.Idx} : i ∈ fset M ↔ M i := by simp [fset]

theorem fset_true {s : Shape} : fset (fun _ : s.Idx => True) = Finset.univ := by ext; simp [fset]

variable {nD : Nat} {τ : Topo} {sig : RefSig} {Val : EltTy → Type} {U : Type} [URA U] {Λ : Labels}
local notation "𝕄" => MT nD τ sig Unit Val ℕ U ℕ

/-- The elements of `m` at the indices in `M`, at share `q`, each holding what `v` says. -/
def AT (c : Dev nD) {sp : Space} {s : Shape} {e : EltTy} (m : Memref sig .tc sp s e) (M : s.Idx → Prop) (q : PosShare TreeShare) (v : s.Idx → Val e) : sProp 𝕄 :=
  iprop(∃ f : Buf Val (m.view.loc (c : Thread nD τ)), (m.view.loc (c : Thread nD τ) ↦[m.view.setOn (fset M)]{q} f) ∗ ⌜∀ i, M i → m.view.read Val f i = v i⌝)

section Basic
variable {c : Dev nD} {sp : Space} {s : Shape} {e : EltTy} {m : Memref sig .tc sp s e} {M M₁ M₂ : s.Idx → Prop} {q : PosShare TreeShare} {v v' : s.Idx → Val e}

theorem AT_intro {f : Buf Val (m.view.loc (c : Thread nD τ))} {I : Finset (Idx (m.view.loc (c : Thread nD τ)))} (hI : I = m.view.setOn (fset M)) (h : ∀ i, M i → m.view.read Val f i = v i) :
    (m.view.loc (c : Thread nD τ) ↦[I]{q} f) ⊢ (AT c m M q v : sProp 𝕄) := by
  subst hI; unfold AT
  iintro H; iexists f; isplitl [H]; · iexact H
  ipureintro; exact h

theorem AT_congr (h : ∀ i, M i → v i = v' i) : (AT c m M q v : sProp 𝕄) ⊢ AT c m M q v' := by
  unfold AT
  iintro ⟨%f, H, %hf⟩; iexists f; isplitl [H]; · iexact H
  ipureintro; exact fun i hi => (hf i hi).trans (h i hi)

theorem AT_dom (h : ∀ i, M₁ i ↔ M₂ i) : (AT c m M₁ q v : sProp 𝕄) ⊢ AT c m M₂ q v := by
  rw [show M₁ = M₂ from funext fun i => propext (h i)]

theorem AT_split (hd : ∀ i, M₁ i → ¬ M₂ i) (hu : ∀ i, M i ↔ M₁ i ∨ M₂ i) : (AT c m M q v : sProp 𝕄) ⊢ iprop(AT c m M₁ q v ∗ AT c m M₂ q v) := by
  have hdj : Disjoint (m.view.setOn (fset M₁)) (m.view.setOn (fset M₂)) := by
    unfold View.setOn; rw [Finset.disjoint_map]
    exact Finset.disjoint_left.mpr fun i h1 h2 => hd i (mem_fset.mp h1) (mem_fset.mp h2)
  have hun : m.view.setOn (fset M) = m.view.setOn (fset M₁) ∪ m.view.setOn (fset M₂) := by
    unfold View.setOn; rw [← Finset.map_union]; congr 1; ext i; simp [mem_fset, hu i]
  unfold AT
  iintro ⟨%f, H, %hf⟩
  rw [hun]
  ihave H' := (pointsTo_union (ℓ := m.view.loc (c : Thread nD τ)) (I := m.view.setOn (fset M₁)) (J := m.view.setOn (fset M₂)) hdj).1 $$ H
  icases H' with ⟨H1, H2⟩
  isplitl [H1]
  · iexists f; isplitl [H1]; · iexact H1
    ipureintro; exact fun i hi => hf i ((hu i).mpr (Or.inl hi))
  · iexists f; isplitl [H2]; · iexact H2
    ipureintro; exact fun i hi => hf i ((hu i).mpr (Or.inr hi))

theorem AT_join (hd : ∀ i, M₁ i → ¬ M₂ i) (hu : ∀ i, M i ↔ M₁ i ∨ M₂ i) : iprop(AT c m M₁ q v ∗ AT c m M₂ q v) ⊢ (AT c m M q v : sProp 𝕄) := by
  have hdj : Disjoint (m.view.setOn (fset M₁)) (m.view.setOn (fset M₂)) := by
    unfold View.setOn; rw [Finset.disjoint_map]
    exact Finset.disjoint_left.mpr fun i h1 h2 => hd i (mem_fset.mp h1) (mem_fset.mp h2)
  have hun : m.view.setOn (fset M) = m.view.setOn (fset M₁) ∪ m.view.setOn (fset M₂) := by
    unfold View.setOn; rw [← Finset.map_union]; congr 1; ext i; simp [mem_fset, hu i]
  unfold AT
  iintro ⟨⟨%f, H1, %hf⟩, ⟨%g, H2, %hg⟩⟩
  ihave H := (pointsTo_join (ℓ := m.view.loc (c : Thread nD τ)) (I := m.view.setOn (fset M₁)) (J := m.view.setOn (fset M₂)) hdj) $$ [H1 H2]
  · isplitl [H1]; · iexact H1
    iexact H2
  iexists _
  rw [hun]
  isplitl [H]; · iexact H
  ipureintro
  intro i hi
  rcases (hu i).mp hi with h1 | h2
  · have h2 : ¬ M₂ i := hd i h1
    rw [← hf i h1]; exact View.read_congr_at i (Finset.piecewise_eq_of_notMem _ _ _ fun hm => h2 (mem_fset.mp (m.view.mem_setOn.mp hm)))
  · rw [← hg i h2]; exact View.read_congr_at i (Finset.piecewise_eq_of_mem _ _ _ (m.view.mem_setOn.mpr (mem_fset.mpr h2)))

end Basic

section Views
variable {c : Dev nD} {sp : Space} {s : Shape} {e : EltTy} {m : Memref sig .tc sp s e} {q : PosShare TreeShare} {v : s.Idx → Val e}

/-- A slice of `m` held whole is `m` held at the slice's rectangle. -/
theorem AT_slice (r : Rect s) (hr : ∀ a, r.stride a = 1) {M : s.Idx → Prop} (hM : ∀ i, M i ↔ i ∈ r.set) :
    (AT c m M q v : sProp 𝕄) ⊢ AT c (m.slice r hr) (fun _ => True) q (fun x => v (r.emb x)) := by
  unfold AT
  iintro ⟨%f, H, %hf⟩
  iexists f
  isplitl [H]
  · rw [show (m.slice r hr).view.setOn (fset fun _ => True) = m.view.setOn (fset M) from by
      rw [fset_true, View.setOn_univ, show fset M = r.set from by ext i; rw [mem_fset, hM i]]
      exact View.set_slice _ _]
    iexact H
  · ipureintro; intro x _; exact hf (r.emb x) ((hM _).mpr (r.map_emb_univ ▸ Finset.mem_map_of_mem _ (Finset.mem_univ x)))

theorem AT_unslice (r : Rect s) (hr : ∀ a, r.stride a = 1) {M : s.Idx → Prop} (hM : ∀ i, M i ↔ i ∈ r.set)
    {w : r.shape.Idx → Val e} (hw : ∀ x, w x = v (r.emb x)) :
    (AT c (m.slice r hr) (fun _ => True) q w : sProp 𝕄) ⊢ AT c m M q v := by
  unfold AT
  iintro ⟨%f, H, %hf⟩
  iexists f
  isplitl [H]
  · rw [show (m.slice r hr).view.setOn (fset fun _ => True) = m.view.setOn (fset M) from by
      rw [fset_true, View.setOn_univ, show fset M = r.set from by ext i; rw [mem_fset, hM i]]
      exact View.set_slice _ _]
    iexact H
  · ipureintro; intro i hi
    obtain ⟨x, -, rfl⟩ := Finset.mem_map.mp (r.map_emb_univ ▸ (hM i).mp hi)
    exact (hf x trivial).trans (hw x)

end Views

section Rules
variable {defs : Defs nD τ sig Val Λ} {𝒱 : Variants} {c : Dev nD} {bd : Option 𝒱.V} {E : Set ℕ} {α : Type} {Q : α → sProp (MT nD τ sig Unit Val ℕ U ℕ)}
variable {sp sp' : Space} {s : Shape} {e : EltTy} {M : s.Idx → Prop} {q : PosShare TreeShare} {v v' : s.Idx → Val e}

/-- A program that has returned. -/
theorem done {a : α} : Q a ⊢ wp (M := 𝕄) frame (wpE defs 𝒱 (c : Thread nD τ) bd) E (.ret a) Q := by
  rw [wp_ret]
  iintro H
  imodintro
  iexact H

theorem AT_load {cs : CoreSpace} {m : Memref sig .tc cs s e} {r : LoadRect s} {hl : m.view.LoadsAt r} {k : (r.shape.Idx → Val e) → Prog (TpuEff nD τ sig Val Λ .tc) α}
    (hM : ∀ x, M (r.idx x)) :
    (AT c m M q v : sProp 𝕄) ⊢ iprop(((AT c m M q v : sProp 𝕄) -∗ wp (M := 𝕄) frame (wpE defs 𝒱 (c : Thread nD τ) bd) E (k (fun x => v (r.idx x))) Q)
        -∗ wp (M := 𝕄) frame (wpE defs 𝒱 (c : Thread nD τ) bd) E (.op (.load m r hl) k) Q) := by
  unfold AT
  iintro ⟨%f, H, %hf⟩ Hk
  iapply (wp_load (defs := defs) 𝒱 (c : Thread nD τ) bd E (m := m) (r := r) (S := m.view.setOn (fset M)) (f := f) (q := q)
    (Finset.map_subset_map.mpr fun i hi => by
      obtain ⟨x, -, rfl⟩ := Finset.mem_image.mp (r.image_idx_univ ▸ hi)
      exact mem_fset.mpr (hM x))) $$ H
  iintro H
  have he : m.view.readAt Val r f = fun x => v (r.idx x) := funext fun x => by rw [View.readAt_apply]; exact hf _ (hM x)
  rw [he]
  iapply Hk
  iexists f; isplitl [H]; · iexact H
  ipureintro; exact hf

theorem AT_smem {m : Memref sig .tc .smem s e} {r : Rect s} {hw : (m.access r).Loads} {x : r.shape.Idx}
    {k : Val e → Prog (TpuEff nD τ sig Val Λ .tc) α} (hM : ∀ x, M (r.emb x)) :
    (AT c m M q v : sProp 𝕄) ⊢ iprop(((AT c m M q v : sProp 𝕄) -∗ wp (M := 𝕄) frame (wpE defs 𝒱 (c : Thread nD τ) bd) E (k (v (r.emb x))) Q)
        -∗ wp (M := 𝕄) frame (wpE defs 𝒱 (c : Thread nD τ) bd) E (smemLoadElt m r hw x k) Q) :=
  AT_load (k := fun f => k (f x)) hM

theorem AT_store {cs : CoreSpace} {m : Memref sig .tc cs s e} {r : Rect s} {w : r.shape.Idx → Val e} {hx : (m.access r).Stores Finset.univ} {hm : (Finset.univ : Finset r.shape.Idx) = Finset.univ ∨ ∀ a, r.stride a = 1}
    {k : PUnit → Prog (TpuEff nD τ sig Val Λ .tc) α} (v' : s.Idx → Val e)
    (hM : ∀ x, M (r.emb x)) (h1 : ∀ x, v' (r.emb x) = w x) (h2 : ∀ i, M i → (∀ x, r.emb x ≠ i) → v' i = v i) :
    (AT c m M fullShare v : sProp 𝕄) ⊢ iprop(((AT c m M fullShare v' : sProp 𝕄) -∗ wp (M := 𝕄) frame (wpE defs 𝒱 (c : Thread nD τ) bd) E (k ⟨⟩) Q)
        -∗ wp (M := 𝕄) frame (wpE defs 𝒱 (c : Thread nD τ) bd) E (.op (.store m r w Finset.univ hx hm) k) Q) := by
  unfold AT
  iintro ⟨%f, H, %hf⟩ Hk
  iapply (wp_store (defs := defs) 𝒱 (c : Thread nD τ) bd E (m := m) (r := r) (w := w) (Mk := Finset.univ) (S := m.view.setOn (fset M)) (f := f)
    (by
      intro i hi
      obtain ⟨x, -, rfl⟩ := Finset.mem_map.mp hi
      exact m.view.mem_setOn.mpr (mem_fset.mpr (hM x)))) $$ H
  iintro H
  iapply Hk
  iexists _; isplitl [H]; · iexact H
  ipureintro
  intro i hi
  by_cases hx : ∃ x, r.emb x = i
  · obtain ⟨x, rfl⟩ := hx
    rw [h1]; exact View.read_slice_write_emb (v := m.view) r f w (Finset.mem_univ x)
  · rw [h2 i hi fun x hx' => hx ⟨x, hx'⟩, ← hf i hi]
    exact View.read_slice_write_of_not_mem (v := m.view) r f w Finset.univ fun hm => by
      obtain ⟨x, -, hx'⟩ := Finset.mem_map.mp hm
      exact hx ⟨x, hx'⟩

/-- A store, with nothing to prove beforehand: afterwards each entry is the stored one or the old one. -/
theorem AT_put {cs : CoreSpace} {m : Memref sig .tc cs s e} {r : Rect s} {w : r.shape.Idx → Val e} {hx : (m.access r).Stores Finset.univ} {hm : (Finset.univ : Finset r.shape.Idx) = Finset.univ ∨ ∀ a, r.stride a = 1}
    {k : PUnit → Prog (TpuEff nD τ sig Val Λ .tc) α} (hM : ∀ x, M (r.emb x)) :
    (AT c m M fullShare v : sProp 𝕄) ⊢ iprop((∀ v', ⌜∀ i, M i → (∃ x, r.emb x = i ∧ v' i = w x) ∨ (i ∉ r.set ∧ v' i = v i)⌝ -∗ (AT c m M fullShare v' : sProp 𝕄) -∗ wp (M := 𝕄) frame (wpE defs 𝒱 (c : Thread nD τ) bd) E (k ⟨⟩) Q)
        -∗ wp (M := 𝕄) frame (wpE defs 𝒱 (c : Thread nD τ) bd) E (.op (.store m r w Finset.univ hx hm) k) Q) := by
  classical
  obtain ⟨u, h1, h2⟩ : ∃ u : s.Idx → Val e, (∀ x, u (r.emb x) = w x) ∧ ∀ i, (∀ x, r.emb x ≠ i) → u i = v i := by
    refine ⟨fun i => if h : ∃ x, r.emb x = i then w h.choose else v i, fun x => ?_, fun i hi => ?_⟩
    · have h : ∃ y, r.emb y = r.emb x := ⟨x, rfl⟩
      exact (dif_pos h).trans (congrArg w (r.emb.injective h.choose_spec))
    · exact dif_neg fun ⟨x, hx⟩ => hi x hx
  iintro H Hk
  iapply (AT_store (m := m) (v := v) u hM h1 (fun i _ hi => h2 i hi)) $$ H
  iintro H
  iapply Hk $$ [] [H]
  · ipureintro
    intro i _
    by_cases h : ∃ x, r.emb x = i
    · obtain ⟨x, rfl⟩ := h
      exact Or.inl ⟨x, rfl, h1 x⟩
    · have hn : ∀ x, r.emb x ≠ i := fun x hx => h ⟨x, hx⟩
      exact Or.inr ⟨fun hi => by
        obtain ⟨x, -, hx⟩ := Finset.mem_map.mp (r.map_emb_univ ▸ hi)
        exact hn x hx, h2 i hn⟩
  · iexact H

/-- What a landed copy leaves: the destination at the source's values, and the source back. -/
theorem deliver {src : Memref sig .tc sp s e} {dst : Memref sig .tc sp' s e} {fs : Buf Val (src.view.loc (c : Thread nD τ))} {fd : Buf Val (dst.view.loc (c : Thread nD τ))}
    (hs : ∀ i, True → src.view.read Val fs i = v i) :
    (iprop((dst.view.loc (c : Thread nD τ) ↦[dst.view.set]{fullShare} (dst.view.write Val fd ((ReadAs.same : ReadAs Val s e s e).apply (src.view.read Val fs)) Finset.univ))
      ∗ (src.view.loc (c : Thread nD τ) ↦[src.view.set]{q} fs)) : sProp 𝕄) ⊢ iprop(AT c dst (fun _ => True) fullShare v ∗ AT c src (fun _ => True) q v) := by
  unfold AT
  rw [fset_true]
  iintro ⟨H1, H2⟩
  isplitl [H1]
  · iexists _; isplitl [H1]; · iexact H1
    ipureintro; intro i _
    rw [View.read_write_univ]; exact hs i trivial
  · iexists fs; isplitl [H2]; · iexact H2
    ipureintro; exact hs

variable (EC : UEmb Counters (MT nD τ sig Unit Val ℕ U ℕ)) [EC.LandsIn (upEmb : UEmb _ (MT nD τ sig Unit Val ℕ U ℕ))]

theorem AT_enqueue {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → Prog (TpuEff nD τ sig Val Λ .tc) α} (N : ℕ) (hN : dst.view.amount sm = N) (hN0 : 0 < N) :
    iprop(AT c src (fun _ => True) q v ∗ AT c dst (fun _ => True) fullShare v' ∗ semVal ((c : Thread nD τ), sm) 0)
      ⊢ iprop((Transfers.Flight EC (c : Thread nD τ) sm () N iprop(AT c dst (fun _ => True) fullShare v ∗ AT c src (fun _ => True) q v)
            -∗ wp (M := 𝕄) frame (wpE defs 𝒱 (c : Thread nD τ) bd) Set.univ (k ⟨⟩) Q)
          -∗ wp (M := 𝕄) frame (wpE defs 𝒱 (c : Thread nD τ) bd) Set.univ (.op (.enqueueDma src (.here dst) sm hsrc hdst hsem) k) Q) := by
  unfold AT
  iintro ⟨⟨%fs, Hs, %hs⟩, ⟨%fd, Hd, %hd⟩, Hv⟩ Hk
  iapply (Transfers.wp_dmaLocal EC (defs := defs) 𝒱 (c : Thread nD τ) bd (src := src) (via := .same) (dst := dst) (q := q) (fs := fs) (fd := fd) (Sd := dst.view.set) () N hN hN0 (Finset.Subset.refl _)) $$ [Hs Hd Hv]
  · rw [fset_true]
    isplitl [Hs]; · iexact Hs
    isplitl [Hd]; · iexact Hd
    iexact Hv
  iintro Hf
  iapply Hk
  iapply (Transfers.Flight_mono EC (c : Thread nD τ) ?_) $$ Hf
  exact deliver hs

/-- One of a batch's copies started: copy `j`'s delivery is the destination at the source's values and the source back. -/
theorem AT_enqueueBatch {n : ℕ} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → Prog (TpuEff nD τ sig Val Λ .tc) α} {D : Fin n → sProp 𝕄} {j : ℕ} (N : ℕ) (hN : dst.view.amount sm = N) (hj : j < n)
    (hD : iprop(AT c dst (fun _ => True) fullShare v ∗ AT c src (fun _ => True) q v) ⊢ D ⟨j, hj⟩) :
    iprop(AT c src (fun _ => True) q v ∗ AT c dst (fun _ => True) fullShare v' ∗ Transfers.Batch EC (c : Thread nD τ) sm () N D j 0)
      ⊢ iprop((Transfers.Batch EC (c : Thread nD τ) sm () N D (j + 1) 0 -∗ wp (M := 𝕄) frame (wpE defs 𝒱 (c : Thread nD τ) bd) Set.univ (k ⟨⟩) Q)
          -∗ wp (M := 𝕄) frame (wpE defs 𝒱 (c : Thread nD τ) bd) Set.univ (.op (.enqueueDma src (.here dst) sm hsrc hdst hsem) k) Q) := by
  unfold AT
  iintro ⟨⟨%fs, Hs, %hs⟩, ⟨%fd, Hd, %hd⟩, Hv⟩ Hk
  iapply (Transfers.wp_dmaBatch EC (defs := defs) 𝒱 (c : Thread nD τ) bd (src := src) (via := .same) (dst := dst) (q := q) (fs := fs) (fd := fd) (Sd := dst.view.set) (D := D) () N hN
    (Finset.Subset.refl _) hj (Nat.zero_le _) ((deliver hs).trans hD)) $$ [Hs Hd Hv]
  · rw [fset_true]
    isplitl [Hs]; · iexact Hs
    isplitl [Hd]; · iexact Hd
    iexact Hv
  iexact Hk

end Rules

end Cert.At
-- ==== Proof.Tools.lean ====
/-
  Rectangles of rank two and three read coordinate by coordinate.
-/
module

public import Idealize.ShloMosaic.Shape
public import Mathlib.Tactic.FinCases

@[expose] public section

namespace Cert.Tools

open Idealize.ShloMosaic

variable {n m l : ℕ}

/-- What a store through a unit rectangle leaves at each index, in coordinates. -/
theorem hit2 {α : Type} {off : Fin 2 → ℕ} {sz : Fin 2 → ℕ} {inb} {w : (Rect.unit (s := ⟨2, ![n, m]⟩) off sz inb).shape.Idx → α} {v v' : (⟨2, ![n, m]⟩ : Shape).Idx → α} {i : (⟨2, ![n, m]⟩ : Shape).Idx}
    (h : (∃ x, (Rect.unit (s := ⟨2, ![n, m]⟩) off sz inb).emb x = i ∧ v' i = w x) ∨ (i ∉ (Rect.unit (s := ⟨2, ![n, m]⟩) off sz inb).set ∧ v' i = v i))
    {a b p q : ℕ} (ha : off 0 = a) (hb : off 1 = b) (hp : sz 0 = p) (hq : sz 1 = q) :
    (∃ x, (i 0 : ℕ) = a + (x 0 : ℕ) ∧ (i 1 : ℕ) = b + (x 1 : ℕ) ∧ (x 0 : ℕ) < p ∧ (x 1 : ℕ) < q ∧ v' i = w x)
      ∨ (¬ (a ≤ (i 0 : ℕ) ∧ (i 0 : ℕ) < a + p ∧ b ≤ (i 1 : ℕ) ∧ (i 1 : ℕ) < b + q) ∧ v' i = v i) := by
  subst ha hb hp hq
  rcases h with ⟨x, rfl, e⟩ | ⟨hn, e⟩
  · refine Or.inl ⟨x, ?_, ?_, (x 0).isLt, (x 1).isLt, e⟩
    · rw [Rect.emb_apply]; show off 0 + 1 * _ = _; omega
    · rw [Rect.emb_apply]; show off 1 + 1 * _ = _; omega
  · refine Or.inr ⟨fun ⟨h1, h2, h3, h4⟩ => hn (Rect.mem_set_unit.mpr (Fin.forall_fin_two.mpr ⟨⟨h1, h2⟩, ⟨h3, h4⟩⟩)), e⟩

/-- The same for rows `st` apart. -/
theorem hit2s {α : Type} {off : Fin 2 → ℕ} {sz : Fin 2 → ℕ} {st : ℕ} {inb} {hp'} {w : (Rect.mk (⟨off, sz, ![st, 1], inb⟩ : LoadRect ⟨2, ![n, m]⟩) hp').shape.Idx → α} {v v' : (⟨2, ![n, m]⟩ : Shape).Idx → α} {i : (⟨2, ![n, m]⟩ : Shape).Idx}
    (h : (∃ x, (Rect.mk (⟨off, sz, ![st, 1], inb⟩ : LoadRect ⟨2, ![n, m]⟩) hp').emb x = i ∧ v' i = w x) ∨ (i ∉ (Rect.mk (⟨off, sz, ![st, 1], inb⟩ : LoadRect ⟨2, ![n, m]⟩) hp').set ∧ v' i = v i))
    {a b p q : ℕ} (ha : off 0 = a) (hb : off 1 = b) (hp : sz 0 = p) (hq : sz 1 = q) :
    (∃ x, (i 0 : ℕ) = a + st * (x 0 : ℕ) ∧ (i 1 : ℕ) = b + (x 1 : ℕ) ∧ (x 0 : ℕ) < p ∧ (x 1 : ℕ) < q ∧ v' i = w x)
      ∨ ((∀ j, j < p → (i 0 : ℕ) = a + st * j → b ≤ (i 1 : ℕ) → ¬ (i 1 : ℕ) < b + q) ∧ v' i = v i) := by
  subst ha hb hp hq
  rcases h with ⟨x, rfl, e⟩ | ⟨hn, e⟩
  · refine Or.inl ⟨x, ?_, ?_, (x 0).isLt, (x 1).isLt, e⟩
    · rw [Rect.emb_apply]; rfl
    · rw [Rect.emb_apply]; show off 1 + 1 * _ = _; omega
  · refine Or.inr ⟨fun j hj h1 h3 h4 => hn ((LoadRect.mem_set _).mpr (Fin.forall_fin_two.mpr ⟨⟨j, hj, h1⟩, ⟨(i 1 : ℕ) - off 1, ?_, ?_⟩⟩)), e⟩
    · show _ < sz 1; omega
    · show _ = off 1 + 1 * _; omega

/-- The same in rank three. -/
theorem hit3 {α : Type} {off : Fin 3 → ℕ} {sz : Fin 3 → ℕ} {inb} {w : (Rect.unit (s := ⟨3, ![n, m, l]⟩) off sz inb).shape.Idx → α} {v v' : (⟨3, ![n, m, l]⟩ : Shape).Idx → α} {i : (⟨3, ![n, m, l]⟩ : Shape).Idx}
    (h : (∃ x, (Rect.unit (s := ⟨3, ![n, m, l]⟩) off sz inb).emb x = i ∧ v' i = w x) ∨ (i ∉ (Rect.unit (s := ⟨3, ![n, m, l]⟩) off sz inb).set ∧ v' i = v i))
    {a b d p q r : ℕ} (ha : off 0 = a) (hb : off 1 = b) (hd : off 2 = d) (hp : sz 0 = p) (hq : sz 1 = q) (hr : sz 2 = r) :
    (∃ x, (i 0 : ℕ) = a + (x 0 : ℕ) ∧ (i 1 : ℕ) = b + (x 1 : ℕ) ∧ (i 2 : ℕ) = d + (x 2 : ℕ) ∧ (x 0 : ℕ) < p ∧ (x 1 : ℕ) < q ∧ (x 2 : ℕ) < r ∧ v' i = w x)
      ∨ (¬ (a ≤ (i 0 : ℕ) ∧ (i 0 : ℕ) < a + p ∧ b ≤ (i 1 : ℕ) ∧ (i 1 : ℕ) < b + q ∧ d ≤ (i 2 : ℕ) ∧ (i 2 : ℕ) < d + r) ∧ v' i = v i) := by
  subst ha hb hd hp hq hr
  rcases h with ⟨x, rfl, e⟩ | ⟨hn, e⟩
  · refine Or.inl ⟨x, ?_, ?_, ?_, (x 0).isLt, (x 1).isLt, (x 2).isLt, e⟩
    · rw [Rect.emb_apply]; show off 0 + 1 * _ = _; omega
    · rw [Rect.emb_apply]; show off 1 + 1 * _ = _; omega
    · rw [Rect.emb_apply]; show off 2 + 1 * _ = _; omega
  · refine Or.inr ⟨fun ⟨h1, h2, h3, h4, h5, h6⟩ => hn (Rect.mem_set_unit.mpr fun a => ?_), e⟩
    match a with
    | ⟨0, _⟩ => exact ⟨h1, h2⟩
    | ⟨1, _⟩ => exact ⟨h3, h4⟩
    | ⟨2, _⟩ => exact ⟨h5, h6⟩

/-- A load's index, in coordinates. -/
theorem lidx {s : Shape} {r : LoadRect s} {x : r.shape.Idx} {a : Fin s.rank} {o st : ℕ} (ho : r.off a = o) (hs : r.stride a = st) : (r.idx x a : ℕ) = o + st * (x a : ℕ) := by
  subst ho hs; rfl

theorem remb {s : Shape} {r : Rect s} {x : r.shape.Idx} {a : Fin s.rank} {o st : ℕ} (ho : r.off a = o) (hs : r.stride a = st) : (r.emb x a : ℕ) = o + st * (x a : ℕ) := by
  subst ho hs; rfl

end Cert.Tools
-- ==== Proof.Offs.lean ====
/-
  The printed offset chains in closed form: each is evaluated at every trip.
-/
module

public import proofs.«01_k».proof.Proof.Gen.Kernel.Skeleton

@[expose] public section

set_option maxRecDepth 16384

namespace Cert.Kernel.Offs

open Idealize.ShloMosaic Cert.Kernel Cert.Kernel.Gen

theorem off1 : ∀ (t1 : Fin k0_t1_loop.trips), k0_off1 t1 = ![t1.val/16,128*(t1.val%16)] := by decide +kernel
theorem off2 : ∀ (t1 : Fin k0_t1_loop.trips), k0_off2 t1 = ![128*t1.val,0] := by decide +kernel
theorem off3 : ∀ (t2 : Fin k0_t2_loop.trips), k0_off3 t2 = ![0,256*t2.val] := by decide +kernel
theorem off4 : ∀ (t3 : Fin k0_t3_loop.trips), k0_off4 t3 = ![0,128*t3.val] := by decide +kernel
theorem off6 : ∀ (t4 : Fin k0_t4_loop.trips) (t5 : Fin k0_t5_loop.trips) (t6 : Fin k0_t6_loop.trips), k0_off6 t4 t5 t6 = ![(2*t4.val+t5.val)/8,256*((2*t4.val+t5.val)%8)+t6.val] := by decide +kernel
theorem off8 : ∀ (t6 : Fin k0_t6_loop.trips), k0_off8 t6 = ![t6.val,0] := by decide +kernel
theorem off10 : ∀ (t6 : Fin k0_t6_loop.trips), k0_off10 t6 = ![1040+t6.val,0] := by decide +kernel
theorem off11 : ∀ (t4 : Fin k0_t4_loop.trips) (t5 : Fin k0_t5_loop.trips) (t7 : Fin k0_t7_loop.trips), k0_off11 t4 t5 t7 = ![512*t4.val+256*t5.val+8*t7.val,0] := by decide +kernel
theorem off13 : ∀ (t4 : Fin k0_t4_loop.trips) (t5 : Fin k0_t5_loop.trips) (t7 : Fin k0_t7_loop.trips), k0_off13 t4 t5 t7 = ![512*t4.val+256*t5.val+8*t7.val,0] := by decide +kernel
theorem off14 : ∀ (t4 : Fin k0_t4_loop.trips) (t5 : Fin k0_t5_loop.trips) (t7 : Fin k0_t7_loop.trips), k0_off14 t4 t5 t7 = ![512*t4.val+256*t5.val+8*t7.val,128] := by decide +kernel
theorem off15 : ∀ (t5 : Fin k0_t5_loop.trips), k0_off15 t5 = ![t5.val] := by decide +kernel
theorem off16 : ∀ (t4 : Fin k0_t4_loop.trips) (t5 : Fin k0_t5_loop.trips), 0 < t4.val → k0_off16 t4 t5 = ![512*t4.val+256*t5.val-512,0] := by decide +kernel
theorem off17 : ∀ (t5 : Fin k0_t5_loop.trips), k0_off17 t5 = ![t5.val,0,0] := by decide +kernel
theorem off18 : ∀ (t4 : Fin k0_t4_loop.trips) (t5 : Fin k0_t5_loop.trips), k0_off18 t4 t5 = ![512*t4.val+256*t5.val,0] := by decide +kernel
theorem off19 : ∀ (t8 : Fin k0_t8_loop.trips), k0_off19 t8 = ![0,256*t8.val] := by decide +kernel
theorem off22 : ∀ (t9 : Fin k0_t9_loop.trips), k0_off22 t9 = ![32*t9.val,0] := by decide +kernel
theorem off24 : ∀ (t9 : Fin k0_t9_loop.trips), k0_off24 t9 = ![32*t9.val,128] := by decide +kernel
theorem off25 : ∀ (t5 : Fin k0_t5_loop.trips), k0_off25 t5 = ![t5.val] := by decide +kernel
theorem off26 : ∀ (t4 : Fin k0_t4_loop.trips) (t5 : Fin k0_t5_loop.trips), k0_off26 t4 t5 = ![512*t4.val+256*t5.val,0] := by decide +kernel
theorem off27 : ∀ (t5 : Fin k0_t5_loop.trips), k0_off27 t5 = ![t5.val,0,0] := by decide +kernel
theorem off28 : ∀ (t10 : Fin k0_t10_loop.trips) (t11 : Fin k0_t11_loop.trips) (t12 : Fin k0_t12_loop.trips), k0_off28 t10 t11 t12 = ![(2*t10.val+t11.val)/8,256*((2*t10.val+t11.val)%8)+t12.val] := by decide +kernel
theorem off30 : ∀ (t12 : Fin k0_t12_loop.trips), k0_off30 t12 = ![t12.val,0] := by decide +kernel
theorem off31 : ∀ (t11 : Fin k0_t11_loop.trips), k0_off31 t11 = ![t11.val] := by decide +kernel
theorem off32 : ∀ (t10 : Fin k0_t10_loop.trips) (t11 : Fin k0_t11_loop.trips), 0 < t10.val → k0_off32 t10 t11 = ![512*t10.val+256*t11.val-512,768] := by decide +kernel
theorem off33 : ∀ (t11 : Fin k0_t11_loop.trips), k0_off33 t11 = ![t11.val,0,0] := by decide +kernel
theorem off34 : ∀ (t10 : Fin k0_t10_loop.trips) (t11 : Fin k0_t11_loop.trips), k0_off34 t10 t11 = ![512*t10.val+256*t11.val,0] := by decide +kernel
theorem off35 : ∀ (t13 : Fin k0_t13_loop.trips), k0_off35 t13 = ![0,256*(3+t13.val)] := by decide +kernel
theorem off38 : ∀ (t14 : Fin k0_t14_loop.trips), k0_off38 t14 = ![32*t14.val,0] := by decide +kernel
theorem off40 : ∀ (t14 : Fin k0_t14_loop.trips), k0_off40 t14 = ![32*t14.val,128] := by decide +kernel
theorem off41 : ∀ (t11 : Fin k0_t11_loop.trips), k0_off41 t11 = ![t11.val] := by decide +kernel
theorem off42 : ∀ (t10 : Fin k0_t10_loop.trips) (t11 : Fin k0_t11_loop.trips), k0_off42 t10 t11 = ![512*t10.val+256*t11.val,768] := by decide +kernel
theorem off43 : ∀ (t11 : Fin k0_t11_loop.trips), k0_off43 t11 = ![t11.val,0,0] := by decide +kernel
theorem off44 : ∀ (t15 : Fin k0_t15_loop.trips) (t16 : Fin k0_t16_loop.trips) (t17 : Fin k0_t17_loop.trips), k0_off44 t15 t16 t17 = ![(2*t15.val+t16.val)/8,256*((2*t15.val+t16.val)%8)+t17.val] := by decide +kernel
theorem off46 : ∀ (t17 : Fin k0_t17_loop.trips), k0_off46 t17 = ![t17.val,0] := by decide +kernel
theorem off47 : ∀ (t16 : Fin k0_t16_loop.trips), k0_off47 t16 = ![t16.val] := by decide +kernel
theorem off48 : ∀ (t15 : Fin k0_t15_loop.trips) (t16 : Fin k0_t16_loop.trips), 0 < t15.val → k0_off48 t15 t16 = ![512*t15.val+256*t16.val-512,1792] := by decide +kernel
theorem off49 : ∀ (t16 : Fin k0_t16_loop.trips), k0_off49 t16 = ![t16.val,0,0] := by decide +kernel
theorem off50 : ∀ (t15 : Fin k0_t15_loop.trips) (t16 : Fin k0_t16_loop.trips), k0_off50 t15 t16 = ![512*t15.val+256*t16.val,0] := by decide +kernel
theorem off51 : ∀ (t18 : Fin k0_t18_loop.trips), k0_off51 t18 = ![0,256*(7+t18.val)] := by decide +kernel
theorem off54 : ∀ (t19 : Fin k0_t19_loop.trips), k0_off54 t19 = ![32*t19.val,0] := by decide +kernel
theorem off56 : ∀ (t19 : Fin k0_t19_loop.trips), k0_off56 t19 = ![32*t19.val,128] := by decide +kernel
theorem off57 : ∀ (t16 : Fin k0_t16_loop.trips), k0_off57 t16 = ![t16.val] := by decide +kernel
theorem off58 : ∀ (t15 : Fin k0_t15_loop.trips) (t16 : Fin k0_t16_loop.trips), k0_off58 t15 t16 = ![512*t15.val+256*t16.val,1792] := by decide +kernel
theorem off59 : ∀ (t16 : Fin k0_t16_loop.trips), k0_off59 t16 = ![t16.val,0,0] := by decide +kernel
theorem off12_1040 : ∀ (t7 : Fin k0_t7_loop.trips), k0_off12 t7 1040#32 = ![1040+8*t7.val,0] := by decide +kernel
theorem off12_1300 : ∀ (t7 : Fin k0_t7_loop.trips), k0_off12 t7 1300#32 = ![1300+8*t7.val,0] := by decide +kernel
theorem off20_0 : ∀ (t8 : Fin k0_t8_loop.trips) (t9 : Fin k0_t9_loop.trips), k0_off20 t8 t9 0#32 = ![260*t8.val+32*t9.val+0,0] := by decide +kernel
theorem off20_1 : ∀ (t8 : Fin k0_t8_loop.trips) (t9 : Fin k0_t9_loop.trips), k0_off20 t8 t9 1#32 = ![260*t8.val+32*t9.val+1,0] := by decide +kernel
theorem off20_2 : ∀ (t8 : Fin k0_t8_loop.trips) (t9 : Fin k0_t9_loop.trips), k0_off20 t8 t9 2#32 = ![260*t8.val+32*t9.val+2,0] := by decide +kernel
theorem off20_3 : ∀ (t8 : Fin k0_t8_loop.trips) (t9 : Fin k0_t9_loop.trips), k0_off20 t8 t9 3#32 = ![260*t8.val+32*t9.val+3,0] := by decide +kernel
theorem off36_0 : ∀ (t13 : Fin k0_t13_loop.trips) (t14 : Fin k0_t14_loop.trips), k0_off36 t13 t14 0#32 = ![260*t13.val+32*t14.val+0,0] := by decide +kernel
theorem off36_1 : ∀ (t13 : Fin k0_t13_loop.trips) (t14 : Fin k0_t14_loop.trips), k0_off36 t13 t14 1#32 = ![260*t13.val+32*t14.val+1,0] := by decide +kernel
theorem off36_2 : ∀ (t13 : Fin k0_t13_loop.trips) (t14 : Fin k0_t14_loop.trips), k0_off36 t13 t14 2#32 = ![260*t13.val+32*t14.val+2,0] := by decide +kernel
theorem off36_3 : ∀ (t13 : Fin k0_t13_loop.trips) (t14 : Fin k0_t14_loop.trips), k0_off36 t13 t14 3#32 = ![260*t13.val+32*t14.val+3,0] := by decide +kernel
theorem off52_0 : ∀ (t18 : Fin k0_t18_loop.trips) (t19 : Fin k0_t19_loop.trips), k0_off52 t18 t19 0#32 = ![260*t18.val+32*t19.val+0,0] := by decide +kernel
theorem off52_1 : ∀ (t18 : Fin k0_t18_loop.trips) (t19 : Fin k0_t19_loop.trips), k0_off52 t18 t19 1#32 = ![260*t18.val+32*t19.val+1,0] := by decide +kernel
theorem off52_2 : ∀ (t18 : Fin k0_t18_loop.trips) (t19 : Fin k0_t19_loop.trips), k0_off52 t18 t19 2#32 = ![260*t18.val+32*t19.val+2,0] := by decide +kernel
theorem off52_3 : ∀ (t18 : Fin k0_t18_loop.trips) (t19 : Fin k0_t19_loop.trips), k0_off52 t18 t19 3#32 = ![260*t18.val+32*t19.val+3,0] := by decide +kernel
theorem off21_0 : ∀ (t4 : Fin k0_t4_loop.trips) (t5 : Fin k0_t5_loop.trips) (t9 : Fin k0_t9_loop.trips), k0_off21 t4 t5 t9 0#32 = ![512*t4.val+256*t5.val+32*t9.val+0,0] := by decide +kernel
theorem off21_1 : ∀ (t4 : Fin k0_t4_loop.trips) (t5 : Fin k0_t5_loop.trips) (t9 : Fin k0_t9_loop.trips), k0_off21 t4 t5 t9 1#32 = ![512*t4.val+256*t5.val+32*t9.val+1,0] := by decide +kernel
theorem off21_2 : ∀ (t4 : Fin k0_t4_loop.trips) (t5 : Fin k0_t5_loop.trips) (t9 : Fin k0_t9_loop.trips), k0_off21 t4 t5 t9 2#32 = ![512*t4.val+256*t5.val+32*t9.val+2,0] := by decide +kernel
theorem off21_3 : ∀ (t4 : Fin k0_t4_loop.trips) (t5 : Fin k0_t5_loop.trips) (t9 : Fin k0_t9_loop.trips), k0_off21 t4 t5 t9 3#32 = ![512*t4.val+256*t5.val+32*t9.val+3,0] := by decide +kernel
theorem off37_0 : ∀ (t10 : Fin k0_t10_loop.trips) (t11 : Fin k0_t11_loop.trips) (t14 : Fin k0_t14_loop.trips), k0_off37 t10 t11 t14 0#32 = ![512*t10.val+256*t11.val+32*t14.val+0,0] := by decide +kernel
theorem off37_1 : ∀ (t10 : Fin k0_t10_loop.trips) (t11 : Fin k0_t11_loop.trips) (t14 : Fin k0_t14_loop.trips), k0_off37 t10 t11 t14 1#32 = ![512*t10.val+256*t11.val+32*t14.val+1,0] := by decide +kernel
theorem off37_2 : ∀ (t10 : Fin k0_t10_loop.trips) (t11 : Fin k0_t11_loop.trips) (t14 : Fin k0_t14_loop.trips), k0_off37 t10 t11 t14 2#32 = ![512*t10.val+256*t11.val+32*t14.val+2,0] := by decide +kernel
theorem off37_3 : ∀ (t10 : Fin k0_t10_loop.trips) (t11 : Fin k0_t11_loop.trips) (t14 : Fin k0_t14_loop.trips), k0_off37 t10 t11 t14 3#32 = ![512*t10.val+256*t11.val+32*t14.val+3,0] := by decide +kernel
theorem off53_0 : ∀ (t15 : Fin k0_t15_loop.trips) (t16 : Fin k0_t16_loop.trips) (t19 : Fin k0_t19_loop.trips), k0_off53 t15 t16 t19 0#32 = ![512*t15.val+256*t16.val+32*t19.val+0,0] := by decide +kernel
theorem off53_1 : ∀ (t15 : Fin k0_t15_loop.trips) (t16 : Fin k0_t16_loop.trips) (t19 : Fin k0_t19_loop.trips), k0_off53 t15 t16 t19 1#32 = ![512*t15.val+256*t16.val+32*t19.val+1,0] := by decide +kernel
theorem off53_2 : ∀ (t15 : Fin k0_t15_loop.trips) (t16 : Fin k0_t16_loop.trips) (t19 : Fin k0_t19_loop.trips), k0_off53 t15 t16 t19 2#32 = ![512*t15.val+256*t16.val+32*t19.val+2,0] := by decide +kernel
theorem off53_3 : ∀ (t15 : Fin k0_t15_loop.trips) (t16 : Fin k0_t16_loop.trips) (t19 : Fin k0_t19_loop.trips), k0_off53 t15 t16 t19 3#32 = ![512*t15.val+256*t16.val+32*t19.val+3,0] := by decide +kernel
theorem off23_0 : ∀ (t5 : Fin k0_t5_loop.trips) (t8 : Fin k0_t8_loop.trips) (t9 : Fin k0_t9_loop.trips), k0_off23 t5 t8 t9 0#32 = ![t5.val,32*t9.val,256*t8.val+0] := by decide +kernel
theorem off23_128 : ∀ (t5 : Fin k0_t5_loop.trips) (t8 : Fin k0_t8_loop.trips) (t9 : Fin k0_t9_loop.trips), k0_off23 t5 t8 t9 128#32 = ![t5.val,32*t9.val,256*t8.val+128] := by decide +kernel
theorem off39_0 : ∀ (t11 : Fin k0_t11_loop.trips) (t13 : Fin k0_t13_loop.trips) (t14 : Fin k0_t14_loop.trips), k0_off39 t11 t13 t14 0#32 = ![t11.val,32*t14.val,256*t13.val+0] := by decide +kernel
theorem off39_128 : ∀ (t11 : Fin k0_t11_loop.trips) (t13 : Fin k0_t13_loop.trips) (t14 : Fin k0_t14_loop.trips), k0_off39 t11 t13 t14 128#32 = ![t11.val,32*t14.val,256*t13.val+128] := by decide +kernel
theorem off55_0 : ∀ (t16 : Fin k0_t16_loop.trips) (t18 : Fin k0_t18_loop.trips) (t19 : Fin k0_t19_loop.trips), k0_off55 t16 t18 t19 0#32 = ![t16.val,32*t19.val,256*t18.val+0] := by decide +kernel
theorem off55_128 : ∀ (t16 : Fin k0_t16_loop.trips) (t18 : Fin k0_t18_loop.trips) (t19 : Fin k0_t19_loop.trips), k0_off55 t16 t18 t19 128#32 = ![t16.val,32*t19.val,256*t18.val+128] := by decide +kernel
theorem off5_0_0 : ∀ (t3 : Fin k0_t3_loop.trips), k0_off5 t3 0#32 0#32 = ![0+32*t3.val,0] := by decide +kernel
theorem off5_0_8 : ∀ (t3 : Fin k0_t3_loop.trips), k0_off5 t3 0#32 8#32 = ![8+32*t3.val,0] := by decide +kernel
theorem off5_0_16 : ∀ (t3 : Fin k0_t3_loop.trips), k0_off5 t3 0#32 16#32 = ![16+32*t3.val,0] := by decide +kernel
theorem off5_0_24 : ∀ (t3 : Fin k0_t3_loop.trips), k0_off5 t3 0#32 24#32 = ![24+32*t3.val,0] := by decide +kernel
theorem off5_8008_0 : ∀ (t3 : Fin k0_t3_loop.trips), k0_off5 t3 8008#32 0#32 = ![8008+32*t3.val,0] := by decide +kernel
theorem off5_8008_8 : ∀ (t3 : Fin k0_t3_loop.trips), k0_off5 t3 8008#32 8#32 = ![8016+32*t3.val,0] := by decide +kernel
theorem off5_8008_16 : ∀ (t3 : Fin k0_t3_loop.trips), k0_off5 t3 8008#32 16#32 = ![8024+32*t3.val,0] := by decide +kernel
theorem off5_8008_24 : ∀ (t3 : Fin k0_t3_loop.trips), k0_off5 t3 8008#32 24#32 = ![8032+32*t3.val,0] := by decide +kernel
theorem cond1 : ∀ t : Fin k0_t4_loop.trips, k0_cond1 t = 1#1 ↔ 0 < t.val := by decide +kernel
theorem cond2 : ∀ t : Fin k0_t10_loop.trips, k0_cond2 t = 1#1 ↔ 0 < t.val := by decide +kernel
theorem cond3 : ∀ t : Fin k0_t15_loop.trips, k0_cond3 t = 1#1 ↔ 0 < t.val := by decide +kernel

end Cert.Kernel.Offs
-- ==== Proof.Spec.lean ====
/-
  What the kernel computes, entry by entry, over any float type: each scratch buffer's contents as a function of the three argument
  arrays, in the printed payload functions.
-/
module

public import proofs.«01_k».proof.Proof.Gen.Kernel.Skeleton
public import Idealize.ShloMosaic.Lib.Pointwise.Index

@[expose] public section

set_option maxRecDepth 16384

noncomputable section

namespace Cert.Kernel.Spec

open Idealize.ShloMosaic Idealize.ShloMosaic.TcCoe Cert.Kernel Cert.Kernel.Gen

/-- The entry of a rank-2 array at two natural coordinates, each taken modulo its extent. -/
def rd2 {α : Type} {n m : ℕ} [NeZero n] [NeZero m] (v : (⟨2, ![n, m]⟩ : Shape).Idx → α) (a b : ℕ) : α :=
  v (ix2 (Fin.ofNat n a) (Fin.ofNat m b))

theorem rd2_of {α : Type} {n m : ℕ} [NeZero n] [NeZero m] (v : (⟨2, ![n, m]⟩ : Shape).Idx → α) (i : (⟨2, ![n, m]⟩ : Shape).Idx) {a b : ℕ}
    (ha : (i 0 : ℕ) = a) (hb : (i 1 : ℕ) = b) : v i = rd2 v a b := by
  subst ha; subst hb
  refine congrArg v ?_
  funext x
  fin_cases x
  · exact Fin.ext (Nat.mod_eq_of_lt (i 0).isLt).symm
  · exact Fin.ext (Nat.mod_eq_of_lt (i 1).isLt).symm

theorem rd2_ix {α : Type} {n m : ℕ} [NeZero n] [NeZero m] (v : (⟨2, ![n, m]⟩ : Shape).Idx → α) {a b : ℕ} (ha : a < n) (hb : b < m) :
    rd2 v a b = v (ix2 ⟨a, ha⟩ ⟨b, hb⟩) := (rd2_of v (ix2 ⟨a, ha⟩ ⟨b, hb⟩) rfl rfl).symm

variable {F : FTy → Type} [FloatOps F]

section Ids
variable (ids : Vec F S4x2048 .i32)

/-- Row `t / 4` of the tables, for token `t`. -/
def GG (t : ℕ) : ℕ := (show BitVec 32 from rd2 (k0_pay40 (F := F) ids) (t / 2048) (t % 2048)).toNat

/-- Block `b` of 128 token ids. -/
def rowOf (b : ℕ) : Vec F S1x128 .i32 := fun x => rd2 ids (b / 16) (128 * (b % 16) + (x 1 : ℕ))

/-- The shift of token `t`: eight times its place in its group of four. -/
def SH (t l : ℕ) : BitVec 32 := rd2 (k0_pay41 (F := F) (rowOf ids (t / 128))) (t % 128) l

/-- Eight rows of shifts from `t`, `st` apart. -/
def SHB (t st : ℕ) : Vec F S8x128 .i32 := fun x => SH ids (t + st * (x 0 : ℕ)) (x 1 : ℕ)

end Ids

theorem t2_lt (a : ℕ) : a % 11 < k0_t2_loop.trips := lt_of_lt_of_eq (Nat.mod_lt a (by decide : 11 > 0)) (by decide +kernel)

/-- The matrix that spreads 88 scales over the columns. -/
def EXP (a c : ℕ) : F .bf16 :=
  rd2 (k0_pay46 (F := F) k0_pay42 (iota .tc S256x256 32 [1] iota_S256x256_d1_w32) 32#32 k0_pay43 k0_pay44 k0_pay45 ⟨c / 256 % 11, t2_lt _⟩) a (c % 256)

/-- 256 columns of it. -/
def EXPB (T : ℕ) : Vec F S256x256 .bf16 := fun x => EXP (x 0 : ℕ) (256 * T + (x 1 : ℕ))

section Scales
variable (scales : Vec F S88x32000 .i16)

/-- The scale words of 128 tokens, one row per token. -/
def TBUF (v : ℕ) : Vec F S128x128 .i32 := k0_pay1 (F := F) (fun x => rd2 scales (x 0 : ℕ) (128 * v + (x 1 : ℕ)))

/-- Plane `p` of the scale table at row `g`: the words of two of the four tokens, in two halves. -/
def SC (p g l : ℕ) : BitVec 32 := rd2 (TBUF scales (g / 32)) (4 * (g % 32) + 2 * p + (if l < 64 then 0 else 1)) l

end Scales

section All
variable (ids : Vec F S4x2048 .i32) (codes : Vec F S8000x1408 .i32) (scales : Vec F S88x32000 .i16)

/-- Eight gathered rows of scale plane `p`, for the tokens from `t`. -/
def SCG (p t : ℕ) : Vec F S8x128 .i32 := fun x => SC scales p (GG ids (t + (x 0 : ℕ))) (x 1 : ℕ)

/-- The left operand of the scale expansion: the scale's high part, then its low part. -/
def LHS (t m : ℕ) : F .f32 :=
  let s := SHB ids (8 * (t / 8)) 1
  let x := SCG ids scales 0 (8 * (t / 8))
  let y := SCG ids scales 1 (8 * (t / 8))
  if m < 128 then
    rd2 (k0_pay24 (F := F) (k0_pay8 (F := F) k0_pay47 s x y) (k0_pay9 (F := F) k0_pay47 s x y) (k0_pay10 (F := F) k0_pay47 s x y) (k0_pay11 (F := F) k0_pay47 s x y) k0_pay12 k0_pay13) (t % 8) m
  else
    rd2 (k0_pay25 (F := F) (k0_pay8 (F := F) k0_pay47 s x y) (k0_pay9 (F := F) k0_pay47 s x y) (k0_pay10 (F := F) k0_pay47 s x y) (k0_pay11 (F := F) k0_pay47 s x y) k0_pay12 k0_pay13) (t % 8) (m - 128)

def LHSB (b : ℕ) : Vec F S256x256 .f32 := fun x => LHS ids scales (256 * b + (x 0 : ℕ)) (x 1 : ℕ)

/-- The scales of block `b`'s tokens, spread over tile `T`'s columns. -/
def SCB (b T : ℕ) : Vec F S256x256 .f32 := k0_pay56 (F := F) (LHSB ids scales b) (EXPB T)

/-- Thirty-two rows of them, half `h` of the columns. -/
def SCU (b T u h : ℕ) : Vec F S32x128 .f32 := fun x => rd2 (SCB ids scales b T) (32 * u + (x 0 : ℕ)) (128 * h + (x 1 : ℕ))

/-- Eight gathered rows of code words of tile `T`, for every fourth token from `t`. -/
def CW (T t : ℕ) : Vec F S8x128 .i32 := fun x => rd2 codes (GG ids (t + 4 * (x 0 : ℕ))) (128 * T + (x 1 : ℕ))

def lane0 : IVec S8x128 32 := k0_pay53 (iota .tc S8x128 32 [1] iota_S8x128_d1_w32) 2#32 k0_pay51 k0_pay52
def lane1 : IVec S8x128 32 := k0_pay54 (iota .tc S8x128 32 [1] iota_S8x128_d1_w32)
def nib : IVec S8x128 32 := k0_pay55 (iota .tc S8x128 32 [1] iota_S8x128_d1_w32)

/-- Thirty-two rows of the result from row `t`, in tile `T`: the first 128 columns. -/
def OUT0 (T t : ℕ) (sc : Vec F S32x128 .f32) : Vec F S1x32x128 .bf16 :=
  k0_pay18 (F := F) lane0 nib (k0_pay14 (F := F) (CW ids codes T t) (SHB ids t 4)) (k0_pay15 (F := F) (CW ids codes T (t + 1)) (SHB ids (t + 1) 4))
    (k0_pay16 (F := F) (CW ids codes T (t + 2)) (SHB ids (t + 2) 4)) (CW ids codes T (t + 3)) (SHB ids (t + 3) 4) sc

/-- The other 128. -/
def OUT1 (T t : ℕ) (sc : Vec F S32x128 .f32) : Vec F S1x32x128 .bf16 :=
  k0_pay57 (F := F) (k0_pay19 (F := F) lane1 nib (k0_pay14 (F := F) (CW ids codes T t) (SHB ids t 4)) (k0_pay15 (F := F) (CW ids codes T (t + 1)) (SHB ids (t + 1) 4))
    (k0_pay16 (F := F) (CW ids codes T (t + 2)) (SHB ids (t + 2) 4)) (CW ids codes T (t + 3)) (SHB ids (t + 3) 4)) 4042322160#32 sc

/-- The result at row `t`, column `c`. -/
def OUT (t c : ℕ) : F .bf16 :=
  if c % 256 < 128 then
    OUT0 ids codes (c / 256) (32 * (t / 32)) (SCU ids scales (t / 256) (c / 256) (t % 256 / 32) 0) (ix3 0 (Fin.ofNat 32 t) (Fin.ofNat 128 c))
  else
    OUT1 ids codes (c / 256) (32 * (t / 32)) (SCU ids scales (t / 256) (c / 256) (t % 256 / 32) 1) (ix3 0 (Fin.ofNat 32 t) (Fin.ofNat 128 c))

end All

end Cert.Kernel.Spec
-- ==== Proof.Setup.lean ====
/-
  The loops that fill the shift table, the expansion matrix and the scale planes.
-/
module

public import proofs.«01_k».proof.Proof.At
public import proofs.«01_k».proof.Proof.Tools
public import proofs.«01_k».proof.Proof.Offs
public import proofs.«01_k».proof.Proof.Spec
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

/-- Before trip `n` of the shift loop: the rows written so far. -/
def I1 (q : PosShare TreeShare) (ids : Vec F S4x2048 .i32) (n : ℕ) : sProp 𝕄 :=
  iprop(AT c arg0 Whole q ids ∗ ∃ v : Vec F S8192x128 .i32, AT c arg8 Whole fullShare v ∗ ⌜∀ i : S8192x128.Idx, (i 0 : ℕ) < 128 * n → v i = SH ids (i 0) (i 1)⌝)

theorem t1_step (q : PosShare TreeShare) (ids : Vec F S4x2048 .i32) (k : Fin k0_t1_loop.trips) (acc : Unit) :
    I1 c arg0 arg8 q ids k.val
      ⊢ WP (wpE (defs₀ (F := F)) 𝒱 (c : Thread nD τ) bd) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k acc) (fun _ => I1 c arg0 arg8 q ids (k.val + 1)) := by
  have hk : k.val < 64 := lt_of_lt_of_eq k.isLt (by decide +kernel)
  unfold I1 k0_t1_body
  iintro ⟨H0, %v, H8, %hv⟩
  iapply (AT_load (m := arg0) (fun _ => trivial)) $$ H0
  iintro H0
  iapply (AT_load (m := arg8) (fun _ => trivial)) $$ H8
  iintro H8
  iapply (AT_put (m := arg8) (fun _ => trivial)) $$ H8
  iintro %v' %h' H8
  iapply done
  isplitl [H0]; · iexact H0
  iexists v'; isplitl [H8]; · iexact H8
  ipureintro
  intro i hi
  rcases hit2 (h' i trivial) (congrFun (off2 k) 0) (congrFun (off2 k) 1) rfl rfl with ⟨x, h0, h1, b0, b1, e⟩ | ⟨hn, e⟩
  · rw [e]
    unfold SH
    rw [show (fun x => ids ((Rect.unit (s := S4x2048) (k0_off1 k) S1x128.size (k0_off1_inb k)).toLoadRect.idx x)) = rowOf ids (↑(i 0) / 128) from funext fun y => ?_]
    · exact rd2_of _ x (by simp at h0 b0; omega) (by simp at h1; omega)
    · refine rd2_of ids _ ((lidx (congrFun (off1 k) 0) rfl).trans ?_) ((lidx (congrFun (off1 k) 1) rfl).trans ?_)
      · have := (y 0).isLt; simp at h0 b0 this ⊢; omega
      · simp at h0 b0 ⊢; omega
  · rw [e]; exact hv i (by simp at hn; have := (i 1).isLt; simp at this; omega)

/-- Before trip `n` of the expansion loop: the columns written so far. -/
def I2 (n : ℕ) : sProp 𝕄 :=
  iprop(∃ v : Vec F S256x2816 .bf16, AT c arg10 Whole fullShare v ∗ ⌜∀ i : S256x2816.Idx, (i 1 : ℕ) < 256 * n → v i = EXP (i 0) (i 1)⌝)

theorem t2_step (k : Fin k0_t2_loop.trips) (acc : Unit) :
    I2 (F := F) c arg10 k.val
      ⊢ WP (wpE (defs₀ (F := F)) 𝒱 (c : Thread nD τ) bd) Set.univ
        (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_pay42 (iota .tc S256x256 32 [1] iota_S256x256_d1_w32) 32#32 k0_pay43 k0_pay44 k0_pay45 k acc) (fun _ => I2 c arg10 (k.val + 1)) := by
  have hk : k.val < 11 := lt_of_lt_of_eq k.isLt (by decide +kernel)
  unfold I2 k0_t2_body
  iintro ⟨%v, H8, %hv⟩
  iapply (AT_load (m := arg10) (fun _ => trivial)) $$ H8
  iintro H8
  iapply (AT_put (m := arg10) (fun _ => trivial)) $$ H8
  iintro %v' %h' H8
  iapply done
  iexists v'; isplitl [H8]; · iexact H8
  ipureintro
  intro i hi
  rcases hit2 (h' i trivial) (congrFun (off3 k) 0) (congrFun (off3 k) 1) rfl rfl with ⟨x, h0, h1, b0, b1, e⟩ | ⟨hn, e⟩
  · rw [e]
    unfold EXP
    simp at h0 h1 b0 b1
    rw [show (⟨(i 1 : ℕ) / 256 % 11, t2_lt _⟩ : Fin k0_t2_loop.trips) = k from Fin.ext (by show _ % 11 = _; omega)]
    exact rd2_of _ x (by omega) (by omega)
  · rw [e]; exact hv i (by simp at hn; have := (i 0).isLt; simp at this; omega)

/-- Between two rows of scale words, by the lane. -/
theorem selb (P : Prop) [Decidable P] (f : ℕ → BitVec 32) (a : ℕ) : Scalar.select (BitVec.ofBool (decide P)) (f a) (f (a + 1)) = f (a + if P then 0 else 1) := by
  by_cases h : P
  · rw [decide_eq_true h, if_pos h]; rfl
  · rw [decide_eq_false h, if_neg h]; rfl

theorem sel_low (T : Vec F S128x128 .i32) (A : ℕ) (u w : Vec F S8x128 .i32) (hu : ∀ y : S8x128.Idx, u y = rd2 T (A + 4 * (y 0 : ℕ)) (y 1)) (hw : ∀ y : S8x128.Idx, w y = rd2 T (A + 1 + 4 * (y 0 : ℕ)) (y 1))
    (x : S8x128.Idx) : k0_pay2 (F := F) k0_pay47 u w x = rd2 T (A + 4 * (x 0 : ℕ) + (if (x 1 : ℕ) < 64 then 0 else 1)) (x 1) := by
  have hl : ∀ l : Fin 128, (BitVec.slt (BitVec.ofNat 32 l.val) 64#32) = decide (l.val < 64) := by decide +kernel
  idx_vars x
  pointwise [k0_pay2, k0_pay47]
  have hc : IntOp.cmpi CmpIPredicate.slt (BitVec.ofNat 32 ↑x1) 64#32 = BitVec.ofBool (decide ((x1 : ℕ) < 64)) := congrArg BitVec.ofBool (hl x1)
  rw [hc, hu, hw]
  simp only [ix2_0, ix2_1]
  rw [show A + 1 + 4 * (x0 : ℕ) = A + 4 * (x0 : ℕ) + 1 by omega]
  exact selb _ (fun r => rd2 T r (x1 : ℕ)) _

theorem whole2 {n m : ℕ} (inb) (x : (⟨2, ![n, m]⟩ : Shape).Idx) : (Rect.unit (s := ⟨2, ![n, m]⟩) ![0, 0] ![n, m] inb).emb x = x := by
  funext a
  refine Fin.ext ?_
  match a with
  | ⟨0, _⟩ => exact (remb rfl rfl).trans (by show 0 + 1 * (x 0 : ℕ) = (x 0 : ℕ); omega)
  | ⟨1, _⟩ => exact (remb rfl rfl).trans (by show 0 + 1 * (x 1 : ℕ) = (x 1 : ℕ); omega)

/-- Before trip `n` of the scale loop: the rows of the two planes written so far. -/
def I3 (q : PosShare TreeShare) (scales : Vec F S88x32000 .i16) (n : ℕ) : sProp 𝕄 :=
  iprop(AT c arg5 Whole q scales ∗ (∃ u : Vec F S128x128 .i32, AT c arg12 Whole fullShare u) ∗
    ∃ v : Vec F S80080x128 .i32, AT c arg4 (fun i => (i 0 : ℕ) < 16016) fullShare v ∗
      ⌜∀ i : S80080x128.Idx, ((i 0 : ℕ) < 32 * n → v i = SC scales 0 (i 0) (i 1)) ∧ (8008 ≤ (i 0 : ℕ) → (i 0 : ℕ) < 8008 + 32 * n → v i = SC scales 1 ((i 0 : ℕ) - 8008) (i 1))⌝)

theorem t3_step (q : PosShare TreeShare) (scales : Vec F S88x32000 .i16) (k : Fin k0_t3_loop.trips) (acc : Unit) :
    I3 c arg4 arg5 arg12 q scales k.val
      ⊢ WP (wpE (defs₀ (F := F)) 𝒱 (c : Thread nD τ) bd) Set.univ
        (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_pay42 (iota .tc S256x256 32 [1] iota_S256x256_d1_w32) 32#32 k0_pay43 k0_pay44 k0_pay45 k acc) (fun _ => I3 c arg4 arg5 arg12 q scales (k.val + 1)) := by
  have hk : k.val < 250 := lt_of_lt_of_eq k.isLt (by decide +kernel)
  have B4 : ∀ {off : Fin 2 → ℕ} {a : ℕ} {inb}, off = ![a, 0] → a + 8 ≤ 16016 → ∀ x, (fun i : S80080x128.Idx => (i 0 : ℕ) < 16016) ((Rect.unit (s := S80080x128) off S8x128.size inb).emb x) := by
    intro off a inb ho ha x
    show ((Rect.unit (s := S80080x128) off S8x128.size inb).emb x 0 : ℕ) < 16016
    rw [remb (congrFun ho 0) rfl]
    have : (x 0 : ℕ) < 8 := (x 0).isLt
    show a + 1 * (x 0 : ℕ) < 16016
    omega
  unfold I3 k0_t3_body
  rw [k0_part1_eq_skeleton, k0_part2_eq_skeleton]
  unfold k0_part1_skel k0_part2_skel
  iintro ⟨H5, ⟨%u, H12⟩, %v, H4, %hv⟩
  iapply (AT_load (m := arg5) (fun _ => trivial)) $$ H5
  iintro H5
  iapply (AT_load (m := arg12) (fun _ => trivial)) $$ H12
  iintro H12
  iapply (AT_store (m := arg12) (TBUF scales k.val) (fun _ => trivial) ?_ ?_) $$ H12
  · intro x
    rw [whole2 inb_S128x128_S128x128_0_0 x]
    unfold TBUF
    refine congrFun (congrArg (k0_pay1 (F := F)) (funext fun y => ?_)) x
    exact (rd2_of scales _ ((lidx (congrFun (off4 k) 0) rfl).trans (by show 0 + 1 * (y 0 : ℕ) = _; omega)) ((lidx (congrFun (off4 k) 1) rfl).trans (by show 128 * k.val + 1 * (y 1 : ℕ) = _; omega))).symm
  · intro i _ hi
    exact absurd (whole2 inb_S128x128_S128x128_0_0 i) (hi i)
  iintro H12
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg4) (B4 (off5_0_0 k) (by omega))) $$ H4
  iintro H4
  iapply (AT_put (m := arg4) (B4 (off5_0_0 k) (by omega))) $$ H4
  iintro %v1 %h1 H4
  iapply (AT_load (m := arg4) (B4 (off5_8008_0 k) (by omega))) $$ H4
  iintro H4
  iapply (AT_put (m := arg4) (B4 (off5_8008_0 k) (by omega))) $$ H4
  iintro %v2 %h2 H4
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg4) (B4 (off5_0_8 k) (by omega))) $$ H4
  iintro H4
  iapply (AT_put (m := arg4) (B4 (off5_0_8 k) (by omega))) $$ H4
  iintro %v3 %h3 H4
  iapply (AT_load (m := arg4) (B4 (off5_8008_8 k) (by omega))) $$ H4
  iintro H4
  iapply (AT_put (m := arg4) (B4 (off5_8008_8 k) (by omega))) $$ H4
  iintro %v4 %h4 H4
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg4) (B4 (off5_0_16 k) (by omega))) $$ H4
  iintro H4
  iapply (AT_put (m := arg4) (B4 (off5_0_16 k) (by omega))) $$ H4
  iintro %v5 %h5 H4
  iapply (AT_load (m := arg4) (B4 (off5_8008_16 k) (by omega))) $$ H4
  iintro H4
  iapply (AT_put (m := arg4) (B4 (off5_8008_16 k) (by omega))) $$ H4
  iintro %v6 %h6 H4
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg12) (fun _ => trivial)) $$ H12
  iintro H12
  iapply (AT_load (m := arg4) (B4 (off5_0_24 k) (by omega))) $$ H4
  iintro H4
  iapply (AT_put (m := arg4) (B4 (off5_0_24 k) (by omega))) $$ H4
  iintro %v7 %h7 H4
  iapply (AT_load (m := arg4) (B4 (off5_8008_24 k) (by omega))) $$ H4
  iintro H4
  iapply (AT_put (m := arg4) (B4 (off5_8008_24 k) (by omega))) $$ H4
  iintro %v8 %h8 H4
  iapply done
  isplitl [H5]; · iexact H5
  isplitl [H12]; · iexists _; iexact H12
  iexists v8; isplitl [H4]; · iexact H4
  ipureintro
  intro i
  have il : (i 1 : ℕ) < 128 := (i 1).isLt
  have HIT : ∀ (p s : ℕ) (u w : Vec F S8x128 .i32) (x : S8x128.Idx), p < 2 → s < 4 → (x 0 : ℕ) < 8 →
      (∀ y : S8x128.Idx, u y = rd2 (TBUF scales k.val) (32 * s + 2 * p + 4 * (y 0 : ℕ)) (y 1)) → (∀ y : S8x128.Idx, w y = rd2 (TBUF scales k.val) (32 * s + 2 * p + 1 + 4 * (y 0 : ℕ)) (y 1)) →
      (i 0 : ℕ) = 8008 * p + 8 * s + 32 * k.val + (x 0 : ℕ) → (i 1 : ℕ) = 0 + (x 1 : ℕ) →
      ((i 0 : ℕ) < 32 * (k.val + 1) → k0_pay2 (F := F) k0_pay47 u w x = SC scales 0 (i 0) (i 1)) ∧ (8008 ≤ (i 0 : ℕ) → (i 0 : ℕ) < 8008 + 32 * (k.val + 1) → k0_pay2 (F := F) k0_pay47 u w x = SC scales 1 ((i 0 : ℕ) - 8008) (i 1)) := by
    intro p s u w x hp hs hx hu hw h0 h1
    rw [sel_low (TBUF scales k.val) (32 * s + 2 * p) u w hu hw x]
    unfold SC
    refine ⟨fun h => ?_, fun h h' => ?_⟩
    · have hp0 : p = 0 := by omega
      subst hp0
      rw [show (i 0 : ℕ) / 32 = k.val by omega, show (x 1 : ℕ) = (i 1 : ℕ) by omega, show 4 * ((i 0 : ℕ) % 32) = 32 * s + 4 * (x 0 : ℕ) by omega]
      congr 1 <;> omega
    · have hp0 : p = 1 := by omega
      subst hp0
      rw [show ((i 0 : ℕ) - 8008) / 32 = k.val by omega, show (x 1 : ℕ) = (i 1 : ℕ) by omega, show 4 * (((i 0 : ℕ) - 8008) % 32) = 32 * s + 4 * (x 0 : ℕ) by omega]
      congr 1 <;> omega
  have RD : ∀ {A : ℕ} {inb} (y : S8x128.Idx), TBUF scales k.val ((⟨![A, 0], S8x128.size, ![4, 1], inb⟩ : LoadRect S128x128).idx y) = rd2 (TBUF scales k.val) (A + 4 * (y 0 : ℕ)) (y 1) :=
    fun y => rd2_of _ _ ((lidx rfl rfl).trans rfl) ((lidx rfl rfl).trans (by show 0 + 1 * (y 1 : ℕ) = _; omega))
  by_cases im : (i 0 : ℕ) < 16016
  · rcases hit2 (h8 i im) (a := 8032 + 32 * k.val) (b := 0) (p := 8) (q := 128) (congrFun (off5_8008_24 k) 0) (congrFun (off5_8008_24 k) 1) rfl rfl with ⟨x, g0, g1, b0, b1, e⟩ | ⟨n8, e8⟩
    · rw [e]; exact HIT 1 3 _ _ x (by omega) (by omega) b0 (fun y => RD y) (fun y => RD y) (g0.trans (by show 8032 + 32 * k.val + _ = _; omega)) g1
    rcases hit2 (h7 i im) (a := 24 + 32 * k.val) (b := 0) (p := 8) (q := 128) (congrFun (off5_0_24 k) 0) (congrFun (off5_0_24 k) 1) rfl rfl with ⟨x, g0, g1, b0, b1, e⟩ | ⟨n7, e7⟩
    · rw [e8, e]; exact HIT 0 3 _ _ x (by omega) (by omega) b0 (fun y => RD y) (fun y => RD y) (g0.trans (by show 24 + 32 * k.val + _ = _; omega)) g1
    rcases hit2 (h6 i im) (a := 8024 + 32 * k.val) (b := 0) (p := 8) (q := 128) (congrFun (off5_8008_16 k) 0) (congrFun (off5_8008_16 k) 1) rfl rfl with ⟨x, g0, g1, b0, b1, e⟩ | ⟨n6, e6⟩
    · rw [e8, e7, e]; exact HIT 1 2 _ _ x (by omega) (by omega) b0 (fun y => RD y) (fun y => RD y) (g0.trans (by show 8024 + 32 * k.val + _ = _; omega)) g1
    rcases hit2 (h5 i im) (a := 16 + 32 * k.val) (b := 0) (p := 8) (q := 128) (congrFun (off5_0_16 k) 0) (congrFun (off5_0_16 k) 1) rfl rfl with ⟨x, g0, g1, b0, b1, e⟩ | ⟨n5, e5⟩
    · rw [e8, e7, e6, e]; exact HIT 0 2 _ _ x (by omega) (by omega) b0 (fun y => RD y) (fun y => RD y) (g0.trans (by show 16 + 32 * k.val + _ = _; omega)) g1
    rcases hit2 (h4 i im) (a := 8016 + 32 * k.val) (b := 0) (p := 8) (q := 128) (congrFun (off5_8008_8 k) 0) (congrFun (off5_8008_8 k) 1) rfl rfl with ⟨x, g0, g1, b0, b1, e⟩ | ⟨n4, e4⟩
    · rw [e8, e7, e6, e5, e]; exact HIT 1 1 _ _ x (by omega) (by omega) b0 (fun y => RD y) (fun y => RD y) (g0.trans (by show 8016 + 32 * k.val + _ = _; omega)) g1
    rcases hit2 (h3 i im) (a := 8 + 32 * k.val) (b := 0) (p := 8) (q := 128) (congrFun (off5_0_8 k) 0) (congrFun (off5_0_8 k) 1) rfl rfl with ⟨x, g0, g1, b0, b1, e⟩ | ⟨n3, e3⟩
    · rw [e8, e7, e6, e5, e4, e]; exact HIT 0 1 _ _ x (by omega) (by omega) b0 (fun y => RD y) (fun y => RD y) (g0.trans (by show 8 + 32 * k.val + _ = _; omega)) g1
    rcases hit2 (h2 i im) (a := 8008 + 32 * k.val) (b := 0) (p := 8) (q := 128) (congrFun (off5_8008_0 k) 0) (congrFun (off5_8008_0 k) 1) rfl rfl with ⟨x, g0, g1, b0, b1, e⟩ | ⟨n2, e2⟩
    · rw [e8, e7, e6, e5, e4, e3, e]; exact HIT 1 0 _ _ x (by omega) (by omega) b0 (fun y => RD y) (fun y => RD y) (g0.trans (by show 8008 + 32 * k.val + _ = _; omega)) g1
    rcases hit2 (h1 i im) (a := 0 + 32 * k.val) (b := 0) (p := 8) (q := 128) (congrFun (off5_0_0 k) 0) (congrFun (off5_0_0 k) 1) rfl rfl with ⟨x, g0, g1, b0, b1, e⟩ | ⟨n1, e1⟩
    · rw [e8, e7, e6, e5, e4, e3, e2, e]; exact HIT 0 0 _ _ x (by omega) (by omega) b0 (fun y => RD y) (fun y => RD y) (g0.trans (by show 0 + 32 * k.val + _ = _; omega)) g1
    rw [e8, e7, e6, e5, e4, e3, e2, e1]
    exact ⟨fun h => (hv i).1 (by omega), fun h h' => (hv i).2 h (by omega)⟩
  · exact ⟨fun h => absurd h (by omega), fun h h' => absurd h' (by omega)⟩

end Cert.Kernel.Body
-- ==== Proof.Gather.lean ====
/-
  Gathering a block of table rows.
-/
module

public import proofs.«01_k».proof.Proof.Setup
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (q : PosShare TreeShare) (ids : Vec F S4x2048 .i32) (codes : Vec F S8000x1408 .i32) (scales : Vec F S88x32000 .i16)

/-- Rows `lo` to `hi` of the table. -/
def Rows (lo hi : ℕ) : S80080x128.Idx → Prop := fun i => lo ≤ (i 0 : ℕ) ∧ (i 0 : ℕ) < hi

/-- Slot `s` of the output buffer. -/
def Slot (s : ℕ) : S2x256x1024.Idx → Prop := fun i => (i 0 : ℕ) = s

/-- Entry `l` of row `r` of strip `j` of the gathered block `b`: the first four strips are code tiles from `T0`, the others scale planes. -/
def STG (T0 b j r l : ℕ) : BitVec 32 := if j < 4 then rd2 codes (GG ids (256 * b + r)) (128 * (T0 + j) + l) else SC scales (j - 4) (GG ids (256 * b + r)) l

/-- The strips in `J` are gathered up to row `n`. -/
def StagOK (J : ℕ → Prop) (T0 b n : ℕ) (v : Vec F S1560x128 .i32) : Prop :=
  ∀ (i : S1560x128.Idx) (j r : ℕ), J j → r < n → (i 0 : ℕ) = 260 * j + r → v i = STG ids codes scales T0 b j r (i 1)

/-- `W` planes of the table from plane `P` hold the code tiles from `T0`. -/
def TabOK (P W T0 : ℕ) (v : Vec F S80080x128 .i32) : Prop :=
  ∀ (i : S80080x128.Idx) (j g : ℕ), j < W → g < 8000 → (i 0 : ℕ) = 8008 * (P + j) + g → v i = rd2 codes g (128 * (T0 + j) + (i 1 : ℕ))

/-- The first two planes hold the scale words. -/
def ScaOK (v : Vec F S80080x128 .i32) : Prop :=
  ∀ (i : S80080x128.Idx) (j g : ℕ), j < 2 → g < 8000 → (i 0 : ℕ) = 8008 * j + g → v i = SC scales j g (i 1)

/-- The strips in use while the scales are prepared, and afterwards. -/
def J0 : ℕ → Prop := fun j => j < 3 ∨ (4 ≤ j ∧ j < 6)
def J1 : ℕ → Prop := fun j => j < 4

theorem toNat_add {v : BitVec 32} {a : ℕ} (hv : v.toNat < 8000) (ha : a < 80080) : (Scalar.indexCast (Scalar.addi (BitVec.ofNat 32 a) v)).toNat = a + v.toNat := by
  show (BitVec.ofNat 32 a + v).toNat = _
  rw [BitVec.toNat_add, BitVec.toNat_ofNat]; omega

theorem off7 {v : BitVec 32} (hv : v.toNat < 8000) : k0_off7 v = ![16016 + v.toNat, 0] := by
  exact congrArg (fun n => (![n, 0] : Fin 2 → ℕ)) (toNat_add (a := 16016) hv (by decide))
theorem off9 {v : BitVec 32} (hv : v.toNat < 8000) : k0_off9 v = ![0 + v.toNat, 0] := by
  exact congrArg (fun n => (![n, 0] : Fin 2 → ℕ)) (toNat_add (a := 0) hv (by decide))
theorem off29 {v : BitVec 32} (hv : v.toNat < 8000) : k0_off29 v = ![48048 + v.toNat, 0] := by
  exact congrArg (fun n => (![n, 0] : Fin 2 → ℕ)) (toNat_add (a := 48048) hv (by decide))
theorem off45 {v : BitVec 32} (hv : v.toNat < 8000) : k0_off45 v = ![16016 + v.toNat, 0] := by
  exact congrArg (fun n => (![n, 0] : Fin 2 → ℕ)) (toNat_add (a := 16016) hv (by decide))

theorem inb_of {off : Fin 2 → ℕ} {a n : ℕ} (ho : off = ![a, 0]) (hn : 0 < n) (ha : a + 8008 * (n - 1) < 80080) :
    ∀ x, (⟨2, ![n, 128]⟩ : Shape).size x = 0 ∨ off x + (![8008, 1] : Fin 2 → ℕ) x * ((⟨2, ![n, 128]⟩ : Shape).size x - 1) < S80080x128.size x := by
  subst ho
  exact Fin.forall_fin_two.mpr ⟨Or.inr ha, Or.inr (by show 0 + 1 * (128 - 1) < 128; decide)⟩

theorem chk1 {v : BitVec 32} (hv : v.toNat < 8000) : k0_chk1 v := ⟨inb_of (n := 3) (off7 hv) (by decide) (by omega), inb_of (n := 2) (off9 hv) (by decide) (by omega)⟩
theorem chk2 {v : BitVec 32} (hv : v.toNat < 8000) : k0_chk2 v := inb_of (n := 4) (off29 hv) (by decide) (by omega)
theorem chk3 {v : BitVec 32} (hv : v.toNat < 8000) : k0_chk3 v := inb_of (n := 4) (off45 hv) (by decide) (by omega)

/-- Strided rows of the table lie in the rows held. -/
theorem rows_in {off : Fin 2 → ℕ} {a n lo hi : ℕ} {inb} (ho : off = ![a, 0]) (hlo : lo ≤ a) (hhi : a + 8008 * (n - 1) < hi)
    (x : (⟨2, ![n, 128]⟩ : Shape).Idx) : Rows lo hi ((⟨off, ![n, 128], ![8008, 1], inb⟩ : LoadRect S80080x128).idx x) := by
  subst ho
  have h : (x 0 : ℕ) < n := (x 0).isLt
  have e : ((⟨![a, 0], ![n, 128], ![8008, 1], inb⟩ : LoadRect S80080x128).idx x 0 : ℕ) = a + 8008 * (x 0 : ℕ) := lidx rfl rfl
  unfold Rows; rw [e]; constructor <;> omega

theorem tab_rows {off : Fin 2 → ℕ} {g n P W T0 : ℕ} {inb} {v : Vec F S80080x128 .i32} (hv : TabOK codes P W T0 v) {g0 : ℕ} (ho : off = ![8008 * P + g0, 0]) (h0 : g0 = g) (hn : n ≤ W) (hg : g < 8000)
    (x : (⟨2, ![n, 128]⟩ : Shape).Idx) : v ((⟨off, ![n, 128], ![8008, 1], inb⟩ : LoadRect S80080x128).idx x) = rd2 codes g (128 * (T0 + (x 0 : ℕ)) + (x 1 : ℕ)) := by
  have h0 := h0.symm
  subst h0 ho
  have h : (x 0 : ℕ) < n := (x 0).isLt
  have e : ((⟨![8008 * P + g, 0], ![n, 128], ![8008, 1], inb⟩ : LoadRect S80080x128).idx x 0 : ℕ) = (8008 * P + g) + 8008 * (x 0 : ℕ) := lidx rfl rfl
  have e1 : ((⟨![8008 * P + g, 0], ![n, 128], ![8008, 1], inb⟩ : LoadRect S80080x128).idx x 1 : ℕ) = 0 + 1 * (x 1 : ℕ) := lidx rfl rfl
  rw [hv _ (x 0 : ℕ) g (by omega) hg (by rw [e]; omega), e1]
  congr 1; omega

theorem sca_rows {off : Fin 2 → ℕ} {g : ℕ} {inb} {v : Vec F S80080x128 .i32} (hv : ScaOK scales v) {g0 : ℕ} (ho : off = ![0 + g0, 0]) (h0 : g0 = g) (hg : g < 8000)
    (x : (⟨2, ![2, 128]⟩ : Shape).Idx) : v ((⟨off, ![2, 128], ![8008, 1], inb⟩ : LoadRect S80080x128).idx x) = SC scales (x 0) g (x 1) := by
  have h0 := h0.symm
  subst h0 ho
  have h : (x 0 : ℕ) < 2 := (x 0).isLt
  have e : ((⟨![0 + g, 0], ![2, 128], ![8008, 1], inb⟩ : LoadRect S80080x128).idx x 0 : ℕ) = (0 + g) + 8008 * (x 0 : ℕ) := lidx rfl rfl
  have e1 : ((⟨![0 + g, 0], ![2, 128], ![8008, 1], inb⟩ : LoadRect S80080x128).idx x 1 : ℕ) = 0 + 1 * (x 1 : ℕ) := lidx rfl rfl
  rw [hv _ (x 0 : ℕ) g (by omega) hg (by rw [e]; omega), e1, show 0 + 1 * (x 1 : ℕ) = (x 1 : ℕ) by omega]

/-- A token's table row, as the kernel reads it. -/
theorem tok {off : Fin 2 → ℕ} {b k : ℕ} {inb} {y} (ho : off = ![b / 8, 256 * (b % 8) + k]) (hk : k < 256) :
    (show BitVec 32 from k0_pay40 (F := F) ids ((Rect.unit (s := S4x2048) off S1x1.size inb).emb y)).toNat = GG ids (256 * b + k) := by
  subst ho
  unfold GG
  refine congrArg BitVec.toNat (rd2_of (k0_pay40 (F := F) ids) _ ((remb rfl rfl).trans ?_) ((remb rfl rfl).trans ?_))
  · have : (y 0 : ℕ) < 1 := (y 0).isLt
    show b / 8 + 1 * (y 0 : ℕ) = _; omega
  · have : (y 1 : ℕ) < 1 := (y 1).isLt
    show 256 * (b % 8) + k + 1 * (y 1 : ℕ) = _; omega

theorem GG_lt (h : ∀ t, t < 8192 → GG ids t < 8000) {b k : ℕ} (hb : b < 32) (hk : k < 256) : GG ids (256 * b + k) < 8000 := h _ (by omega)

/-- One more gathered row of some strips. -/
theorem stag_put {T : ℕ → ℕ → Prop} {T0 b k p o : ℕ} {off : Fin 2 → ℕ} {inb hp'} {w : (⟨2, ![p, 128]⟩ : Shape).Idx → BitVec 32} {v v' : Vec F S1560x128 .i32} (hk : k < 256) (hT : ∀ j r, T j r → r < 256)
    (h : ∀ i : S1560x128.Idx, True → (∃ x, (Rect.mk (⟨off, ![p, 128], ![260, 1], inb⟩ : LoadRect S1560x128) hp').emb x = i ∧ v' i = w x)
      ∨ (i ∉ (Rect.mk (⟨off, ![p, 128], ![260, 1], inb⟩ : LoadRect S1560x128) hp').set ∧ v' i = v i))
    (ho : off = ![260 * o + k, 0])
    (hw : ∀ x, w x = STG ids codes scales T0 b (o + (x 0 : ℕ)) k (x 1))
    (hold : ∀ (i : S1560x128.Idx) (j r : ℕ), T j r → ¬ (r = k ∧ o ≤ j ∧ j < o + p) → (i 0 : ℕ) = 260 * j + r → v i = STG ids codes scales T0 b j r (i 1)) :
    ∀ (i : S1560x128.Idx) (j r : ℕ), T j r → (i 0 : ℕ) = 260 * j + r → v' i = STG ids codes scales T0 b j r (i 1) := by
  intro i j r hJ hi
  have hr := hT j r hJ
  subst ho
  rcases hit2s (h i trivial) (a := 260 * o + k) (b := 0) (p := p) (q := 128) rfl rfl rfl rfl with ⟨x, g0, g1, b0, b1, e⟩ | ⟨n, e⟩
  · have hj : j = o + (x 0 : ℕ) := by omega
    have hr' : r = k := by omega
    rw [e, hw, hj, hr', show (x 1 : ℕ) = (i 1 : ℕ) by omega]
  · rw [e]
    refine hold i j r hJ (fun ⟨h1, h2, h3⟩ => ?_) hi
    have il : (i 1 : ℕ) < 128 := (i 1).isLt
    exact n (j - o) (by omega) (by omega) (by omega) (by omega)

theorem pay20_eq (v : Vec F S3x128 .i32) : k0_pay20 (F := F) v = v := by funext x; unfold k0_pay20; exact congrFun (shapeCast_id _ _) x
theorem pay21_eq (v : Vec F S2x128 .i32) : k0_pay21 (F := F) v = v := by funext x; unfold k0_pay21; exact congrFun (shapeCast_id _ _) x
theorem pay32_eq (v : Vec F S4x128 .i32) : k0_pay32 (F := F) v = v := by funext x; unfold k0_pay32; exact congrFun (shapeCast_id _ _) x
theorem pay39_eq (v : Vec F S4x128 .i32) : k0_pay39 (F := F) v = v := by funext x; unfold k0_pay39; exact congrFun (shapeCast_id _ _) x

/-- What the gather loops keep. -/
def IG (lo hi : ℕ) (J : ℕ → Prop) (T0 b : ℕ) (TB : Vec F S80080x128 .i32) (n : ℕ) : sProp 𝕄 :=
  iprop(AT c arg7 Whole fullShare (k0_pay40 (F := F) ids) ∗ AT c arg4 (Rows lo hi) fullShare TB ∗ ∃ v : Vec F S1560x128 .i32, AT c arg11 Whole fullShare v ∗ ⌜StagOK ids codes scales J T0 b n v⌝)

theorem t6_step (hids : ∀ t, t < 8192 → GG ids t < 8000) (TB : Vec F S80080x128 .i32) (hT' : TabOK codes 2 3 0 TB) (hS : ScaOK scales TB) (v77) (t4 : Fin k0_t4_loop.trips) (a19 c0 c1) (t5 : Fin k0_t5_loop.trips) (k : Fin k0_t6_loop.trips) (acc : Unit) :
    IG c arg4 arg7 arg11 ids codes scales 0 40040 J0 0 (2 * t4.val + t5.val) TB k.val
      ⊢ WP (wpE (defs₀ (F := F)) 𝒱 (c : Thread nD τ) bd) Set.univ (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 t4 a19 c0 c1 t5 k acc)
        (fun _ => IG c arg4 arg7 arg11 ids codes scales 0 40040 J0 0 (2 * t4.val + t5.val) TB (k.val + 1)) := by
  have hk : k.val < 256 := lt_of_lt_of_eq k.isLt (by decide +kernel)
  have h4 : t4.val < 16 := lt_of_lt_of_eq t4.isLt (by decide +kernel)
  have h5 : t5.val < 2 := lt_of_lt_of_eq t5.isLt (by decide +kernel)
  unfold IG k0_t6_body
  iintro ⟨H7, H4, %v, H11, %hv⟩
  unfold smemLoad smemLoadElt
  iapply (AT_load (m := arg7) (fun _ => trivial)) $$ H7
  iintro H7
  have hg := fun y => tok (F := F) ids (inb := k0_off6_inb t4 t5 k) (y := y) (off6 t4 t5 k) hk
  have hlt : GG ids (256 * (2 * t4.val + t5.val) + k.val) < 8000 := hids _ (by omega)
  iapply (wp_assume 𝒱 (c : Thread nD τ) bd Set.univ (chk1 ((hg _).trans_lt hlt)))
  iapply (AT_load (m := arg4) (rows_in (off7 ((hg _).trans_lt hlt)) (by omega) (by rw [hg]; omega))) $$ H4
  iintro H4
  iapply (AT_load (m := arg11) (fun _ => trivial)) $$ H11
  iintro H11
  iapply (AT_put (m := arg11) (fun _ => trivial)) $$ H11
  iintro %v1 %h1 H11
  iapply (AT_load (m := arg4) (rows_in (off9 ((hg _).trans_lt hlt)) (by omega) (by rw [hg]; omega))) $$ H4
  iintro H4
  iapply (AT_load (m := arg11) (fun _ => trivial)) $$ H11
  iintro H11
  iapply (AT_put (m := arg11) (fun _ => trivial)) $$ H11
  iintro %v2 %h2 H11
  iapply done
  isplitl [H7]; · iexact H7
  isplitl [H4]; · iexact H4
  iexists v2; isplitl [H11]; · iexact H11
  ipureintro
  refine fun i j r hJ hr hi => stag_put ids codes scales (T := fun j r => J0 j ∧ r < k.val + 1) hk (fun j r h => by omega) (p := 2) (o := 4) h2 (off10 k)
    (fun x => ?_) (fun i j r hT hn hi => ?_) i j r ⟨hJ, hr⟩ hi
  · refine (congrFun (pay21_eq _) x).trans ((sca_rows scales hS (off9 ((hg _).trans_lt hlt)) (hg _) hlt x).trans ?_)
    unfold STG; rw [if_neg (by omega), Nat.add_sub_cancel_left]
  · refine stag_put ids codes scales (T := fun j r => J0 j ∧ r < k.val + 1 ∧ ¬ (r = k.val ∧ 4 ≤ j ∧ j < 4 + 2)) hk (fun j r h => by omega) (p := 3) (o := 0) h1 ((off8 k).trans (by rw [Nat.mul_zero, Nat.zero_add]))
      (fun x => ?_) (fun i j r hT hn hi => ?_) i j r ⟨hT.1, hT.2, hn⟩ hi
    · have hx : (x 0 : ℕ) < 3 := (x 0).isLt
      refine (congrFun (pay20_eq _) x).trans ((tab_rows codes hT' (n := 3) (off7 ((hg _).trans_lt hlt)) (hg _) (by decide) hlt x).trans ?_)
      unfold STG; rw [if_pos (by omega)]; simp only [Nat.zero_add]
    · exact hv i j r hT.1 (by have := hT.1; unfold J0 at this; omega) hi

theorem t12_step (hids : ∀ t, t < 8192 → GG ids t < 8000) (TB : Vec F S80080x128 .i32) (hT : TabOK codes 6 4 3 TB) (tb : Fin k0_t10_loop.trips) (a19 c0 c1) (ts : Fin k0_t11_loop.trips) (k : Fin k0_t12_loop.trips) (acc : Unit) :
    IG c arg4 arg7 arg11 ids codes scales 48048 80080 J1 3 (2 * tb.val + ts.val) TB k.val
      ⊢ WP (wpE (defs₀ (F := F)) 𝒱 (c : Thread nD τ) bd) Set.univ (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 tb a19 c0 c1 ts k acc)
        (fun _ => IG c arg4 arg7 arg11 ids codes scales 48048 80080 J1 3 (2 * tb.val + ts.val) TB (k.val + 1)) := by
  have hk : k.val < 256 := lt_of_lt_of_eq k.isLt (by decide +kernel)
  have h4 : tb.val < 16 := lt_of_lt_of_eq tb.isLt (by decide +kernel)
  have h5 : ts.val < 2 := lt_of_lt_of_eq ts.isLt (by decide +kernel)
  unfold IG k0_t12_body
  iintro ⟨H7, H4, %v, H11, %hv⟩
  unfold smemLoad smemLoadElt
  iapply (AT_load (m := arg7) (fun _ => trivial)) $$ H7
  iintro H7
  have hg := fun y => tok (F := F) ids (inb := k0_off28_inb tb ts k) (y := y) (off28 tb ts k) hk
  have hlt : GG ids (256 * (2 * tb.val + ts.val) + k.val) < 8000 := hids _ (by omega)
  iapply (wp_assume 𝒱 (c : Thread nD τ) bd Set.univ (chk2 ((hg _).trans_lt hlt)))
  iapply (AT_load (m := arg4) (rows_in (off29 ((hg _).trans_lt hlt)) (by omega) (by rw [hg]; omega))) $$ H4
  iintro H4
  iapply (AT_load (m := arg11) (fun _ => trivial)) $$ H11
  iintro H11
  iapply (AT_put (m := arg11) (fun _ => trivial)) $$ H11
  iintro %v1 %h1 H11
  iapply done
  isplitl [H7]; · iexact H7
  isplitl [H4]; · iexact H4
  iexists v1; isplitl [H11]; · iexact H11
  ipureintro
  refine fun i j r hJ hr hi => stag_put ids codes scales (T := fun j r => J1 j ∧ r < k.val + 1) hk (fun j r h => by omega) (p := 4) (o := 0) h1 ((off30 k).trans (by rw [Nat.mul_zero, Nat.zero_add]))
    (fun x => ?_) (fun i j r hT hn hi => ?_) i j r ⟨hJ, hr⟩ hi
  · have hx : (x 0 : ℕ) < 4 := (x 0).isLt
    refine (congrFun (pay32_eq _) x).trans ((tab_rows codes hT (n := 4) (off29 ((hg _).trans_lt hlt)) (hg _) (by decide) hlt x).trans ?_)
    unfold STG; rw [if_pos (by omega)]; simp only [Nat.zero_add]
  · exact hv i j r hT.1 (by have := hT.1; unfold J1 at this; omega) hi

theorem t17_step (hids : ∀ t, t < 8192 → GG ids t < 8000) (TB : Vec F S80080x128 .i32) (hT : TabOK codes 2 4 7 TB) (tb : Fin k0_t15_loop.trips) (a19 c0 c1) (ts : Fin k0_t16_loop.trips) (k : Fin k0_t17_loop.trips) (acc : Unit) :
    IG c arg4 arg7 arg11 ids codes scales 16016 48048 J1 7 (2 * tb.val + ts.val) TB k.val
      ⊢ WP (wpE (defs₀ (F := F)) 𝒱 (c : Thread nD τ) bd) Set.univ (k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 tb a19 c0 c1 ts k acc)
        (fun _ => IG c arg4 arg7 arg11 ids codes scales 16016 48048 J1 7 (2 * tb.val + ts.val) TB (k.val + 1)) := by
  have hk : k.val < 256 := lt_of_lt_of_eq k.isLt (by decide +kernel)
  have h4 : tb.val < 16 := lt_of_lt_of_eq tb.isLt (by decide +kernel)
  have h5 : ts.val < 2 := lt_of_lt_of_eq ts.isLt (by decide +kernel)
  unfold IG k0_t17_body
  iintro ⟨H7, H4, %v, H11, %hv⟩
  unfold smemLoad smemLoadElt
  iapply (AT_load (m := arg7) (fun _ => trivial)) $$ H7
  iintro H7
  have hg := fun y => tok (F := F) ids (inb := k0_off44_inb tb ts k) (y := y) (off44 tb ts k) hk
  have hlt : GG ids (256 * (2 * tb.val + ts.val) + k.val) < 8000 := hids _ (by omega)
  iapply (wp_assume 𝒱 (c : Thread nD τ) bd Set.univ (chk3 ((hg _).trans_lt hlt)))
  iapply (AT_load (m := arg4) (rows_in (off45 ((hg _).trans_lt hlt)) (by omega) (by rw [hg]; omega))) $$ H4
  iintro H4
  iapply (AT_load (m := arg11) (fun _ => trivial)) $$ H11
  iintro H11
  iapply (AT_put (m := arg11) (fun _ => trivial)) $$ H11
  iintro %v1 %h1 H11
  iapply done
  isplitl [H7]; · iexact H7
  isplitl [H4]; · iexact H4
  iexists v1; isplitl [H11]; · iexact H11
  ipureintro
  refine fun i j r hJ hr hi => stag_put ids codes scales (T := fun j r => J1 j ∧ r < k.val + 1) hk (fun j r h => by omega) (p := 4) (o := 0) h1 ((off46 k).trans (by rw [Nat.mul_zero, Nat.zero_add]))
    (fun x => ?_) (fun i j r hT hn hi => ?_) i j r ⟨hJ, hr⟩ hi
  · have hx : (x 0 : ℕ) < 4 := (x 0).isLt
    refine (congrFun (pay39_eq _) x).trans ((tab_rows codes hT (n := 4) (off45 ((hg _).trans_lt hlt)) (hg _) (by decide) hlt x).trans ?_)
    unfold STG; rw [if_pos (by omega)]; simp only [Nat.zero_add]
  · exact hv i j r hT.1 (by have := hT.1; unfold J1 at this; omega) hi

end Cert.Kernel.Body
-- ==== Proof.Unit.lean ====
/-
  One block: the scale operand, the spread scales and the result rows.
-/
module

public import proofs.«01_k».proof.Proof.Gather
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16)

/-- The shift table, the expansion matrix and the scale operand, as arrays. -/
def SHF : Vec F S8192x128 .i32 := fun i => SH ids (i 0) (i 1)
def EXF : Vec F S256x2816 .bf16 := fun i => EXP (i 0) (i 1)
def LHF : Vec F S8192x256 .f32 := fun i => LHS ids scales (i 0) (i 1)

/-- What the preparation loop keeps. -/
def IP (b : ℕ) (vs : Vec F S1560x128 .i32) (n : ℕ) : sProp 𝕄 :=
  iprop(AT c arg8 Whole fullShare (SHF ids) ∗ AT c arg11 Whole fullShare vs ∗
    ∃ v : Vec F S8192x256 .f32, AT c arg9 Whole fullShare v ∗ ⌜∀ i : S8192x256.Idx, (i 0 : ℕ) < 256 * b + 8 * n → v i = LHS ids scales (i 0) (i 1)⌝)

theorem shf_rows {off : Fin 2 → ℕ} {a st : ℕ} {sf : Fin 2 → ℕ} {inb} (ho : off = ![a, 0]) (hs0 : sf 0 = st) (hs1 : sf 1 = 1) (x : (⟨2, ![8, 128]⟩ : Shape).Idx) :
    SHF ids ((⟨off, ![8, 128], sf, inb⟩ : LoadRect S8192x128).idx x) = SHB ids a st x := by
  subst ho
  have e : ((⟨![a, 0], ![8, 128], sf, inb⟩ : LoadRect S8192x128).idx x 0 : ℕ) = a + st * (x 0 : ℕ) := lidx rfl hs0
  have e1 : ((⟨![a, 0], ![8, 128], sf, inb⟩ : LoadRect S8192x128).idx x 1 : ℕ) = 0 + 1 * (x 1 : ℕ) := lidx rfl hs1
  unfold SHF SHB; rw [e, e1]; congr 1; omega

theorem stag_rows {J : ℕ → Prop} {T0 b j r st : ℕ} {off : Fin 2 → ℕ} {sf : Fin 2 → ℕ} {inb} {vs : Vec F S1560x128 .i32} (hs : StagOK ids codes scales J T0 b 256 vs) (hJ : J j) (ho : off = ![260 * j + r, 0]) (hr : r + st * 7 < 256)
    (hs0 : sf 0 = st) (hs1 : sf 1 = 1) (x : (⟨2, ![8, 128]⟩ : Shape).Idx) : vs ((⟨off, ![8, 128], sf, inb⟩ : LoadRect S1560x128).idx x) = STG ids codes scales T0 b j (r + st * (x 0 : ℕ)) (x 1) := by
  subst ho
  have h : (x 0 : ℕ) < 8 := (x 0).isLt
  have e : ((⟨![260 * j + r, 0], ![8, 128], sf, inb⟩ : LoadRect S1560x128).idx x 0 : ℕ) = (260 * j + r) + st * (x 0 : ℕ) := lidx rfl hs0
  have e1 : ((⟨![260 * j + r, 0], ![8, 128], sf, inb⟩ : LoadRect S1560x128).idx x 1 : ℕ) = 0 + 1 * (x 1 : ℕ) := lidx rfl hs1
  have hle : st * (x 0 : ℕ) ≤ st * 7 := Nat.mul_le_mul_left _ (by omega)
  rw [hs _ j (r + st * (x 0 : ℕ)) hJ (by omega) (by rw [e]; omega), e1]
  congr 1; omega

theorem stag_scale {J : ℕ → Prop} {T0 b p r : ℕ} {off : Fin 2 → ℕ} {sf : Fin 2 → ℕ} {inb} {vs : Vec F S1560x128 .i32} (hs : StagOK ids codes scales J T0 b 256 vs) (hJ : J (4 + p)) (ho : off = ![260 * (4 + p) + r, 0]) (hr : r + 1 * 7 < 256) (hs0 : sf 0 = 1) (hs1 : sf 1 = 1) {t : ℕ} (ht : t = 256 * b + r) :
    (fun x : (⟨2, ![8, 128]⟩ : Shape).Idx => vs ((⟨off, ![8, 128], sf, inb⟩ : LoadRect S1560x128).idx x)) = SCG ids scales p t := by
  subst ht
  funext x
  rw [stag_rows ids codes scales hs hJ ho hr hs0 hs1 x]
  unfold STG SCG
  rw [if_neg (by omega), Nat.add_sub_cancel_left, Nat.one_mul, Nat.add_assoc]

theorem stag_code {J : ℕ → Prop} {T0 b j r : ℕ} {off : Fin 2 → ℕ} {sf : Fin 2 → ℕ} {inb} {vs : Vec F S1560x128 .i32} (hs : StagOK ids codes scales J T0 b 256 vs) (hJ : J j) (hj : j < 4) (ho : off = ![260 * j + r, 0]) (hr : r + 4 * 7 < 256) (hs0 : sf 0 = 4) (hs1 : sf 1 = 1) {t : ℕ} (ht : t = 256 * b + r) :
    (fun x : (⟨2, ![8, 128]⟩ : Shape).Idx => vs ((⟨off, ![8, 128], sf, inb⟩ : LoadRect S1560x128).idx x)) = CW ids codes (T0 + j) t := by
  subst ht
  funext x
  rw [stag_rows ids codes scales hs hJ ho hr hs0 hs1 x]
  unfold STG CW
  rw [if_pos hj, Nat.add_assoc]

/-- Eight rows of the scale operand, from the two halves stored. -/
theorem lhs_eq {t : ℕ} (ht : t % 8 = 0) (r m : ℕ) (hr : r < 8) : LHS ids scales (t + r) m =
    (if m < 128 then
      rd2 (k0_pay24 (F := F) (k0_pay8 (F := F) k0_pay47 (SHB ids t 1) (SCG ids scales 0 t) (SCG ids scales 1 t)) (k0_pay9 (F := F) k0_pay47 (SHB ids t 1) (SCG ids scales 0 t) (SCG ids scales 1 t)) (k0_pay10 (F := F) k0_pay47 (SHB ids t 1) (SCG ids scales 0 t) (SCG ids scales 1 t)) (k0_pay11 (F := F) k0_pay47 (SHB ids t 1) (SCG ids scales 0 t) (SCG ids scales 1 t)) k0_pay12 k0_pay13) r m
    else
      rd2 (k0_pay25 (F := F) (k0_pay8 (F := F) k0_pay47 (SHB ids t 1) (SCG ids scales 0 t) (SCG ids scales 1 t)) (k0_pay9 (F := F) k0_pay47 (SHB ids t 1) (SCG ids scales 0 t) (SCG ids scales 1 t)) (k0_pay10 (F := F) k0_pay47 (SHB ids t 1) (SCG ids scales 0 t) (SCG ids scales 1 t)) (k0_pay11 (F := F) k0_pay47 (SHB ids t 1) (SCG ids scales 0 t) (SCG ids scales 1 t)) k0_pay12 k0_pay13) r (m - 128)) := by
  unfold LHS
  rw [show 8 * ((t + r) / 8) = t by omega, show (t + r) % 8 = r by omega]

/-- Eight more rows of it. -/
theorem prep_put {b k : ℕ} {off1 off2 : Fin 2 → ℕ} {inb1 inb2} {s x y : Vec F S8x128 .i32} {v v1 v2 : Vec F S8192x256 .f32}
    (h1 : ∀ i : S8192x256.Idx, True → (∃ z, (Rect.unit (s := S8192x256) off1 S8x128.size inb1).emb z = i ∧ v1 i = k0_pay24 (F := F) (k0_pay8 (F := F) k0_pay47 s x y) (k0_pay9 (F := F) k0_pay47 s x y) (k0_pay10 (F := F) k0_pay47 s x y) (k0_pay11 (F := F) k0_pay47 s x y) k0_pay12 k0_pay13 z)
      ∨ (i ∉ (Rect.unit (s := S8192x256) off1 S8x128.size inb1).set ∧ v1 i = v i))
    (h2 : ∀ i : S8192x256.Idx, True → (∃ z, (Rect.unit (s := S8192x256) off2 S8x128.size inb2).emb z = i ∧ v2 i = k0_pay25 (F := F) (k0_pay8 (F := F) k0_pay47 s x y) (k0_pay9 (F := F) k0_pay47 s x y) (k0_pay10 (F := F) k0_pay47 s x y) (k0_pay11 (F := F) k0_pay47 s x y) k0_pay12 k0_pay13 z)
      ∨ (i ∉ (Rect.unit (s := S8192x256) off2 S8x128.size inb2).set ∧ v2 i = v1 i))
    (o1 : off1 = ![256 * b + 8 * k, 0]) (o2 : off2 = ![256 * b + 8 * k, 128])
    (es : s = SHB ids (256 * b + 8 * k) 1) (ex : x = SCG ids scales 0 (256 * b + 8 * k)) (ey : y = SCG ids scales 1 (256 * b + 8 * k))
    (hv : ∀ i : S8192x256.Idx, (i 0 : ℕ) < 256 * b + 8 * k → v i = LHS ids scales (i 0) (i 1)) :
    ∀ i : S8192x256.Idx, (i 0 : ℕ) < 256 * b + 8 * (k + 1) → v2 i = LHS ids scales (i 0) (i 1) := by
  subst es ex ey o1 o2
  intro i hi
  have il : (i 1 : ℕ) < 256 := (i 1).isLt
  have ht : (256 * b + 8 * k) % 8 = 0 := by omega
  rcases hit2 (h2 i trivial) (a := 256 * b + 8 * k) (b := 128) (p := 8) (q := 128) rfl rfl rfl rfl with ⟨z, g0, g1, b0, b1, e⟩ | ⟨n2, e2⟩
  · rw [e, g0, lhs_eq ids scales ht _ _ b0, if_neg (by omega)]
    exact rd2_of _ z rfl (by omega)
  · rw [e2]
    rcases hit2 (h1 i trivial) (a := 256 * b + 8 * k) (b := 0) (p := 8) (q := 128) rfl rfl rfl rfl with ⟨z, g0, g1, b0, b1, e⟩ | ⟨n1, e1⟩
    · rw [e, g0, lhs_eq ids scales ht _ _ b0, if_pos (by omega)]
      exact rd2_of _ z rfl (by omega)
    · rw [e1]; exact hv i (by omega)

theorem vec2 {a b c : ℕ} (h : a = b) : (![a, c] : Fin 2 → ℕ) = ![b, c] := by rw [h]

theorem t7_step (v77) (hv77 : v77 = k0_pay47) (t4 : Fin k0_t4_loop.trips) (a19 c0 c1) (t5 : Fin k0_t5_loop.trips) (v230) (vs : Vec F S1560x128 .i32) (hs : StagOK ids codes scales J0 0 (2 * t4.val + t5.val) 256 vs) (k : Fin k0_t7_loop.trips) (acc : Unit) :
    IP c arg8 arg9 arg11 ids scales (2 * t4.val + t5.val) vs k.val
      ⊢ WP (wpE (defs₀ (F := F)) 𝒱 (c : Thread nD τ) bd) Set.univ (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 t4 a19 c0 c1 t5 v230 k acc)
        (fun _ => IP c arg8 arg9 arg11 ids scales (2 * t4.val + t5.val) vs (k.val + 1)) := by
  subst hv77
  have hk : k.val < 32 := lt_of_lt_of_eq k.isLt (by decide +kernel)
  have h4 : t4.val < 16 := lt_of_lt_of_eq t4.isLt (by decide +kernel)
  have h5 : t5.val < 2 := lt_of_lt_of_eq t5.isLt (by decide +kernel)
  unfold IP k0_t7_body
  rw [k0_part3_eq_skeleton]; unfold k0_part3_skel
  iintro ⟨H8, H11, %v, H9, %hv⟩
  iapply (AT_load (m := arg8) (fun _ => trivial)) $$ H8
  iintro H8
  iapply (AT_load (m := arg11) (fun _ => trivial)) $$ H11
  iintro H11
  iapply (AT_load (m := arg11) (fun _ => trivial)) $$ H11
  iintro H11
  iapply (AT_load (m := arg9) (fun _ => trivial)) $$ H9
  iintro H9
  iapply (AT_put (m := arg9) (fun _ => trivial)) $$ H9
  iintro %v1 %h1 H9
  iapply (AT_load (m := arg9) (fun _ => trivial)) $$ H9
  iintro H9
  iapply (AT_put (m := arg9) (fun _ => trivial)) $$ H9
  iintro %v2 %h2 H9
  iapply done
  isplitl [H8]; · iexact H8
  isplitl [H11]; · iexact H11
  iexists v2; isplitl [H9]; · iexact H9
  ipureintro
  exact prep_put ids scales h1 h2 ((off13 t4 t5 k).trans (vec2 (by omega))) ((off14 t4 t5 k).trans (vec2 (by omega)))
    (funext (shf_rows ids ((off11 t4 t5 k).trans (vec2 (by omega))) rfl rfl))
    (stag_scale ids codes scales (p := 0) (r := 8 * k.val) hs (by unfold J0; omega) ((off12_1040 k).trans (vec2 (by omega))) (by omega) rfl rfl rfl)
    (stag_scale ids codes scales (p := 1) (r := 8 * k.val) hs (by unfold J0; omega) ((off12_1300 k).trans (vec2 (by omega))) (by omega) rfl rfl rfl) hv

/-- The result rows in slot `s` for block `b`: tiles before `j` of the phase from `T0`, and `u` groups of 32 rows of tile `j`. -/
def OutOK (T0 b s j u : ℕ) (v : Vec F S2x256x1024 .bf16) : Prop :=
  ∀ i : S2x256x1024.Idx, (i 0 : ℕ) = s → ((i 2 : ℕ) < 256 * j ∨ ((i 2 : ℕ) < 256 * (j + 1) ∧ (i 1 : ℕ) < 32 * u)) → v i = OUT ids codes scales (256 * b + (i 1 : ℕ)) (256 * T0 + (i 2 : ℕ))

theorem OutOK_next {T0 b s j : ℕ} {v : Vec F S2x256x1024 .bf16} (h : OutOK ids codes scales T0 b s j 8 v) : OutOK ids codes scales T0 b s (j + 1) 0 v := by
  intro i h0 h1
  have : (i 1 : ℕ) < 256 := (i 1).isLt
  exact h i h0 (by omega)

theorem scu_rows {b T u h : ℕ} {off : Fin 2 → ℕ} {inb} (ho : off = ![32 * u, 128 * h]) :
    (fun x : (⟨2, ![32, 128]⟩ : Shape).Idx => SCB ids scales b T ((Rect.unit (s := S256x256) off ![32, 128] inb).toLoadRect.idx x)) = SCU ids scales b T u h := by
  subst ho
  funext x
  exact rd2_of _ _ ((lidx rfl rfl).trans (by show 32 * u + 1 * (x 0 : ℕ) = _; omega)) ((lidx rfl rfl).trans (by show 128 * h + 1 * (x 1 : ℕ) = _; omega))

theorem idx3 (x : S1x32x128.Idx) {a b : ℕ} (ha : a % 32 = (x 1 : ℕ)) (hb : b % 128 = (x 2 : ℕ)) : x = ix3 (0 : Fin 1) (Fin.ofNat 32 a) (Fin.ofNat 128 b) := by
  funext d
  match d with
  | ⟨0, _⟩ => exact Fin.ext (Nat.lt_one_iff.mp (x 0).isLt)
  | ⟨1, _⟩ => exact Fin.ext ha.symm
  | ⟨2, _⟩ => exact Fin.ext hb.symm

/-- Thirty-two more rows of a tile. -/
theorem unit_put {T0 b s j u : ℕ} {off1 off2 : Fin 3 → ℕ} {inb1 inb2} {c0 c1 c2 c3 s0 s1 s2 s3 : Vec F S8x128 .i32} {sc0 sc1 : Vec F S32x128 .f32} {v v1 v2 : Vec F S2x256x1024 .bf16} (hu : u < 8)
    (h1 : ∀ i : S2x256x1024.Idx, Slot s i → (∃ z, (Rect.unit (s := S2x256x1024) off1 S1x32x128.size inb1).emb z = i ∧ v1 i = k0_pay18 (F := F) lane0 nib (k0_pay14 (F := F) c0 s0) (k0_pay15 (F := F) c1 s1) (k0_pay16 (F := F) c2 s2) c3 s3 sc0 z)
      ∨ (i ∉ (Rect.unit (s := S2x256x1024) off1 S1x32x128.size inb1).set ∧ v1 i = v i))
    (h2 : ∀ i : S2x256x1024.Idx, Slot s i → (∃ z, (Rect.unit (s := S2x256x1024) off2 S1x32x128.size inb2).emb z = i ∧ v2 i = k0_pay57 (F := F) (k0_pay19 (F := F) lane1 nib (k0_pay14 (F := F) c0 s0) (k0_pay15 (F := F) c1 s1) (k0_pay16 (F := F) c2 s2) c3 s3) 4042322160#32 sc1 z)
      ∨ (i ∉ (Rect.unit (s := S2x256x1024) off2 S1x32x128.size inb2).set ∧ v2 i = v1 i))
    (o1 : off1 = ![s, 32 * u, 256 * j + 0]) (o2 : off2 = ![s, 32 * u, 256 * j + 128])
    (e0 : c0 = CW ids codes (T0 + j) (256 * b + 32 * u)) (e1 : c1 = CW ids codes (T0 + j) (256 * b + 32 * u + 1)) (e2 : c2 = CW ids codes (T0 + j) (256 * b + 32 * u + 2)) (e3 : c3 = CW ids codes (T0 + j) (256 * b + 32 * u + 3))
    (f0 : s0 = SHB ids (256 * b + 32 * u) 4) (f1 : s1 = SHB ids (256 * b + 32 * u + 1) 4) (f2 : s2 = SHB ids (256 * b + 32 * u + 2) 4) (f3 : s3 = SHB ids (256 * b + 32 * u + 3) 4)
    (g0 : sc0 = SCU ids scales b (T0 + j) u 0) (g1 : sc1 = SCU ids scales b (T0 + j) u 1)
    (hv : OutOK ids codes scales T0 b s j u v) : OutOK ids codes scales T0 b s j (u + 1) v2 := by
  subst e0 e1 e2 e3 f0 f1 f2 f3 g0 g1 o1 o2
  intro i hs hi
  have i1 : (i 1 : ℕ) < 256 := (i 1).isLt
  have k1 : (256 * T0 + (i 2 : ℕ)) / 256 = T0 + (i 2 : ℕ) / 256 := by omega
  have k2 : (256 * T0 + (i 2 : ℕ)) % 256 = (i 2 : ℕ) % 256 := by omega
  have k3 : (256 * b + (i 1 : ℕ)) / 256 = b := by omega
  have k4 : (256 * b + (i 1 : ℕ)) % 256 / 32 = (i 1 : ℕ) / 32 := by omega
  have k5 : 32 * ((256 * b + (i 1 : ℕ)) / 32) = 256 * b + 32 * ((i 1 : ℕ) / 32) := by omega
  rcases hit3 (h2 i hs) (a := s) (b := 32 * u) (d := 256 * j + 128) (p := 1) (q := 32) (r := 128) rfl rfl rfl rfl rfl rfl with ⟨z, q0, q1, q2, b0, b1, b2, e⟩ | ⟨n2, e2⟩
  · rw [e]
    unfold OUT
    rw [k1, k2, k3, k4, k5, if_neg (by omega), show (i 1 : ℕ) / 32 = u by omega, show (i 2 : ℕ) / 256 = j by omega, ← idx3 z (by omega) (by omega)]
    rfl
  · rw [e2]
    rcases hit3 (h1 i hs) (a := s) (b := 32 * u) (d := 256 * j + 0) (p := 1) (q := 32) (r := 128) rfl rfl rfl rfl rfl rfl with ⟨z, q0, q1, q2, b0, b1, b2, e⟩ | ⟨n1, e1⟩
    · rw [e]
      unfold OUT
      rw [k1, k2, k3, k4, k5, if_pos (by omega), show (i 1 : ℕ) / 32 = u by omega, show (i 2 : ℕ) / 256 = j by omega, ← idx3 z (by omega) (by omega)]
      rfl
    · rw [e1]; exact hv i hs (by omega)

/-- What the loop over a tile's row groups keeps. -/
def IU (T0 b s j : ℕ) (vs : Vec F S1560x128 .i32) (n : ℕ) : sProp 𝕄 :=
  iprop(AT c arg8 Whole fullShare (SHF ids) ∗ AT c arg11 Whole fullShare vs ∗ AT c arg13 Whole fullShare (SCB ids scales b (T0 + j)) ∗
    ∃ v : Vec F S2x256x1024 .bf16, AT c arg14 (Slot s) fullShare v ∗ ⌜OutOK ids codes scales T0 b s j n v⌝)

theorem slot_in {off : Fin 3 → ℕ} {s a d : ℕ} {inb} (ho : off = ![s, a, d]) (x : S1x32x128.Idx) : Slot s ((Rect.unit (s := S2x256x1024) off S1x32x128.size inb).emb x) := by
  subst ho
  have h : (x 0 : ℕ) < 1 := (x 0).isLt
  have e : ((Rect.unit (s := S2x256x1024) ![s, a, d] S1x32x128.size inb).emb x 0 : ℕ) = s + 1 * (x 0 : ℕ) := remb rfl rfl
  unfold Slot; rw [e]; omega

theorem pay26_eq : k0_pay26 (F := F) = k0_pay14 := rfl
theorem pay33_eq : k0_pay33 (F := F) = k0_pay14 := rfl
theorem pay27_eq : k0_pay27 (F := F) = k0_pay15 := rfl
theorem pay34_eq : k0_pay34 (F := F) = k0_pay15 := rfl
theorem pay28_eq : k0_pay28 (F := F) = k0_pay16 := rfl
theorem pay35_eq : k0_pay35 (F := F) = k0_pay16 := rfl
theorem pay30_eq : k0_pay30 (F := F) = k0_pay18 := rfl
theorem pay37_eq : k0_pay37 (F := F) = k0_pay18 := rfl
theorem pay31_eq : k0_pay31 (F := F) = k0_pay19 := rfl
theorem pay38_eq : k0_pay38 (F := F) = k0_pay19 := rfl
theorem pay58_eq : k0_pay58 (F := F) = k0_pay56 := rfl
theorem pay60_eq : k0_pay60 (F := F) = k0_pay56 := rfl
theorem pay59_eq : k0_pay59 (F := F) = k0_pay57 := rfl
theorem pay61_eq : k0_pay61 (F := F) = k0_pay57 := rfl

theorem t9_step (tb : Fin k0_t4_loop.trips) (ts : Fin k0_t5_loop.trips) (tt : Fin k0_t8_loop.trips) (v77) (a20 v230 a21) (vs : Vec F S1560x128 .i32) (hs : StagOK ids codes scales J0 0 (2 * tb.val + ts.val) 256 vs) (k : Fin k0_t9_loop.trips) (acc : Unit) :
    IU c arg8 arg11 arg13 arg14 ids codes scales 0 (2 * tb.val + ts.val) ts.val tt.val vs k.val
      ⊢ WP (wpE (defs₀ (F := F)) 𝒱 (c : Thread nD τ) bd) Set.univ (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 lane0 lane1 nib tb ts a20 v230 tt a21 k acc)
        (fun _ => IU c arg8 arg11 arg13 arg14 ids codes scales 0 (2 * tb.val + ts.val) ts.val tt.val vs (k.val + 1)) := by
  have hk : k.val < 8 := lt_of_lt_of_eq k.isLt (by decide +kernel)
  have ht : tt.val < 3 := lt_of_lt_of_eq tt.isLt (by decide +kernel)
  unfold IU k0_t9_body
  rw [k0_part4_eq_skeleton, k0_part5_eq_skeleton]; unfold k0_part4_skel k0_part5_skel
  iintro ⟨H8, H11, H13, %v, H14, %hv⟩
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg13) (fun _ => trivial)) $$ H13
  iintro H13
  iapply (AT_load (m := arg14) (slot_in (off23_0 ts tt k))) $$ H14
  iintro H14
  iapply (AT_put (m := arg14) (slot_in (off23_0 ts tt k))) $$ H14
  iintro %v1 %h1 H14
  iapply (AT_load (m := arg13) (fun _ => trivial)) $$ H13
  iintro H13
  iapply (AT_load (m := arg14) (slot_in (off23_128 ts tt k))) $$ H14
  iintro H14
  iapply (AT_put (m := arg14) (slot_in (off23_128 ts tt k))) $$ H14
  iintro %v2 %h2 H14
  iapply done
  isplitl [H8]; · iexact H8
  isplitl [H11]; · iexact H11
  isplitl [H13]; · iexact H13
  iexists v2; isplitl [H14]; · iexact H14
  ipureintro
  have C := fun {off : Fin 2 → ℕ} {inb} (i : ℕ) (hi : i < 4) (ho : off = ![260 * tt.val + 32 * k.val + i, 0]) =>
    stag_code ids codes scales (j := tt.val) (r := 32 * k.val + i) (off := off) (sf := ![4, 1]) (inb := inb) (t := 256 * (2 * tb.val + ts.val) + 32 * k.val + i) hs (by unfold J0; omega) (by omega) (ho.trans (vec2 (by omega))) (by omega) rfl rfl (by omega)
  have S := fun {off : Fin 2 → ℕ} {inb} (i : ℕ) (ho : off = ![512 * tb.val + 256 * ts.val + 32 * k.val + i, 0]) =>
    funext (shf_rows ids (a := 256 * (2 * tb.val + ts.val) + 32 * k.val + i) (off := off) (sf := ![4, 1]) (inb := inb) (ho.trans (vec2 (by omega))) rfl rfl)
  exact unit_put ids codes scales hk h1 h2 (off23_0 ts tt k) (off23_128 ts tt k)
    (C 0 (by decide) (off20_0 tt k)) (C 1 (by decide) (off20_1 tt k)) (C 2 (by decide) (off20_2 tt k)) (C 3 (by decide) (off20_3 tt k))
    (S 0 (off21_0 tb ts k)) (S 1 (off21_1 tb ts k)) (S 2 (off21_2 tb ts k)) (S 3 (off21_3 tb ts k))
    (scu_rows ids scales (h := 0) (off22 k)) (scu_rows ids scales (h := 1) (off24 k)) hv

theorem t14_step (tb : Fin k0_t10_loop.trips) (ts : Fin k0_t11_loop.trips) (tt : Fin k0_t13_loop.trips) (a20 v230 a21) (vs : Vec F S1560x128 .i32) (hs : StagOK ids codes scales J1 3 (2 * tb.val + ts.val) 256 vs) (k : Fin k0_t14_loop.trips) (acc : Unit) :
    IU c arg8 arg11 arg13 arg14 ids codes scales 3 (2 * tb.val + ts.val) ts.val tt.val vs k.val
      ⊢ WP (wpE (defs₀ (F := F)) 𝒱 (c : Thread nD τ) bd) Set.univ (k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb ts a20 v230 tt a21 k acc)
        (fun _ => IU c arg8 arg11 arg13 arg14 ids codes scales 3 (2 * tb.val + ts.val) ts.val tt.val vs (k.val + 1)) := by
  have hk : k.val < 8 := lt_of_lt_of_eq k.isLt (by decide +kernel)
  have ht : tt.val < 4 := lt_of_lt_of_eq tt.isLt (by decide +kernel)
  unfold IU k0_t14_body
  rw [k0_part7_eq_skeleton, k0_part8_eq_skeleton]; unfold k0_part7_skel k0_part8_skel
  iintro ⟨H8, H11, H13, %v, H14, %hv⟩
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg13) (fun _ => trivial)) $$ H13
  iintro H13
  iapply (AT_load (m := arg14) (slot_in (off39_0 ts tt k))) $$ H14
  iintro H14
  iapply (AT_put (m := arg14) (slot_in (off39_0 ts tt k))) $$ H14
  iintro %v1 %h1 H14
  iapply (AT_load (m := arg13) (fun _ => trivial)) $$ H13
  iintro H13
  iapply (AT_load (m := arg14) (slot_in (off39_128 ts tt k))) $$ H14
  iintro H14
  iapply (AT_put (m := arg14) (slot_in (off39_128 ts tt k))) $$ H14
  iintro %v2 %h2 H14
  iapply done
  isplitl [H8]; · iexact H8
  isplitl [H11]; · iexact H11
  isplitl [H13]; · iexact H13
  iexists v2; isplitl [H14]; · iexact H14
  ipureintro
  simp only [pay26_eq, pay27_eq, pay28_eq, pay30_eq, pay31_eq, pay59_eq] at h1 h2
  have C := fun {off : Fin 2 → ℕ} {inb} (i : ℕ) (hi : i < 4) (ho : off = ![260 * tt.val + 32 * k.val + i, 0]) =>
    stag_code ids codes scales (j := tt.val) (r := 32 * k.val + i) (off := off) (sf := ![4, 1]) (inb := inb) (t := 256 * (2 * tb.val + ts.val) + 32 * k.val + i) hs (by unfold J1; omega) (by omega) (ho.trans (vec2 (by omega))) (by omega) rfl rfl (by omega)
  have S := fun {off : Fin 2 → ℕ} {inb} (i : ℕ) (ho : off = ![512 * tb.val + 256 * ts.val + 32 * k.val + i, 0]) =>
    funext (shf_rows ids (a := 256 * (2 * tb.val + ts.val) + 32 * k.val + i) (off := off) (sf := ![4, 1]) (inb := inb) (ho.trans (vec2 (by omega))) rfl rfl)
  exact unit_put ids codes scales hk h1 h2 (off39_0 ts tt k) (off39_128 ts tt k)
    (C 0 (by decide) (off36_0 tt k)) (C 1 (by decide) (off36_1 tt k)) (C 2 (by decide) (off36_2 tt k)) (C 3 (by decide) (off36_3 tt k))
    (S 0 (off37_0 tb ts k)) (S 1 (off37_1 tb ts k)) (S 2 (off37_2 tb ts k)) (S 3 (off37_3 tb ts k))
    (scu_rows ids scales (h := 0) (off38 k)) (scu_rows ids scales (h := 1) (off40 k)) hv

theorem t19_step (tb : Fin k0_t15_loop.trips) (ts : Fin k0_t16_loop.trips) (tt : Fin k0_t18_loop.trips) (a20 v230 a21) (vs : Vec F S1560x128 .i32) (hs : StagOK ids codes scales J1 7 (2 * tb.val + ts.val) 256 vs) (k : Fin k0_t19_loop.trips) (acc : Unit) :
    IU c arg8 arg11 arg13 arg14 ids codes scales 7 (2 * tb.val + ts.val) ts.val tt.val vs k.val
      ⊢ WP (wpE (defs₀ (F := F)) 𝒱 (c : Thread nD τ) bd) Set.univ (k0_t19_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb ts a20 v230 tt a21 k acc)
        (fun _ => IU c arg8 arg11 arg13 arg14 ids codes scales 7 (2 * tb.val + ts.val) ts.val tt.val vs (k.val + 1)) := by
  have hk : k.val < 8 := lt_of_lt_of_eq k.isLt (by decide +kernel)
  have ht : tt.val < 4 := lt_of_lt_of_eq tt.isLt (by decide +kernel)
  unfold IU k0_t19_body
  rw [k0_part10_eq_skeleton, k0_part11_eq_skeleton]; unfold k0_part10_skel k0_part11_skel
  iintro ⟨H8, H11, H13, %v, H14, %hv⟩
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg11) (fun _ => trivial)) $$ H11
  iintro H11
  iapply (AT_load (m := arg8) (fun _ => trivial)) $$ H8
  iintro H8
  iapply (AT_load (m := arg13) (fun _ => trivial)) $$ H13
  iintro H13
  iapply (AT_load (m := arg14) (slot_in (off55_0 ts tt k))) $$ H14
  iintro H14
  iapply (AT_put (m := arg14) (slot_in (off55_0 ts tt k))) $$ H14
  iintro %v1 %h1 H14
  iapply (AT_load (m := arg13) (fun _ => trivial)) $$ H13
  iintro H13
  iapply (AT_load (m := arg14) (slot_in (off55_128 ts tt k))) $$ H14
  iintro H14
  iapply (AT_put (m := arg14) (slot_in (off55_128 ts tt k))) $$ H14
  iintro %v2 %h2 H14
  iapply done
  isplitl [H8]; · iexact H8
  isplitl [H11]; · iexact H11
  isplitl [H13]; · iexact H13
  iexists v2; isplitl [H14]; · iexact H14
  ipureintro
  simp only [pay33_eq, pay34_eq, pay35_eq, pay37_eq, pay38_eq, pay61_eq] at h1 h2
  have C := fun {off : Fin 2 → ℕ} {inb} (i : ℕ) (hi : i < 4) (ho : off = ![260 * tt.val + 32 * k.val + i, 0]) =>
    stag_code ids codes scales (j := tt.val) (r := 32 * k.val + i) (off := off) (sf := ![4, 1]) (inb := inb) (t := 256 * (2 * tb.val + ts.val) + 32 * k.val + i) hs (by unfold J1; omega) (by omega) (ho.trans (vec2 (by omega))) (by omega) rfl rfl (by omega)
  have S := fun {off : Fin 2 → ℕ} {inb} (i : ℕ) (ho : off = ![512 * tb.val + 256 * ts.val + 32 * k.val + i, 0]) =>
    funext (shf_rows ids (a := 256 * (2 * tb.val + ts.val) + 32 * k.val + i) (off := off) (sf := ![4, 1]) (inb := inb) (ho.trans (vec2 (by omega))) rfl rfl)
  exact unit_put ids codes scales hk h1 h2 (off55_0 ts tt k) (off55_128 ts tt k)
    (C 0 (by decide) (off52_0 tt k)) (C 1 (by decide) (off52_1 tt k)) (C 2 (by decide) (off52_2 tt k)) (C 3 (by decide) (off52_3 tt k))
    (S 0 (off53_0 tb ts k)) (S 1 (off53_1 tb ts k)) (S 2 (off53_2 tb ts k)) (S 3 (off53_3 tb ts k))
    (scu_rows ids scales (h := 0) (off54 k)) (scu_rows ids scales (h := 1) (off56 k)) hv

end Cert.Kernel.Body
-- ==== Proof.Slot.lean ====
/-
  The output slots: waiting for the copy out of a slot and starting the next.
-/
module

public import proofs.«01_k».proof.Proof.Unit
public import Idealize.ShloMosaic.Lib.Pipeline.FrameBody
public import Idealize.ShloMosaic.Lib.Pointwise
public import Idealize.ShloMosaic.Lib.ValueLayout

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16)

/-- A program followed by another. -/
theorem seq {α β : Type} {E : Set ℕ} {p : Prog (TpuEff nD τ sig (Elt F) Λ₀ .tc) α} {k : α → Prog (TpuEff nD τ sig (Elt F) Λ₀ .tc) β} {P : sProp 𝕄} {Q : α → sProp 𝕄} {R : β → sProp 𝕄}
    (h : P ⊢ WP (wpE (defs₀ (F := F)) 𝒱 (c : Thread nD τ) bd) E p Q) :
    P ⊢ iprop((∀ a, Q a -∗ WP (wpE (defs₀ (F := F)) 𝒱 (c : Thread nD τ) bd) E (k a) R) -∗ WP (wpE (defs₀ (F := F)) 𝒱 (c : Thread nD τ) bd) E (p >>= k) R) := by
  rw [wp_bind]; exact h.trans (wp_wand _ _ _)

/-- What the result holds. -/
def OUF : Vec F S8192x2816 .bf16 := fun i => OUT ids codes scales (i 0) (i 1)

/-- The result's rows from `lo` to `hi` in columns from `C` on, `W` of them. -/
def Blk (lo hi C W : ℕ) : S8192x2816.Idx → Prop := fun i => (lo ≤ (i 0 : ℕ) ∧ (i 0 : ℕ) < hi) ∧ C ≤ (i 1 : ℕ) ∧ (i 1 : ℕ) < C + W

/-- The part of slot `s` that is copied out, and the part that is not. -/
def Sent (s W : ℕ) : S2x256x1024.Idx → Prop := fun i => (i 0 : ℕ) = s ∧ (i 2 : ℕ) < W
def Kept (s W : ℕ) : S2x256x1024.Idx → Prop := fun i => (i 0 : ℕ) = s ∧ ¬ (i 2 : ℕ) < W

/-- Slot `s`'s semaphore. -/
def semO (s : ℕ) : DmaSem sig := arg18.ix fun d => match d with | ⟨0, _⟩ => (Fin.ofNat 2 s : Fin 2)

theorem sem_eq {s : ℕ} (hs : s < 2) {off : Fin 1 → ℕ} {inb} (ho : off = ![s]) :
    ((arg18.slice (Rect.unit (s := S2) off S1.size inb)).squeeze S_ squeezes_S1_S_).sem = semO arg18 s := by
  subst ho
  refine congrArg arg18.ix (funext fun d => Fin.ext ?_)
  match d with
  | ⟨0, _⟩ =>
    have h := (Shape.reshapeEquiv squeezes_S1_S_.numel_eq (fun i : Fin 0 => i.elim0) 0).isLt
    have h' : (Shape.reshapeEquiv squeezes_S1_S_.numel_eq (fun i : Fin 0 => i.elim0) 0 : ℕ) < 1 := h
    show s + 1 * (Shape.reshapeEquiv squeezes_S1_S_.numel_eq (fun i : Fin 0 => i.elim0) 0 : ℕ) = s % 2
    omega

/-- The amount a copy of a block counts. -/
abbrev crd (W : ℕ) : ℕ := sig.dmaCredit .tc ((Kind.tc).table .hbm) arg3.view.buf (⟨2, ![256, W]⟩ : Shape) .bf16

/-- What a landed copy of block `b` from slot `s` leaves. -/
def Landed (C W s b : ℕ) : sProp 𝕄 :=
  iprop(AT c arg3 (Blk (256 * b) (256 * (b + 1)) C W) fullShare (OUF ids codes scales) ∗ ∃ v : Vec F S2x256x1024 .bf16, AT c arg14 (Sent s W) fullShare v)

/-- Slot `s` after `n` blocks have been sent from it. -/
def Sl (C W s : ℕ) : ℕ → sProp 𝕄
  | 0 => iprop(semVal ((c : Thread nD τ), .dma (semO arg18 s)) 0 ∗ ∃ v : Vec F S2x256x1024 .bf16, AT c arg14 (Slot s) fullShare v)
  | n + 1 => iprop(Transfers.Flight (countersEmb (U := Pipeline.UD sig nD τ)) (c : Thread nD τ) (.dma (semO arg18 s)) () (crd arg3 W) (Landed c arg3 arg14 ids codes scales C W s (2 * n + s))
      ∗ ∃ v : Vec F S2x256x1024 .bf16, AT c arg14 (Kept s W) fullShare v)

theorem blk_rect {b C W : ℕ} {off : Fin 2 → ℕ} {inb} (ho : off = ![256 * b, C]) (i : S8192x2816.Idx) :
    Blk (256 * b) (256 * (b + 1)) C W i ↔ i ∈ (Rect.unit (s := S8192x2816) off ![256, W] inb).set := by
  subst ho
  rw [Rect.mem_set_unit]
  constructor
  · rintro ⟨⟨h1, h2⟩, h3, h4⟩
    exact Fin.forall_fin_two.mpr ⟨⟨h1, by show _ < 256 * b + 256; omega⟩, ⟨h3, h4⟩⟩
  · intro h
    obtain ⟨⟨h1, h2⟩, h3, h4⟩ := Fin.forall_fin_two.mp h
    have h2 : (i 0 : ℕ) < 256 * b + 256 := h2
    exact ⟨⟨h1, by omega⟩, h3, h4⟩

theorem sent_rect {s W : ℕ} {off : Fin 3 → ℕ} {inb} (ho : off = ![s, 0, 0]) (i : S2x256x1024.Idx) :
    Sent s W i ↔ i ∈ (Rect.unit (s := S2x256x1024) off ![1, 256, W] inb).set := by
  subst ho
  rw [Rect.mem_set_unit]
  constructor
  · rintro ⟨h1, h2⟩ d
    match d with
    | ⟨0, _⟩ => exact ⟨le_of_eq h1.symm, by show (i 0 : ℕ) < s + 1; omega⟩
    | ⟨1, _⟩ => exact ⟨Nat.zero_le _, by have h : (i 1 : ℕ) < 256 := (i 1).isLt; show (i 1 : ℕ) < 0 + 256; omega⟩
    | ⟨2, _⟩ => exact ⟨Nat.zero_le _, by show (i 2 : ℕ) < 0 + W; omega⟩
  · intro h
    have h0 : s ≤ (i 0 : ℕ) ∧ (i 0 : ℕ) < s + 1 := h 0
    have h2 : 0 ≤ (i 2 : ℕ) ∧ (i 2 : ℕ) < 0 + W := h 2
    exact ⟨by omega, by omega⟩

theorem slot_split {s W : ℕ} {v : Vec F S2x256x1024 .bf16} : (AT c arg14 (Slot s) fullShare v : sProp 𝕄) ⊢ iprop(AT c arg14 (Sent s W) fullShare v ∗ AT c arg14 (Kept s W) fullShare v) :=
  AT_split (fun i h h' => h'.2 h.2) fun i => ⟨fun h => (Nat.lt_or_ge (i 2 : ℕ) W).imp (fun h' => ⟨h, h'⟩) fun h' => ⟨h, Nat.not_lt.mpr h'⟩, fun h => h.elim And.left And.left⟩

/-- Values that agree with one function on one part and another on the rest. -/
theorem at_join {sp : Space} {s : Shape} {e : EltTy} {m : Memref sig .tc sp s e} {M M₁ M₂ : s.Idx → Prop} {v₁ v₂ : s.Idx → Elt F e} (hd : ∀ i, M₁ i → ¬ M₂ i) (hu : ∀ i, M i ↔ M₁ i ∨ M₂ i) :
    (iprop(AT c m M₁ fullShare v₁ ∗ AT c m M₂ fullShare v₂) : sProp 𝕄) ⊢ iprop(∃ v, AT c m M fullShare v ∗ ⌜(∀ i, M₁ i → v i = v₁ i) ∧ ∀ i, M₂ i → v i = v₂ i⌝) := by
  classical
  iintro ⟨H1, H2⟩
  iexists (fun i => if M₁ i then v₁ i else v₂ i)
  isplitl
  · iapply (AT_join (M₁ := M₁) (M₂ := M₂) hd hu)
    isplitl [H1]
    · iapply (AT_congr (fun i hi => (if_pos hi).symm)) $$ H1
    · iapply (AT_congr (fun i hi => (if_neg fun h => hd i h hi).symm)) $$ H2
  · ipureintro
    exact ⟨fun i hi => if_pos hi, fun i hi => if_neg fun h => hd i h hi⟩

theorem slot_join {s W : ℕ} {v w : Vec F S2x256x1024 .bf16} : (iprop(AT c arg14 (Sent s W) fullShare v ∗ AT c arg14 (Kept s W) fullShare w) : sProp 𝕄) ⊢ iprop(∃ v : Vec F S2x256x1024 .bf16, AT c arg14 (Slot s) fullShare v) := by
  iintro H
  ihave H := (at_join c (m := arg14) (M := Slot s) (M₁ := Sent s W) (M₂ := Kept s W) (v₁ := v) (v₂ := w) (fun i h h' => h'.2 h.2) fun i => ⟨fun h => (Nat.lt_or_ge (i 2 : ℕ) W).imp (fun h' => ⟨h, h'⟩) fun h' => ⟨h, Nat.not_lt.mpr h'⟩, fun h => h.elim And.left And.left⟩) $$ H
  icases H with ⟨%u, H, %hu⟩
  iexists u; iexact H

/-- A view with axes of size one dropped. -/
theorem AT_squeeze {sp : Space} {s s' : Shape} {e : EltTy} {m : Memref sig .tc sp s e} {q : PosShare TreeShare} (h : s.Squeezes s') {v : s.Idx → Elt F e} :
    (AT c m Whole q v : sProp 𝕄) ⊢ AT c (m.squeeze s' h) Whole q (fun x => v (Shape.reshapeEquiv h.numel_eq x)) := by
  unfold AT
  iintro ⟨%f, H, %hf⟩
  iexists f
  isplitl [H]
  · rw [fset_true, View.setOn_univ, fset_true, View.setOn_univ]
    rw [show (m.squeeze s' h).view.set = m.view.set from View.set_reshape m.view h.numel_eq]
    iexact H
  · ipureintro; intro x _; exact hf _ trivial

theorem AT_unsqueeze {sp : Space} {s s' : Shape} {e : EltTy} {m : Memref sig .tc sp s e} {q : PosShare TreeShare} (h : s.Squeezes s') {v : s.Idx → Elt F e} :
    (AT c (m.squeeze s' h) Whole q (fun x => v (Shape.reshapeEquiv h.numel_eq x)) : sProp 𝕄) ⊢ AT c m Whole q v := by
  unfold AT
  iintro ⟨%f, H, %hf⟩
  iexists f
  isplitl [H]
  · rw [fset_true, View.setOn_univ, fset_true, View.setOn_univ]
    rw [show (m.squeeze s' h).view.set = m.view.set from View.set_reshape m.view h.numel_eq]
    iexact H
  · ipureintro; intro x _
    obtain ⟨y, rfl⟩ := (Shape.reshapeEquiv h.numel_eq).surjective x
    exact hf y trivial

/-- Waiting for the last copy out of a slot. -/
theorem slot_wait {C W s n : ℕ} {sem : DmaSem sig} (hs : sem = semO arg18 s) {sp : Space} {sh : Shape} {e : EltTy} {src : Memref sig .tc sp sh e} {dst : Memref sig .tc .hbm ⟨2, ![256, W]⟩ .bf16} {h1 : src.view.WordExact} {h2 : dst.view.WordExact}
    (hN : dst.view.dmaCredit = crd arg3 W) {α : Type} {k : PUnit → Prog (TpuEff nD τ sig (Elt F) Λ₀ .tc) α} {Q : α → sProp 𝕄} :
    iprop(Sl c arg3 arg14 arg18 ids codes scales C W s (n + 1) ∗ ∃ X, owes (c : Thread nD τ) 0 X) ⊢
      iprop((iprop(semVal ((c : Thread nD τ), .dma (semO arg18 s)) 0 ∗ (∃ v : Vec F S2x256x1024 .bf16, AT c arg14 (Slot s) fullShare v)
        ∗ AT c arg3 (Blk (256 * (2 * n + s)) (256 * (2 * n + s + 1)) C W) fullShare (OUF ids codes scales) ∗ ∃ X, owes (c : Thread nD τ) 0 X) -∗ WP (wpE (defs₀ (F := F)) 𝒱 (c : Thread nD τ) bd) Set.univ (k ⟨⟩) Q)
      -∗ WP (wpE (defs₀ (F := F)) 𝒱 (c : Thread nD τ) bd) Set.univ (.op (.waitDma2 sem src dst h1 h2) k) Q) := by
  subst hs
  unfold Sl Landed
  iintro ⟨⟨HF, %w, HK⟩, %X, HO⟩ Hk
  iapply (Transfers.wp_waitLocal (countersEmb (U := Pipeline.UD sig nD τ)) 𝒱 (c : Thread nD τ) bd () hN) $$ [HF HO]
  · isplitl [HF]; · iexact HF
    iexact HO
  iintro ⟨⟨HB, %v, HS⟩, HV, HO⟩
  iapply Hk
  isplitl [HV]; · iexact HV
  isplitl [HS HK]
  · iapply (slot_join c arg14 (W := W))
    isplitl [HS]; · iexact HS
    iexact HK
  isplitl [HB]; · iexact HB
  iexists _; iexact HO

theorem unsq {W : ℕ} (h : (⟨2, ![256, W]⟩ : Shape).numel = (⟨3, ![1, 256, W]⟩ : Shape).numel) (x : (⟨2, ![256, W]⟩ : Shape).Idx) :
    (Shape.reshapeEquiv h x 0 : ℕ) = 0 ∧ (Shape.reshapeEquiv h x 1 : ℕ) = (x 0 : ℕ) ∧ (Shape.reshapeEquiv h x 2 : ℕ) = (x 1 : ℕ) := by
  have e : x = ix2 (x 0) (x 1) := by
    funext d
    match d with
    | ⟨0, _⟩ => rfl
    | ⟨1, _⟩ => rfl
  have e' := (congrArg (Shape.reshapeEquiv h) e).trans (Idealize.ShloMosaic.ValueIdx.reshapeEquiv_ix2_1ab h (x 0) (x 1))
  rw [e']
  exact ⟨rfl, rfl, rfl⟩

theorem sent_val {T0 j s b : ℕ} {i3 i14} (hq : (⟨3, ![1, 256, 256 * j]⟩ : Shape).Squeezes ⟨2, ![256, 256 * j]⟩) {v : Vec F S2x256x1024 .bf16} (hv : OutOK ids codes scales T0 b s j 0 v) (x : (⟨2, ![256, 256 * j]⟩ : Shape).Idx) :
    v ((Rect.unit (s := S2x256x1024) ![s, 0, 0] ![1, 256, 256 * j] i14).emb (Shape.reshapeEquiv hq.numel_eq x)) = OUF ids codes scales ((Rect.unit (s := S8192x2816) ![256 * b, 256 * T0] ![256, 256 * j] i3).emb x) := by
  obtain ⟨y0, y1, y2⟩ := unsq hq.numel_eq x
  have e0 : ((Rect.unit (s := S2x256x1024) ![s, 0, 0] ![1, 256, 256 * j] i14).emb (Shape.reshapeEquiv hq.numel_eq x) 0 : ℕ) = s + 1 * (Shape.reshapeEquiv hq.numel_eq x 0 : ℕ) := remb rfl rfl
  have e1 : ((Rect.unit (s := S2x256x1024) ![s, 0, 0] ![1, 256, 256 * j] i14).emb (Shape.reshapeEquiv hq.numel_eq x) 1 : ℕ) = 0 + 1 * (Shape.reshapeEquiv hq.numel_eq x 1 : ℕ) := remb rfl rfl
  have e2 : ((Rect.unit (s := S2x256x1024) ![s, 0, 0] ![1, 256, 256 * j] i14).emb (Shape.reshapeEquiv hq.numel_eq x) 2 : ℕ) = 0 + 1 * (Shape.reshapeEquiv hq.numel_eq x 2 : ℕ) := remb rfl rfl
  have g0 : ((Rect.unit (s := S8192x2816) ![256 * b, 256 * T0] ![256, 256 * j] i3).emb x 0 : ℕ) = 256 * b + 1 * (x 0 : ℕ) := remb rfl rfl
  have g1 : ((Rect.unit (s := S8192x2816) ![256 * b, 256 * T0] ![256, 256 * j] i3).emb x 1 : ℕ) = 256 * T0 + 1 * (x 1 : ℕ) := remb rfl rfl
  have hx : (x 1 : ℕ) < 256 * j := (x 1).isLt
  refine (hv _ (by rw [e0, y0]; rfl) (Or.inl (by rw [e2, y2]; omega))).trans ?_
  unfold OUF
  rw [e1, e2, g0, g1, y1, y2, Nat.one_mul, Nat.one_mul, Nat.zero_add, Nat.zero_add]

/-- Starting the copy of a finished block out of its slot. -/
theorem slot_start {T0 j C W s n : ℕ} (hC : C = 256 * T0) (hW : W = 256 * j) (hs2 : s < 2) {sem : DmaSem sig} (hs : sem = semO arg18 s) {off3 : Fin 2 → ℕ} {off14 : Fin 3 → ℕ} {i3 i14 hr3 hr14} {hq : (⟨3, ![1, 256, W]⟩ : Shape).Squeezes ⟨2, ![256, W]⟩}
    {h1 : (((arg14.slice (Rect.unit (s := S2x256x1024) off14 ![1, 256, W] i14) hr14).squeeze ⟨2, ![256, W]⟩ hq)).view.WordExact} {h2 : (arg3.slice (Rect.unit (s := S8192x2816) off3 ![256, W] i3) hr3).view.WordExact} {h3}
    (o3 : off3 = ![256 * (2 * n + s), C]) (o14 : off14 = ![s, 0, 0]) {v : Vec F S2x256x1024 .bf16} (hv : OutOK ids codes scales T0 (2 * n + s) s j 0 v) {u : Vec F S8192x2816 .bf16} (hpos : 0 < W)
    {α : Type} {k : PUnit → Prog (TpuEff nD τ sig (Elt F) Λ₀ .tc) α} {Q : α → sProp 𝕄} :
    iprop(semVal ((c : Thread nD τ), .dma (semO arg18 s)) 0 ∗ AT c arg14 (Slot s) fullShare v ∗ AT c arg3 (Blk (256 * (2 * n + s)) (256 * (2 * n + s + 1)) C W) fullShare u) ⊢
      iprop((Sl c arg3 arg14 arg18 ids codes scales C W s (n + 1) -∗ WP (wpE (defs₀ (F := F)) 𝒱 (c : Thread nD τ) bd) Set.univ (k ⟨⟩) Q)
      -∗ WP (wpE (defs₀ (F := F)) 𝒱 (c : Thread nD τ) bd) Set.univ (.op (.enqueueDma ((arg14.slice (Rect.unit (s := S2x256x1024) off14 ![1, 256, W] i14) hr14).squeeze ⟨2, ![256, W]⟩ hq) (.here (arg3.slice (Rect.unit (s := S8192x2816) off3 ![256, W] i3) hr3)) (.dma sem) h1 h2 h3) k) Q) := by
  subst hs
  have U3 : (AT c (arg3.slice (Rect.unit (s := S8192x2816) off3 ![256, W] i3) hr3) Whole fullShare (fun x : (⟨2, ![256, W]⟩ : Shape).Idx => v ((Rect.unit (s := S2x256x1024) off14 ![1, 256, W] i14).emb (Shape.reshapeEquiv hq.numel_eq x))) : sProp 𝕄)
      ⊢ AT c arg3 (Blk (256 * (2 * n + s)) (256 * (2 * n + s + 1)) C W) fullShare (OUF ids codes scales) :=
    AT_unslice (Rect.unit (s := S8192x2816) off3 ![256, W] i3) hr3 (blk_rect o3) (by subst o3 o14 hC hW; exact sent_val ids codes scales hq hv)
  have U14 : (AT c ((arg14.slice (Rect.unit (s := S2x256x1024) off14 ![1, 256, W] i14) hr14).squeeze ⟨2, ![256, W]⟩ hq) Whole fullShare (fun x : (⟨2, ![256, W]⟩ : Shape).Idx => v ((Rect.unit (s := S2x256x1024) off14 ![1, 256, W] i14).emb (Shape.reshapeEquiv hq.numel_eq x))) : sProp 𝕄)
      ⊢ AT c arg14 (Sent s W) fullShare v :=
    (AT_unsqueeze c (m := arg14.slice (Rect.unit (s := S2x256x1024) off14 ![1, 256, W] i14) hr14) (v := fun x => v ((Rect.unit (s := S2x256x1024) off14 ![1, 256, W] i14).emb x)) hq).trans
      (AT_unslice (Rect.unit (s := S2x256x1024) off14 ![1, 256, W] i14) hr14 (sent_rect o14) (fun _ => rfl))
  have UL : (iprop(AT c (arg3.slice (Rect.unit (s := S8192x2816) off3 ![256, W] i3) hr3) Whole fullShare (fun x : (⟨2, ![256, W]⟩ : Shape).Idx => v ((Rect.unit (s := S2x256x1024) off14 ![1, 256, W] i14).emb (Shape.reshapeEquiv hq.numel_eq x)))
      ∗ AT c ((arg14.slice (Rect.unit (s := S2x256x1024) off14 ![1, 256, W] i14) hr14).squeeze ⟨2, ![256, W]⟩ hq) Whole fullShare (fun x : (⟨2, ![256, W]⟩ : Shape).Idx => v ((Rect.unit (s := S2x256x1024) off14 ![1, 256, W] i14).emb (Shape.reshapeEquiv hq.numel_eq x)))) : sProp 𝕄)
      ⊢ Landed c arg3 arg14 ids codes scales C W s (2 * n + s) := by
    unfold Landed
    iintro ⟨H3, HS⟩
    isplitl [H3]
    · iapply U3 $$ H3
    · iexists v; iapply U14 $$ HS
  iintro ⟨HV, H14, H3⟩ Hk
  ihave H14 := (slot_split c arg14 (W := W)) $$ H14
  icases H14 with ⟨HS, HK⟩
  ihave HS := (AT_slice (Rect.unit (s := S2x256x1024) off14 ![1, 256, W] i14) hr14 (sent_rect o14)) $$ HS
  ihave HS := (AT_squeeze c (m := arg14.slice (Rect.unit (s := S2x256x1024) off14 ![1, 256, W] i14) hr14) (v := fun x => v ((Rect.unit (s := S2x256x1024) off14 ![1, 256, W] i14).emb x)) hq) $$ HS
  ihave H3 := (AT_slice (Rect.unit (s := S8192x2816) off3 ![256, W] i3) hr3 (blk_rect o3)) $$ H3
  iapply (AT_enqueue (countersEmb (U := Pipeline.UD sig nD τ)) (crd arg3 W) rfl (View.dmaCredit_pos (arg3.slice (Rect.unit (s := S8192x2816) off3 ![256, W] i3) hr3).view (Shape.numel_pos (s := ⟨2, ![256, W]⟩) (Fin.forall_fin_two.mpr ⟨by show 0 < 256; decide, hpos⟩)))) $$ [HS H3 HV]
  · isplitl [HS]; · iexact HS
    isplitl [H3]; · iexact H3
    iexact HV
  iintro HF
  iapply Hk
  unfold Sl
  isplitl [HF]
  · iapply (Transfers.Flight_mono (countersEmb (U := Pipeline.UD sig nD τ)) (c : Thread nD τ) ?_) $$ HF
    exact UL
  · iexists v; iexact HK

end Cert.Kernel.Body
-- ==== Proof.Block.lean ====
/-
  One block: its tiles, and what the body of a block keeps.
-/
module

public import proofs.«01_k».proof.Proof.Slot
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16)

/-- What the loop over a block's tiles keeps. -/
def IT (T0 b s : ℕ) (vs : Vec F S1560x128 .i32) (n : ℕ) : sProp 𝕄 :=
  iprop(AT c arg8 Whole fullShare (SHF ids) ∗ AT c arg10 Whole fullShare (EXF (F := F)) ∗ AT c arg11 Whole fullShare vs ∗ (∃ u : Vec F S256x256 .f32, AT c arg13 Whole fullShare u) ∗
    ∃ v : Vec F S2x256x1024 .bf16, AT c arg14 (Slot s) fullShare v ∗ ⌜OutOK ids codes scales T0 b s n 0 v⌝)

theorem exf_tile {T : ℕ} {off : Fin 2 → ℕ} {inb} (ho : off = ![0, 256 * T]) :
    (fun x : S256x256.Idx => EXF (F := F) ((Rect.unit (s := S256x2816) off S256x256.size inb).toLoadRect.idx x)) = EXPB T := by
  subst ho
  funext x
  have e0 : ((Rect.unit (s := S256x2816) ![0, 256 * T] S256x256.size inb).toLoadRect.idx x 0 : ℕ) = 0 + 1 * (x 0 : ℕ) := lidx rfl rfl
  have e1 : ((Rect.unit (s := S256x2816) ![0, 256 * T] S256x256.size inb).toLoadRect.idx x 1 : ℕ) = 256 * T + 1 * (x 1 : ℕ) := lidx rfl rfl
  unfold EXF EXPB; rw [e0, e1, Nat.one_mul, Nat.one_mul, Nat.zero_add]

theorem lhs_blk {b h : ℕ} {off : Fin 2 → ℕ} {inb} {v : Vec F S8192x256 .f32} (hv : ∀ i : S8192x256.Idx, (i 0 : ℕ) < h → v i = LHS ids scales (i 0) (i 1)) (hh : 256 * b + 256 ≤ h) (ho : off = ![256 * b, 0]) :
    (fun x : S256x256.Idx => v ((Rect.unit (s := S8192x256) off S256x256.size inb).toLoadRect.idx x)) = LHSB ids scales b := by
  subst ho
  funext x
  have e0 : ((Rect.unit (s := S8192x256) ![256 * b, 0] S256x256.size inb).toLoadRect.idx x 0 : ℕ) = 256 * b + 1 * (x 0 : ℕ) := lidx rfl rfl
  have e1 : ((Rect.unit (s := S8192x256) ![256 * b, 0] S256x256.size inb).toLoadRect.idx x 1 : ℕ) = 0 + 1 * (x 1 : ℕ) := lidx rfl rfl
  have h0 : (x 0 : ℕ) < 256 := (x 0).isLt
  rw [hv _ (by rw [e0]; omega), e0, e1]; unfold LHSB; rw [Nat.one_mul, Nat.one_mul, Nat.zero_add]

/-- What a block's body keeps besides its slot: the tables, the gathered block, the scale operand known for `h` rows. -/
def RB (lo hi h : ℕ) (TB : Vec F S80080x128 .i32) : sProp 𝕄 :=
  iprop(AT c arg7 Whole fullShare (k0_pay40 (F := F) ids) ∗ AT c arg4 (Rows lo hi) fullShare TB ∗ (∃ v : Vec F S1560x128 .i32, AT c arg11 Whole fullShare v) ∗ AT c arg8 Whole fullShare (SHF ids)
    ∗ (∃ v : Vec F S8192x256 .f32, AT c arg9 Whole fullShare v ∗ ⌜∀ i : S8192x256.Idx, (i 0 : ℕ) < h → v i = LHS ids scales (i 0) (i 1)⌝)
    ∗ AT c arg10 Whole fullShare (EXF (F := F)) ∗ (∃ u : Vec F S256x256 .f32, AT c arg13 Whole fullShare u))

/-- The blocks of the result that have come back, and those not begun, before block `b`. -/
def Dn (C W b : ℕ) : sProp 𝕄 := AT c arg3 (Blk 0 (256 * (b - 2)) C W) fullShare (OUF ids codes scales)
def Td (C W b : ℕ) : sProp 𝕄 := iprop(∃ v : Vec F S8192x2816 .bf16, AT c arg3 (Blk (256 * b) 8192 C W) fullShare v)

theorem td_split {C W b : ℕ} (hb : b < 32) : (Td c arg3 C W b : sProp 𝕄) ⊢ iprop((∃ v : Vec F S8192x2816 .bf16, AT c arg3 (Blk (256 * b) (256 * (b + 1)) C W) fullShare v) ∗ Td c arg3 C W (b + 1)) := by
  unfold Td
  iintro ⟨%v, H⟩
  ihave H := (AT_split (M₁ := Blk (256 * b) (256 * (b + 1)) C W) (M₂ := Blk (256 * (b + 1)) 8192 C W) (fun i h h' => by have := h.1.2; have := h'.1.1; omega)
    (fun i => by unfold Blk; omega)) $$ H
  icases H with ⟨H1, H2⟩
  isplitl [H1]; · iexists v; iexact H1
  iexists v; iexact H2

theorem dn_join {C W b : ℕ} : (iprop(Dn c arg3 ids codes scales C W (b + 2) ∗ AT c arg3 (Blk (256 * b) (256 * (b + 1)) C W) fullShare (OUF ids codes scales)) : sProp 𝕄) ⊢ Dn c arg3 ids codes scales C W (b + 3) := by
  unfold Dn
  exact AT_join (fun i h h' => by have := h.1.2; have := h'.1.1; omega) (fun i => by unfold Blk; omega)

/-- One block of the first phase, or of a later one, from slot `s`: `a` blocks were sent from it before. -/
def IS (lo hi h C W a s : ℕ) (TB : Vec F S80080x128 .i32) : sProp 𝕄 :=
  iprop(RB c arg4 arg7 arg8 arg9 arg10 arg11 arg13 ids scales lo hi h TB ∗ Sl c arg3 arg14 arg18 ids codes scales C W s a ∗ Dn c arg3 ids codes scales C W (2 * a + s) ∗ Td c arg3 C W (2 * a + s) ∗ ∃ X, owes (c : Thread nD τ) 0 X)
def IS' (lo hi h C W a s : ℕ) (TB : Vec F S80080x128 .i32) : sProp 𝕄 :=
  iprop(RB c arg4 arg7 arg8 arg9 arg10 arg11 arg13 ids scales lo hi h TB ∗ Sl c arg3 arg14 arg18 ids codes scales C W s (a + 1) ∗ Dn c arg3 ids codes scales C W (2 * a + s + 1) ∗ Td c arg3 C W (2 * a + s + 1) ∗ ∃ X, owes (c : Thread nD τ) 0 X)

theorem t8_step (tb : Fin k0_t4_loop.trips) (ts : Fin k0_t5_loop.trips) (v77) (a20 v230) (vs : Vec F S1560x128 .i32) (hs : StagOK ids codes scales J0 0 (2 * tb.val + ts.val) 256 vs) (k : Fin k0_t8_loop.trips) (acc : Unit) :
    IT c arg8 arg10 arg11 arg13 arg14 ids codes scales 0 (2 * tb.val + ts.val) ts.val vs k.val
      ⊢ WP (wpE (defs₀ (F := F)) 𝒱 (c : Thread nD τ) bd) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 lane0 lane1 nib tb ts a20 v230 (LHSB ids scales (2 * tb.val + ts.val)) k acc)
        (fun _ => IT c arg8 arg10 arg11 arg13 arg14 ids codes scales 0 (2 * tb.val + ts.val) ts.val vs (k.val + 1)) := by
  unfold IT k0_t8_body
  iintro ⟨H8, H10, H11, ⟨%u, H13⟩, %v, H14, %hv⟩
  iapply (AT_load (m := arg10) (fun _ => trivial)) $$ H10
  iintro H10
  iapply (AT_load (m := arg13) (fun _ => trivial)) $$ H13
  iintro H13
  iapply (AT_store (m := arg13) (SCB ids scales (2 * tb.val + ts.val) (0 + k.val)) (fun _ => trivial) (by
    intro x
    rw [whole2]
    exact congrFun (congrArg (k0_pay56 (F := F) (LHSB ids scales (2 * tb.val + ts.val))) (exf_tile (T := 0 + k.val) ((off19 k).trans (by rw [Nat.zero_add]))).symm) x) (fun i _ h => absurd (whole2 _ i) (h i))) $$ H13
  iintro H13
  iapply (Scf.wp_for_bind frame (wpE (defs₀ (F := F)) 𝒱 (c : Thread nD τ) bd) Set.univ k0_t9_loop.lb k0_t9_loop.ub k0_t9_loop.st k0_t9_ok () _
    (fun n _ => IU c arg8 arg11 arg13 arg14 ids codes scales 0 (2 * tb.val + ts.val) ts.val k.val vs n) (fun k' acc' => t9_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts k v77 _ _ _ vs hs k' acc')) $$ [H8 H11 H13 H14]
  · unfold IU
    isplitl [H8]; · iexact H8
    isplitl [H11]; · iexact H11
    isplitl [H13]; · iexact H13
    iexists v; isplitl [H14]; · iexact H14
    ipureintro; exact hv
  iintro %_ HI
  unfold IU
  icases HI with ⟨H8, H11, H13, %w, H14, %hw⟩
  iapply done
  isplitl [H8]; · iexact H8
  isplitl [H10]; · iexact H10
  isplitl [H11]; · iexact H11
  isplitl [H13]; · iexists _; iexact H13
  iexists w; isplitl [H14]; · iexact H14
  ipureintro
  have e : Scf.trips k0_t9_loop.lb k0_t9_loop.ub k0_t9_loop.st = 8 := by decide +kernel
  rw [e] at hw
  exact OutOK_next ids codes scales hw

theorem t13_step (tb : Fin k0_t10_loop.trips) (ts : Fin k0_t11_loop.trips) (a20 v230) (vs : Vec F S1560x128 .i32) (hs : StagOK ids codes scales J1 3 (2 * tb.val + ts.val) 256 vs) (k : Fin k0_t13_loop.trips) (acc : Unit) :
    IT c arg8 arg10 arg11 arg13 arg14 ids codes scales 3 (2 * tb.val + ts.val) ts.val vs k.val
      ⊢ WP (wpE (defs₀ (F := F)) 𝒱 (c : Thread nD τ) bd) Set.univ (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb ts a20 v230 (LHSB ids scales (2 * tb.val + ts.val)) k acc)
        (fun _ => IT c arg8 arg10 arg11 arg13 arg14 ids codes scales 3 (2 * tb.val + ts.val) ts.val vs (k.val + 1)) := by
  unfold IT k0_t13_body
  iintro ⟨H8, H10, H11, ⟨%u, H13⟩, %v, H14, %hv⟩
  iapply (AT_load (m := arg10) (fun _ => trivial)) $$ H10
  iintro H10
  iapply (AT_load (m := arg13) (fun _ => trivial)) $$ H13
  iintro H13
  iapply (AT_store (m := arg13) (SCB ids scales (2 * tb.val + ts.val) (3 + k.val)) (fun _ => trivial) (by
    intro x
    rw [whole2]
    exact congrFun (congrArg (k0_pay56 (F := F) (LHSB ids scales (2 * tb.val + ts.val))) (exf_tile (T := 3 + k.val) ((off35 k).trans (by rfl))).symm) x) (fun i _ h => absurd (whole2 _ i) (h i))) $$ H13
  iintro H13
  iapply (Scf.wp_for_bind frame (wpE (defs₀ (F := F)) 𝒱 (c : Thread nD τ) bd) Set.univ k0_t14_loop.lb k0_t14_loop.ub k0_t14_loop.st k0_t14_ok () _
    (fun n _ => IU c arg8 arg11 arg13 arg14 ids codes scales 3 (2 * tb.val + ts.val) ts.val k.val vs n) (fun k' acc' => t14_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts k _ _ _ vs hs k' acc')) $$ [H8 H11 H13 H14]
  · unfold IU
    isplitl [H8]; · iexact H8
    isplitl [H11]; · iexact H11
    isplitl [H13]; · iexact H13
    iexists v; isplitl [H14]; · iexact H14
    ipureintro; exact hv
  iintro %_ HI
  unfold IU
  icases HI with ⟨H8, H11, H13, %w, H14, %hw⟩
  iapply done
  isplitl [H8]; · iexact H8
  isplitl [H10]; · iexact H10
  isplitl [H11]; · iexact H11
  isplitl [H13]; · iexists _; iexact H13
  iexists w; isplitl [H14]; · iexact H14
  ipureintro
  have e : Scf.trips k0_t14_loop.lb k0_t14_loop.ub k0_t14_loop.st = 8 := by decide +kernel
  rw [e] at hw
  exact OutOK_next ids codes scales hw

theorem t18_step (tb : Fin k0_t15_loop.trips) (ts : Fin k0_t16_loop.trips) (a20 v230) (vs : Vec F S1560x128 .i32) (hs : StagOK ids codes scales J1 7 (2 * tb.val + ts.val) 256 vs) (k : Fin k0_t18_loop.trips) (acc : Unit) :
    IT c arg8 arg10 arg11 arg13 arg14 ids codes scales 7 (2 * tb.val + ts.val) ts.val vs k.val
      ⊢ WP (wpE (defs₀ (F := F)) 𝒱 (c : Thread nD τ) bd) Set.univ (k0_t18_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb ts a20 v230 (LHSB ids scales (2 * tb.val + ts.val)) k acc)
        (fun _ => IT c arg8 arg10 arg11 arg13 arg14 ids codes scales 7 (2 * tb.val + ts.val) ts.val vs (k.val + 1)) := by
  unfold IT k0_t18_body
  iintro ⟨H8, H10, H11, ⟨%u, H13⟩, %v, H14, %hv⟩
  iapply (AT_load (m := arg10) (fun _ => trivial)) $$ H10
  iintro H10
  iapply (AT_load (m := arg13) (fun _ => trivial)) $$ H13
  iintro H13
  iapply (AT_store (m := arg13) (SCB ids scales (2 * tb.val + ts.val) (7 + k.val)) (fun _ => trivial) (by
    intro x
    rw [whole2]
    exact congrFun (congrArg (k0_pay56 (F := F) (LHSB ids scales (2 * tb.val + ts.val))) (exf_tile (T := 7 + k.val) ((off51 k).trans (by rfl))).symm) x) (fun i _ h => absurd (whole2 _ i) (h i))) $$ H13
  iintro H13
  iapply (Scf.wp_for_bind frame (wpE (defs₀ (F := F)) 𝒱 (c : Thread nD τ) bd) Set.univ k0_t19_loop.lb k0_t19_loop.ub k0_t19_loop.st k0_t19_ok () _
    (fun n _ => IU c arg8 arg11 arg13 arg14 ids codes scales 7 (2 * tb.val + ts.val) ts.val k.val vs n) (fun k' acc' => t19_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts k _ _ _ vs hs k' acc')) $$ [H8 H11 H13 H14]
  · unfold IU
    isplitl [H8]; · iexact H8
    isplitl [H11]; · iexact H11
    isplitl [H13]; · iexact H13
    iexists v; isplitl [H14]; · iexact H14
    ipureintro; exact hv
  iintro %_ HI
  unfold IU
  icases HI with ⟨H8, H11, H13, %w, H14, %hw⟩
  iapply done
  isplitl [H8]; · iexact H8
  isplitl [H10]; · iexact H10
  isplitl [H11]; · iexact H11
  isplitl [H13]; · iexists _; iexact H13
  iexists w; isplitl [H14]; · iexact H14
  ipureintro
  have e : Scf.trips k0_t19_loop.lb k0_t19_loop.ub k0_t19_loop.st = 8 := by decide +kernel
  rw [e] at hw
  exact OutOK_next ids codes scales hw

end Cert.Kernel.Body
-- ==== Proof.Body.lean ====
/-
  The body of a block: gather, prepare, wait for the slot, compute, send.
-/
module

public import proofs.«01_k».proof.Proof.Block
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16)

/-- A conditional whose two branches go on the same way. -/
theorem if_seq {β : Type} {cnd : Prop} [Decidable cnd] {w : cnd → Prog (TpuEff nD τ sig (Elt F) Λ₀ .tc) β} {J : Prog (TpuEff nD τ sig (Elt F) Λ₀ .tc) β} {P R : sProp 𝕄} {Q : β → sProp 𝕄}
    (h1 : ∀ h, P ⊢ iprop((R -∗ WP (wpE (defs₀ (F := F)) 𝒱 (c : Thread nD τ) bd) Set.univ J Q) -∗ WP (wpE (defs₀ (F := F)) 𝒱 (c : Thread nD τ) bd) Set.univ (w h) Q)) (h0 : ¬ cnd → P ⊢ R)
    (hJ : R ⊢ WP (wpE (defs₀ (F := F)) 𝒱 (c : Thread nD τ) bd) Set.univ J Q) :
    P ⊢ WP (wpE (defs₀ (F := F)) 𝒱 (c : Thread nD τ) bd) Set.univ (dite cnd w fun _ => J) Q := by
  by_cases h : cnd
  · rw [dif_pos h]
    iintro H
    iapply (h1 h) $$ H
    iintro H
    iapply hJ $$ H
  · rw [dif_neg h]; exact (h0 h).trans hJ

/-- A load whose value is known. -/
theorem load_as {cs : CoreSpace} {s : Shape} {e : EltTy} {m : Memref sig .tc cs s e} {r : LoadRect s} {hl : m.view.LoadsAt r} {M : s.Idx → Prop} {q : PosShare TreeShare} {v : s.Idx → Elt F e} {α : Type} {Q : α → sProp 𝕄}
    {k : (r.shape.Idx → Elt F e) → Prog (TpuEff nD τ sig (Elt F) Λ₀ .tc) α} {w : r.shape.Idx → Elt F e} (hM : ∀ x, M (r.idx x)) (hw : (fun x => v (r.idx x)) = w) :
    (AT c m M q v : sProp 𝕄) ⊢ iprop(((AT c m M q v : sProp 𝕄) -∗ WP (wpE (defs₀ (F := F)) 𝒱 (c : Thread nD τ) bd) Set.univ (k w) Q) -∗ WP (wpE (defs₀ (F := F)) 𝒱 (c : Thread nD τ) bd) Set.univ (.op (.load m r hl) k) Q) := by
  subst hw; exact AT_load hM

/-- A block gathered, its scale operand known for `h` rows. -/
def IM (lo hi h T0 b : ℕ) (J : ℕ → Prop) (TB : Vec F S80080x128 .i32) : sProp 𝕄 :=
  iprop(AT c arg7 Whole fullShare (k0_pay40 (F := F) ids) ∗ AT c arg4 (Rows lo hi) fullShare TB ∗ (∃ v : Vec F S1560x128 .i32, AT c arg11 Whole fullShare v ∗ ⌜StagOK ids codes scales J T0 b 256 v⌝) ∗ AT c arg8 Whole fullShare (SHF ids)
    ∗ (∃ v : Vec F S8192x256 .f32, AT c arg9 Whole fullShare v ∗ ⌜∀ i : S8192x256.Idx, (i 0 : ℕ) < h → v i = LHS ids scales (i 0) (i 1)⌝)
    ∗ AT c arg10 Whole fullShare (EXF (F := F)) ∗ (∃ u : Vec F S256x256 .f32, AT c arg13 Whole fullShare u))

/-- The same, with its slot not yet waited for, or free. -/
def IA (lo hi h T0 C W a s : ℕ) (J : ℕ → Prop) (TB : Vec F S80080x128 .i32) : sProp 𝕄 :=
  iprop(IM c arg4 arg7 arg8 arg9 arg10 arg11 arg13 ids codes scales lo hi h T0 (2 * a + s) J TB ∗ Sl c arg3 arg14 arg18 ids codes scales C W s a ∗ Dn c arg3 ids codes scales C W (2 * a + s) ∗ Td c arg3 C W (2 * a + s) ∗ ∃ X, owes (c : Thread nD τ) 0 X)
def IB (lo hi h T0 C W a s : ℕ) (J : ℕ → Prop) (TB : Vec F S80080x128 .i32) : sProp 𝕄 :=
  iprop(IM c arg4 arg7 arg8 arg9 arg10 arg11 arg13 ids codes scales lo hi h T0 (2 * a + s) J TB ∗ (semVal ((c : Thread nD τ), .dma (semO arg18 s)) 0 ∗ ∃ v : Vec F S2x256x1024 .bf16, AT c arg14 (Slot s) fullShare v)
    ∗ Dn c arg3 ids codes scales C W (2 * a + s + 1) ∗ Td c arg3 C W (2 * a + s) ∗ ∃ X, owes (c : Thread nD τ) 0 X)

theorem ib_of_zero {lo hi h T0 C W a s : ℕ} {J : ℕ → Prop} {TB : Vec F S80080x128 .i32} (hs : s < 2) (ha : a = 0) :
    IA c arg3 arg4 arg7 arg8 arg9 arg10 arg11 arg13 arg14 arg18 ids codes scales lo hi h T0 C W a s J TB ⊢ IB c arg3 arg4 arg7 arg8 arg9 arg10 arg11 arg13 arg14 arg18 ids codes scales lo hi h T0 C W a s J TB := by
  subst ha
  unfold IA IB Sl Dn
  iintro ⟨HM, HS, HD, HT, HO⟩
  isplitl [HM]; · iexact HM
  isplitl [HS]; · iexact HS
  isplitl [HD]
  · iapply (AT_dom (fun i => by unfold Blk; omega)) $$ HD
  isplitl [HT]; · iexact HT
  iexact HO

/-- The wait before a slot is used again. -/
theorem ib_of_wait {lo hi h T0 C W a s : ℕ} {J : ℕ → Prop} {TB : Vec F S80080x128 .i32} (ha : 0 < a) {sem : DmaSem sig} (hs : sem = semO arg18 s) {sp : Space} {sh : Shape} {e : EltTy} {src : Memref sig .tc sp sh e} {dst : Memref sig .tc .hbm ⟨2, ![256, W]⟩ .bf16} {h1 : src.view.WordExact} {h2 : dst.view.WordExact}
    (hN : dst.view.dmaCredit = crd arg3 W) {α : Type} {k : PUnit → Prog (TpuEff nD τ sig (Elt F) Λ₀ .tc) α} {Q : α → sProp 𝕄} :
    IA c arg3 arg4 arg7 arg8 arg9 arg10 arg11 arg13 arg14 arg18 ids codes scales lo hi h T0 C W a s J TB ⊢
      iprop((IB c arg3 arg4 arg7 arg8 arg9 arg10 arg11 arg13 arg14 arg18 ids codes scales lo hi h T0 C W a s J TB -∗ WP (wpE (defs₀ (F := F)) 𝒱 (c : Thread nD τ) bd) Set.univ (k ⟨⟩) Q)
      -∗ WP (wpE (defs₀ (F := F)) 𝒱 (c : Thread nD τ) bd) Set.univ (.op (.waitDma2 sem src dst h1 h2) k) Q) := by
  obtain ⟨n, rfl⟩ : ∃ n, a = n + 1 := ⟨a - 1, by omega⟩
  unfold IA IB
  iintro ⟨HM, HS, HD, HT, HO⟩ Hk
  iapply (slot_wait 𝒱 c bd arg3 arg14 arg18 ids codes scales hs hN) $$ [HS HO]
  · isplitl [HS]; · iexact HS
    iexact HO
  iintro ⟨HV, H14, HB, HO⟩
  iapply Hk
  isplitl [HM]; · iexact HM
  isplitl [HV H14]
  · isplitl [HV]; · iexact HV
    iexact H14
  isplitl [HD HB]
  · rw [show 2 * (n + 1) + s = (2 * n + s) + 2 by omega, show (2 * n + s) + 2 + 1 = (2 * n + s) + 3 by omega]
    iapply (dn_join c arg3 ids codes scales)
    isplitl [HD]; · iexact HD
    iexact HB
  isplitl [HT]; · iexact HT
  iexact HO

theorem part6_wp (hids : ∀ t, t < 8192 → GG ids t < 8000) (TB : Vec F S80080x128 .i32) (hT : TabOK codes 2 3 0 TB) (hS : ScaOK scales TB) (v77) (hv77 : v77 = k0_pay47) (tb : Fin k0_t4_loop.trips) (ts : Fin k0_t5_loop.trips) (a19) :
    RB c arg4 arg7 arg8 arg9 arg10 arg11 arg13 ids scales 0 40040 (256 * (2 * tb.val + ts.val)) TB ⊢ WP (wpE (defs₀ (F := F)) 𝒱 (c : Thread nD τ) bd) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 tb a19 0#32 1#32 ts) (fun _ => IM c arg4 arg7 arg8 arg9 arg10 arg11 arg13 ids codes scales 0 40040 (256 * (2 * tb.val + ts.val) + 256) 0 (2 * tb.val + ts.val) J0 TB) := by
  rw [k0_part6_eq_skeleton]; unfold k0_part6_skel
  unfold RB
  iintro ⟨H7, H4, ⟨%v, H11⟩, H8, ⟨%v9, H9, %h9⟩, H10, H13⟩
  iapply (Scf.wp_for_bind frame (wpE (defs₀ (F := F)) 𝒱 (c : Thread nD τ) bd) Set.univ k0_t6_loop.lb k0_t6_loop.ub k0_t6_loop.st k0_t6_ok () _
    (fun n _ => IG c arg4 arg7 arg11 ids codes scales 0 40040 J0 0 (2 * tb.val + ts.val) TB n) (fun k' acc' => t6_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT hS v77 tb _ _ _ ts k' acc')) $$ [H7 H4 H11]
  · unfold IG
    isplitl [H7]; · iexact H7
    isplitl [H4]; · iexact H4
    iexists v; isplitl [H11]; · iexact H11
    ipureintro
    unfold StagOK
    intros; omega
  iintro %_ HI
  unfold IG
  icases HI with ⟨H7, H4, %vs, H11, %hs⟩
  have eg : Scf.trips k0_t6_loop.lb k0_t6_loop.ub k0_t6_loop.st = 256 := by decide +kernel
  rw [eg] at hs

  iapply (Scf.wp_for_bind frame (wpE (defs₀ (F := F)) 𝒱 (c : Thread nD τ) bd) Set.univ k0_t7_loop.lb k0_t7_loop.ub k0_t7_loop.st k0_t7_ok () _
    (fun n _ => IP c arg8 arg9 arg11 ids scales (2 * tb.val + ts.val) vs n) (fun k' acc' => t7_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales v77 hv77 tb _ _ _ ts _ vs hs k' acc')) $$ [H8 H11 H9]
  · unfold IP
    isplitl [H8]; · iexact H8
    isplitl [H11]; · iexact H11
    iexists v9; isplitl [H9]; · iexact H9
    ipureintro; exact h9
  iintro %_ HI
  unfold IP
  icases HI with ⟨H8, H11, %w9, H9, %h9⟩
  have ep : Scf.trips k0_t7_loop.lb k0_t7_loop.ub k0_t7_loop.st = 32 := by decide +kernel
  rw [ep] at h9
  iapply done
  unfold IM
  isplitl [H7]; · iexact H7
  isplitl [H4]; · iexact H4
  isplitl [H11]
  · iexists vs; isplitl [H11]; · iexact H11
    ipureintro; exact hs
  isplitl [H8]; · iexact H8
  isplitl [H9]
  · iexists w9; isplitl [H9]; · iexact H9
    ipureintro; exact h9
  isplitl [H10]; · iexact H10
  iexact H13

theorem t5_step (hids : ∀ t, t < 8192 → GG ids t < 8000) (TB : Vec F S80080x128 .i32) (hT : TabOK codes 2 3 0 TB) (hS : ScaOK scales TB) (v77) (hv77 : v77 = k0_pay47) (tb : Fin k0_t4_loop.trips) (ts : Fin k0_t5_loop.trips) (a19) (acc : Unit) :
    IS c arg3 arg4 arg7 arg8 arg9 arg10 arg11 arg13 arg14 arg18 ids codes scales 0 40040 (256 * (2 * tb.val + ts.val)) 0 768 tb.val ts.val TB
      ⊢ WP (wpE (defs₀ (F := F)) 𝒱 (c : Thread nD τ) bd) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 lane0 lane1 nib tb a19 ts acc) (fun _ => IS' c arg3 arg4 arg7 arg8 arg9 arg10 arg11 arg13 arg14 arg18 ids codes scales 0 40040 (256 * (2 * tb.val + ts.val) + 256) 0 768 tb.val ts.val TB) := by
  have h2 : ts.val < 2 := lt_of_lt_of_eq ts.isLt (by decide +kernel)
  have h16 : tb.val < 16 := lt_of_lt_of_eq tb.isLt (by decide +kernel)
  unfold IS IS' k0_t5_body
  iintro ⟨HR, HS, HD, HT, HO⟩
  iapply (seq 𝒱 c bd (part6_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT hS v77 hv77 tb ts a19)) $$ HR
  iintro %r HM
  obtain ⟨a20, v230, v261⟩ := r
  iapply (if_seq 𝒱 c bd (P := IA c arg3 arg4 arg7 arg8 arg9 arg10 arg11 arg13 arg14 arg18 ids codes scales 0 40040 (256 * (2 * tb.val + ts.val) + 256) 0 0 768 tb.val ts.val J0 TB) (R := IB c arg3 arg4 arg7 arg8 arg9 arg10 arg11 arg13 arg14 arg18 ids codes scales 0 40040 (256 * (2 * tb.val + ts.val) + 256) 0 0 768 tb.val ts.val J0 TB) ?_ ?_ ?_) $$ [HM HS HD HT HO]
  · intro h
    iintro HA HJ
    iapply (ib_of_wait 𝒱 c bd arg3 arg4 arg7 arg8 arg9 arg10 arg11 arg13 arg14 arg18 ids codes scales ((cond1 tb).mp h) (sem_eq arg18 h2 (off15 ts)) (by rfl)) $$ HA
    iexact HJ
  · intro h
    exact ib_of_zero c arg3 arg4 arg7 arg8 arg9 arg10 arg11 arg13 arg14 arg18 ids codes scales h2 (Nat.eq_zero_of_not_pos fun h' => h ((cond1 tb).mpr h'))
  rotate_left
  · unfold IA
    isplitl [HM]; · iexact HM
    isplitl [HS]; · iexact HS
    isplitl [HD]; · iexact HD
    isplitl [HT]; · iexact HT
    iexact HO
  unfold RB
  iintro H
  unfold IB IM
  icases H with ⟨⟨H7, H4, ⟨%vs, H11, %hs⟩, H8, ⟨%v9, H9, %h9⟩, H10, H13⟩, ⟨HV, %vo, H14⟩, HD, HT, HO⟩
  iapply (load_as 𝒱 c bd (m := arg9) (w := LHSB ids scales (2 * tb.val + ts.val)) (fun _ => trivial) (by exact lhs_blk ids scales h9 (by omega) ((off18 tb ts).trans (vec2 (by omega))))) $$ H9
  iintro H9
  iapply (Scf.wp_for_bind frame (wpE (defs₀ (F := F)) 𝒱 (c : Thread nD τ) bd) Set.univ k0_t8_loop.lb k0_t8_loop.ub k0_t8_loop.st k0_t8_ok () _
    (fun n _ => IT c arg8 arg10 arg11 arg13 arg14 ids codes scales 0 (2 * tb.val + ts.val) ts.val vs n) (fun k' acc' => t8_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts v77 _ _ vs hs k' acc')) $$ [H8 H10 H11 H13 H14]
  · unfold IT
    isplitl [H8]; · iexact H8
    isplitl [H10]; · iexact H10
    isplitl [H11]; · iexact H11
    isplitl [H13]; · iexact H13
    iexists vo; isplitl [H14]; · iexact H14
    ipureintro
    intro i _ hi; exfalso; omega
  iintro %_ HI
  unfold IT
  icases HI with ⟨H8, H10, H11, H13, %w, H14, %hw⟩
  have et : Scf.trips k0_t8_loop.lb k0_t8_loop.ub k0_t8_loop.st = 3 := by decide +kernel
  rw [et] at hw
  ihave HT := (td_split c arg3 (b := (2 * tb.val + ts.val)) (by omega)) $$ HT
  icases HT with ⟨⟨%u, HB⟩, HT⟩
  iapply (slot_start 𝒱 c bd arg3 arg14 arg18 ids codes scales (T0 := 0) (j := 3) (C := 0) (W := 768) (s := ts.val) (n := tb.val) rfl rfl h2 (sem_eq arg18 h2 (off25 ts)) ((off26 tb ts).trans (vec2 (by omega))) (off27 ts) hw (by decide)) $$ [HV H14 HB]
  · isplitl [HV]; · iexact HV
    isplitl [H14]; · iexact H14
    iexact HB
  iintro HS
  iapply done
  isplitr [HS HD HT HO]
  · isplitl [H7]; · iexact H7
    isplitl [H4]; · iexact H4
    isplitl [H11]; · iexists vs; iexact H11
    isplitl [H8]; · iexact H8
    isplitl [H9]
    · iexists v9; isplitl [H9]; · iexact H9
      ipureintro; exact h9
    isplitl [H10]; · iexact H10
    iexact H13
  isplitl [HS]; · iexact HS
  isplitl [HD]; · iexact HD
  isplitl [HT]; · iexact HT
  iexact HO

theorem part9_wp (hids : ∀ t, t < 8192 → GG ids t < 8000) (TB : Vec F S80080x128 .i32) (hT : TabOK codes 6 4 3 TB) (tb : Fin k0_t10_loop.trips) (ts : Fin k0_t11_loop.trips) (a19) :
    IS c arg3 arg4 arg7 arg8 arg9 arg10 arg11 arg13 arg14 arg18  ids codes scales 48048 80080 8192 768 1024 tb.val ts.val TB ⊢ WP (wpE (defs₀ (F := F)) 𝒱 (c : Thread nD τ) bd) Set.univ (k0_part9 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 tb a19 0#32 1#32 ts) (fun _ => IB c arg3 arg4 arg7 arg8 arg9 arg10 arg11 arg13 arg14 arg18 ids codes scales 48048 80080 8192 3 768 1024 tb.val ts.val J1 TB) := by
  rw [k0_part9_eq_skeleton]; unfold k0_part9_skel
  have h2 : ts.val < 2 := lt_of_lt_of_eq ts.isLt (by decide +kernel)
  unfold IS RB
  iintro ⟨⟨H7, H4, ⟨%v, H11⟩, H8, ⟨%v9, H9, %h9⟩, H10, H13⟩, HS, HD, HT, HO⟩
  iapply (Scf.wp_for_bind frame (wpE (defs₀ (F := F)) 𝒱 (c : Thread nD τ) bd) Set.univ k0_t12_loop.lb k0_t12_loop.ub k0_t12_loop.st k0_t12_ok () _
    (fun n _ => IG c arg4 arg7 arg11 ids codes scales 48048 80080 J1 3 (2 * tb.val + ts.val) TB n) (fun k' acc' => t12_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb _ _ _ ts k' acc')) $$ [H7 H4 H11]
  · unfold IG
    isplitl [H7]; · iexact H7
    isplitl [H4]; · iexact H4
    iexists v; isplitl [H11]; · iexact H11
    ipureintro
    unfold StagOK
    intros; omega
  iintro %_ HI
  unfold IG
  icases HI with ⟨H7, H4, %vs, H11, %hs⟩
  have eg : Scf.trips k0_t12_loop.lb k0_t12_loop.ub k0_t12_loop.st = 256 := by decide +kernel
  rw [eg] at hs

  iapply (if_seq 𝒱 c bd (P := IA c arg3 arg4 arg7 arg8 arg9 arg10 arg11 arg13 arg14 arg18 ids codes scales 48048 80080 8192 3 768 1024 tb.val ts.val J1 TB) (R := IB c arg3 arg4 arg7 arg8 arg9 arg10 arg11 arg13 arg14 arg18 ids codes scales 48048 80080 8192 3 768 1024 tb.val ts.val J1 TB) ?_ ?_ ?_) $$ [H7 H4 H11 H8 H9 H10 H13 HS HD HT HO]
  · intro h
    iintro HA HJ
    iapply (ib_of_wait 𝒱 c bd arg3 arg4 arg7 arg8 arg9 arg10 arg11 arg13 arg14 arg18 ids codes scales ((cond2 tb).mp h) (sem_eq arg18 h2 (off31 ts)) (by rfl)) $$ HA
    iexact HJ
  · intro h
    exact ib_of_zero c arg3 arg4 arg7 arg8 arg9 arg10 arg11 arg13 arg14 arg18 ids codes scales h2 (Nat.eq_zero_of_not_pos fun h' => h ((cond2 tb).mpr h'))
  · iintro H
    iapply done
    iexact H
  unfold IA
  isplitr [HS HD HT HO]
  · unfold IM
    isplitl [H7]; · iexact H7
    isplitl [H4]; · iexact H4
    isplitl [H11]
    · iexists vs; isplitl [H11]; · iexact H11
      ipureintro; exact hs
    isplitl [H8]; · iexact H8
    isplitl [H9]
    · iexists v9; isplitl [H9]; · iexact H9
      ipureintro; exact h9
    isplitl [H10]; · iexact H10
    iexact H13
  isplitl [HS]; · iexact HS
  isplitl [HD]; · iexact HD
  isplitl [HT]; · iexact HT
  iexact HO

theorem t11_step (hids : ∀ t, t < 8192 → GG ids t < 8000) (TB : Vec F S80080x128 .i32) (hT : TabOK codes 6 4 3 TB) (tb : Fin k0_t10_loop.trips) (ts : Fin k0_t11_loop.trips) (a19) (acc : Unit) :
    IS c arg3 arg4 arg7 arg8 arg9 arg10 arg11 arg13 arg14 arg18 ids codes scales 48048 80080 (8192) 768 1024 tb.val ts.val TB
      ⊢ WP (wpE (defs₀ (F := F)) 𝒱 (c : Thread nD τ) bd) Set.univ (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb a19 ts acc) (fun _ => IS' c arg3 arg4 arg7 arg8 arg9 arg10 arg11 arg13 arg14 arg18 ids codes scales 48048 80080 8192 768 1024 tb.val ts.val TB) := by
  have h2 : ts.val < 2 := lt_of_lt_of_eq ts.isLt (by decide +kernel)
  have h16 : tb.val < 16 := lt_of_lt_of_eq tb.isLt (by decide +kernel)
  unfold k0_t11_body
  refine Entails.trans ?_ (BI.BIBase.Entails.rfl)
  iintro HI
  iapply (seq 𝒱 c bd (part9_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb ts a19)) $$ HI
  iintro %r H
  obtain ⟨a20, v230, v263⟩ := r
  unfold IS' RB
  irevert H
  iintro H
  unfold IB IM
  icases H with ⟨⟨H7, H4, ⟨%vs, H11, %hs⟩, H8, ⟨%v9, H9, %h9⟩, H10, H13⟩, ⟨HV, %vo, H14⟩, HD, HT, HO⟩
  iapply (load_as 𝒱 c bd (m := arg9) (w := LHSB ids scales (2 * tb.val + ts.val)) (fun _ => trivial) (by exact lhs_blk ids scales h9 (by omega) ((off34 tb ts).trans (vec2 (by omega))))) $$ H9
  iintro H9
  iapply (Scf.wp_for_bind frame (wpE (defs₀ (F := F)) 𝒱 (c : Thread nD τ) bd) Set.univ k0_t13_loop.lb k0_t13_loop.ub k0_t13_loop.st k0_t13_ok () _
    (fun n _ => IT c arg8 arg10 arg11 arg13 arg14 ids codes scales 3 (2 * tb.val + ts.val) ts.val vs n) (fun k' acc' => t13_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts _ _ vs hs k' acc')) $$ [H8 H10 H11 H13 H14]
  · unfold IT
    isplitl [H8]; · iexact H8
    isplitl [H10]; · iexact H10
    isplitl [H11]; · iexact H11
    isplitl [H13]; · iexact H13
    iexists vo; isplitl [H14]; · iexact H14
    ipureintro
    intro i _ hi; exfalso; omega
  iintro %_ HI
  unfold IT
  icases HI with ⟨H8, H10, H11, H13, %w, H14, %hw⟩
  have et : Scf.trips k0_t13_loop.lb k0_t13_loop.ub k0_t13_loop.st = 4 := by decide +kernel
  rw [et] at hw
  ihave HT := (td_split c arg3 (b := (2 * tb.val + ts.val)) (by omega)) $$ HT
  icases HT with ⟨⟨%u, HB⟩, HT⟩
  iapply (slot_start 𝒱 c bd arg3 arg14 arg18 ids codes scales (T0 := 3) (j := 4) (C := 768) (W := 1024) (s := ts.val) (n := tb.val) rfl rfl h2 (sem_eq arg18 h2 (off41 ts)) ((off42 tb ts).trans (vec2 (by omega))) (off43 ts) hw (by decide)) $$ [HV H14 HB]
  · isplitl [HV]; · iexact HV
    isplitl [H14]; · iexact H14
    iexact HB
  iintro HS
  iapply done
  isplitr [HS HD HT HO]
  · isplitl [H7]; · iexact H7
    isplitl [H4]; · iexact H4
    isplitl [H11]; · iexists vs; iexact H11
    isplitl [H8]; · iexact H8
    isplitl [H9]
    · iexists v9; isplitl [H9]; · iexact H9
      ipureintro; exact h9
    isplitl [H10]; · iexact H10
    iexact H13
  isplitl [HS]; · iexact HS
  isplitl [HD]; · iexact HD
  isplitl [HT]; · iexact HT
  iexact HO

theorem part12_wp (hids : ∀ t, t < 8192 → GG ids t < 8000) (TB : Vec F S80080x128 .i32) (hT : TabOK codes 2 4 7 TB) (tb : Fin k0_t15_loop.trips) (ts : Fin k0_t16_loop.trips) (a19) :
    IS c arg3 arg4 arg7 arg8 arg9 arg10 arg11 arg13 arg14 arg18  ids codes scales 16016 48048 8192 1792 1024 tb.val ts.val TB ⊢ WP (wpE (defs₀ (F := F)) 𝒱 (c : Thread nD τ) bd) Set.univ (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 tb a19 0#32 1#32 ts) (fun _ => IB c arg3 arg4 arg7 arg8 arg9 arg10 arg11 arg13 arg14 arg18 ids codes scales 16016 48048 8192 7 1792 1024 tb.val ts.val J1 TB) := by
  rw [k0_part12_eq_skeleton]; unfold k0_part12_skel
  have h2 : ts.val < 2 := lt_of_lt_of_eq ts.isLt (by decide +kernel)
  unfold IS RB
  iintro ⟨⟨H7, H4, ⟨%v, H11⟩, H8, ⟨%v9, H9, %h9⟩, H10, H13⟩, HS, HD, HT, HO⟩
  iapply (Scf.wp_for_bind frame (wpE (defs₀ (F := F)) 𝒱 (c : Thread nD τ) bd) Set.univ k0_t17_loop.lb k0_t17_loop.ub k0_t17_loop.st k0_t17_ok () _
    (fun n _ => IG c arg4 arg7 arg11 ids codes scales 16016 48048 J1 7 (2 * tb.val + ts.val) TB n) (fun k' acc' => t17_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb _ _ _ ts k' acc')) $$ [H7 H4 H11]
  · unfold IG
    isplitl [H7]; · iexact H7
    isplitl [H4]; · iexact H4
    iexists v; isplitl [H11]; · iexact H11
    ipureintro
    unfold StagOK
    intros; omega
  iintro %_ HI
  unfold IG
  icases HI with ⟨H7, H4, %vs, H11, %hs⟩
  have eg : Scf.trips k0_t17_loop.lb k0_t17_loop.ub k0_t17_loop.st = 256 := by decide +kernel
  rw [eg] at hs

  iapply (if_seq 𝒱 c bd (P := IA c arg3 arg4 arg7 arg8 arg9 arg10 arg11 arg13 arg14 arg18 ids codes scales 16016 48048 8192 7 1792 1024 tb.val ts.val J1 TB) (R := IB c arg3 arg4 arg7 arg8 arg9 arg10 arg11 arg13 arg14 arg18 ids codes scales 16016 48048 8192 7 1792 1024 tb.val ts.val J1 TB) ?_ ?_ ?_) $$ [H7 H4 H11 H8 H9 H10 H13 HS HD HT HO]
  · intro h
    iintro HA HJ
    iapply (ib_of_wait 𝒱 c bd arg3 arg4 arg7 arg8 arg9 arg10 arg11 arg13 arg14 arg18 ids codes scales ((cond3 tb).mp h) (sem_eq arg18 h2 (off47 ts)) (by rfl)) $$ HA
    iexact HJ
  · intro h
    exact ib_of_zero c arg3 arg4 arg7 arg8 arg9 arg10 arg11 arg13 arg14 arg18 ids codes scales h2 (Nat.eq_zero_of_not_pos fun h' => h ((cond3 tb).mpr h'))
  · iintro H
    iapply done
    iexact H
  unfold IA
  isplitr [HS HD HT HO]
  · unfold IM
    isplitl [H7]; · iexact H7
    isplitl [H4]; · iexact H4
    isplitl [H11]
    · iexists vs; isplitl [H11]; · iexact H11
      ipureintro; exact hs
    isplitl [H8]; · iexact H8
    isplitl [H9]
    · iexists v9; isplitl [H9]; · iexact H9
      ipureintro; exact h9
    isplitl [H10]; · iexact H10
    iexact H13
  isplitl [HS]; · iexact HS
  isplitl [HD]; · iexact HD
  isplitl [HT]; · iexact HT
  iexact HO

theorem t16_step (hids : ∀ t, t < 8192 → GG ids t < 8000) (TB : Vec F S80080x128 .i32) (hT : TabOK codes 2 4 7 TB) (tb : Fin k0_t15_loop.trips) (ts : Fin k0_t16_loop.trips) (a19) (acc : Unit) :
    IS c arg3 arg4 arg7 arg8 arg9 arg10 arg11 arg13 arg14 arg18 ids codes scales 16016 48048 (8192) 1792 1024 tb.val ts.val TB
      ⊢ WP (wpE (defs₀ (F := F)) 𝒱 (c : Thread nD τ) bd) Set.univ (k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb a19 ts acc) (fun _ => IS' c arg3 arg4 arg7 arg8 arg9 arg10 arg11 arg13 arg14 arg18 ids codes scales 16016 48048 8192 1792 1024 tb.val ts.val TB) := by
  have h2 : ts.val < 2 := lt_of_lt_of_eq ts.isLt (by decide +kernel)
  have h16 : tb.val < 16 := lt_of_lt_of_eq tb.isLt (by decide +kernel)
  unfold k0_t16_body
  refine Entails.trans ?_ (BI.BIBase.Entails.rfl)
  iintro HI
  iapply (seq 𝒱 c bd (part12_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb ts a19)) $$ HI
  iintro %r H
  obtain ⟨a20, v230, v263⟩ := r
  unfold IS' RB
  irevert H
  iintro H
  unfold IB IM
  icases H with ⟨⟨H7, H4, ⟨%vs, H11, %hs⟩, H8, ⟨%v9, H9, %h9⟩, H10, H13⟩, ⟨HV, %vo, H14⟩, HD, HT, HO⟩
  iapply (load_as 𝒱 c bd (m := arg9) (w := LHSB ids scales (2 * tb.val + ts.val)) (fun _ => trivial) (by exact lhs_blk ids scales h9 (by omega) ((off50 tb ts).trans (vec2 (by omega))))) $$ H9
  iintro H9
  iapply (Scf.wp_for_bind frame (wpE (defs₀ (F := F)) 𝒱 (c : Thread nD τ) bd) Set.univ k0_t18_loop.lb k0_t18_loop.ub k0_t18_loop.st k0_t18_ok () _
    (fun n _ => IT c arg8 arg10 arg11 arg13 arg14 ids codes scales 7 (2 * tb.val + ts.val) ts.val vs n) (fun k' acc' => t18_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales tb ts _ _ vs hs k' acc')) $$ [H8 H10 H11 H13 H14]
  · unfold IT
    isplitl [H8]; · iexact H8
    isplitl [H10]; · iexact H10
    isplitl [H11]; · iexact H11
    isplitl [H13]; · iexact H13
    iexists vo; isplitl [H14]; · iexact H14
    ipureintro
    intro i _ hi; exfalso; omega
  iintro %_ HI
  unfold IT
  icases HI with ⟨H8, H10, H11, H13, %w, H14, %hw⟩
  have et : Scf.trips k0_t18_loop.lb k0_t18_loop.ub k0_t18_loop.st = 4 := by decide +kernel
  rw [et] at hw
  ihave HT := (td_split c arg3 (b := (2 * tb.val + ts.val)) (by omega)) $$ HT
  icases HT with ⟨⟨%u, HB⟩, HT⟩
  iapply (slot_start 𝒱 c bd arg3 arg14 arg18 ids codes scales (T0 := 7) (j := 4) (C := 1792) (W := 1024) (s := ts.val) (n := tb.val) rfl rfl h2 (sem_eq arg18 h2 (off57 ts)) ((off58 tb ts).trans (vec2 (by omega))) (off59 ts) hw (by decide)) $$ [HV H14 HB]
  · isplitl [HV]; · iexact HV
    isplitl [H14]; · iexact H14
    iexact HB
  iintro HS
  iapply done
  isplitr [HS HD HT HO]
  · isplitl [H7]; · iexact H7
    isplitl [H4]; · iexact H4
    isplitl [H11]; · iexists vs; iexact H11
    isplitl [H8]; · iexact H8
    isplitl [H9]
    · iexists v9; isplitl [H9]; · iexact H9
      ipureintro; exact h9
    isplitl [H10]; · iexact H10
    iexact H13
  isplitl [HS]; · iexact HS
  isplitl [HD]; · iexact HD
  isplitl [HT]; · iexact HT
  iexact HO

end Cert.Kernel.Body
-- ==== Proof.Phase.lean ====
/-
  The loop over blocks, and the waits for its last two.
-/
module

public import proofs.«01_k».proof.Proof.Body
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16)

/-- What the loop over blocks keeps, before block `b`: the operand known for `h` rows, both slots, and the result's rows on either side. -/
def BL (lo hi h C W b : ℕ) (TB : Vec F S80080x128 .i32) : sProp 𝕄 :=
  iprop(RB c arg4 arg7 arg8 arg9 arg10 arg11 arg13 ids scales lo hi h TB ∗ Sl c arg3 arg14 arg18 ids codes scales C W 0 ((b + 1) / 2) ∗ Sl c arg3 arg14 arg18 ids codes scales C W 1 (b / 2)
    ∗ Dn c arg3 ids codes scales C W b ∗ Td c arg3 C W b ∗ ∃ X, owes (c : Thread nD τ) 0 X)

/-- A block's step, with the other slot standing by. -/
theorem bl_step {lo hi h h' C W a s : ℕ} {TB : Vec F S80080x128 .i32} (hs : s < 2) {p : Prog (TpuEff nD τ sig (Elt F) Λ₀ .tc) Unit}
    (H : IS c arg3 arg4 arg7 arg8 arg9 arg10 arg11 arg13 arg14 arg18 ids codes scales lo hi h C W a s TB ⊢ WP (wpE (defs₀ (F := F)) 𝒱 (c : Thread nD τ) bd) Set.univ p (fun _ => IS' c arg3 arg4 arg7 arg8 arg9 arg10 arg11 arg13 arg14 arg18 ids codes scales lo hi h' C W a s TB)) :
    BL c arg3 arg4 arg7 arg8 arg9 arg10 arg11 arg13 arg14 arg18 ids codes scales lo hi h C W (2 * a + s) TB
      ⊢ WP (wpE (defs₀ (F := F)) 𝒱 (c : Thread nD τ) bd) Set.univ p (fun _ => BL c arg3 arg4 arg7 arg8 arg9 arg10 arg11 arg13 arg14 arg18 ids codes scales lo hi h' C W (2 * a + s + 1) TB) := by
  obtain rfl | rfl : s = 0 ∨ s = 1 := by omega
  · have e1 : (2 * a + 0 + 1) / 2 = a := by omega
    have e2 : (2 * a + 0) / 2 = a := by omega
    have e3 : (2 * a + 0 + 1 + 1) / 2 = a + 1 := by omega
    unfold BL
    rw [e1, e2, e3]
    iintro ⟨HR, HS, HS', HD, HT, HO⟩
    iapply (wp_wand frame (wpE (defs₀ (F := F)) 𝒱 (c : Thread nD τ) bd) Set.univ (Q := fun _ => IS' c arg3 arg4 arg7 arg8 arg9 arg10 arg11 arg13 arg14 arg18 ids codes scales lo hi h' C W a 0 TB)) $$ [HR HS HD HT HO]
    · iapply H
      unfold IS
      isplitl [HR]; · iexact HR
      isplitl [HS]; · iexact HS
      isplitl [HD]; · iexact HD
      isplitl [HT]; · iexact HT
      iexact HO
    iintro %_ HI
    unfold IS'
    icases HI with ⟨HR, HS, HD, HT, HO⟩
    isplitl [HR]; · iexact HR
    isplitl [HS]; · iexact HS
    isplitl [HS']; · iexact HS'
    isplitl [HD]; · iexact HD
    isplitl [HT]; · iexact HT
    iexact HO
  · have e1 : (2 * a + 1 + 1) / 2 = a + 1 := by omega
    have e2 : (2 * a + 1) / 2 = a := by omega
    have e3 : (2 * a + 1 + 1 + 1) / 2 = a + 1 := by omega
    unfold BL
    rw [e1, e2, e3]
    iintro ⟨HR, HS', HS, HD, HT, HO⟩
    iapply (wp_wand frame (wpE (defs₀ (F := F)) 𝒱 (c : Thread nD τ) bd) Set.univ (Q := fun _ => IS' c arg3 arg4 arg7 arg8 arg9 arg10 arg11 arg13 arg14 arg18 ids codes scales lo hi h' C W a 1 TB)) $$ [HR HS HD HT HO]
    · iapply H
      unfold IS
      isplitl [HR]; · iexact HR
      isplitl [HS]; · iexact HS
      isplitl [HD]; · iexact HD
      isplitl [HT]; · iexact HT
      iexact HO
    iintro %_ HI
    unfold IS'
    icases HI with ⟨HR, HS, HD, HT, HO⟩
    isplitl [HR]; · iexact HR
    isplitl [HS']; · iexact HS'
    isplitl [HS]; · iexact HS
    isplitl [HD]; · iexact HD
    isplitl [HT]; · iexact HT
    iexact HO

/-- A loop of blocks begins: both slots free, nothing of the columns done. -/
theorem bl_intro {lo hi h C W : ℕ} {TB : Vec F S80080x128 .i32} :
    iprop(RB c arg4 arg7 arg8 arg9 arg10 arg11 arg13 ids scales lo hi h TB ∗ (semVal ((c : Thread nD τ), .dma (semO arg18 0)) 0 ∗ ∃ v : Vec F S2x256x1024 .bf16, AT c arg14 (Slot 0) fullShare v)
      ∗ (semVal ((c : Thread nD τ), .dma (semO arg18 1)) 0 ∗ ∃ v : Vec F S2x256x1024 .bf16, AT c arg14 (Slot 1) fullShare v)
      ∗ (∃ v : Vec F S8192x2816 .bf16, AT c arg3 (Blk 0 8192 C W) fullShare v) ∗ ∃ X, owes (c : Thread nD τ) 0 X)
      ⊢ BL c arg3 arg4 arg7 arg8 arg9 arg10 arg11 arg13 arg14 arg18 ids codes scales lo hi h C W 0 TB := by
  unfold BL Sl Dn Td
  iintro ⟨HR, HS, HS', ⟨%v, H3⟩, HO⟩
  isplitl [HR]; · iexact HR
  isplitl [HS]; · iexact HS
  isplitl [HS']; · iexact HS'
  ihave H3 := (AT_congr (v' := v) (fun _ _ => rfl)) $$ H3
  ihave H := (AT_split (M₁ := Blk 0 (256 * (0 - 2)) C W) (M₂ := Blk (256 * 0) 8192 C W) (fun i h h' => by have := h.1.2; omega) (fun i => by unfold Blk; omega)) $$ H3
  icases H with ⟨H1, H2⟩
  isplitl [H1]
  · iapply (AT_congr (v := v) (fun i h => by have := h.1.2; omega)) $$ H1
  isplitl [H2]; · iexists v; iexact H2
  iexact HO

/-- A loop of blocks has run; the last two are still on their way. -/
def BE (lo hi C W : ℕ) (TB : Vec F S80080x128 .i32) : sProp 𝕄 :=
  iprop(RB c arg4 arg7 arg8 arg9 arg10 arg11 arg13 ids scales lo hi 8192 TB ∗ (semVal ((c : Thread nD τ), .dma (semO arg18 0)) 0 ∗ ∃ v : Vec F S2x256x1024 .bf16, AT c arg14 (Slot 0) fullShare v)
    ∗ Sl c arg3 arg14 arg18 ids codes scales C W 1 16 ∗ AT c arg3 (Blk 0 (256 * 31) C W) fullShare (OUF ids codes scales) ∗ ∃ X, owes (c : Thread nD τ) 0 X)

/-- Both have arrived. -/
def BF (lo hi C W : ℕ) (TB : Vec F S80080x128 .i32) : sProp 𝕄 :=
  iprop(RB c arg4 arg7 arg8 arg9 arg10 arg11 arg13 ids scales lo hi 8192 TB ∗ (semVal ((c : Thread nD τ), .dma (semO arg18 0)) 0 ∗ ∃ v : Vec F S2x256x1024 .bf16, AT c arg14 (Slot 0) fullShare v)
    ∗ (semVal ((c : Thread nD τ), .dma (semO arg18 1)) 0 ∗ ∃ v : Vec F S2x256x1024 .bf16, AT c arg14 (Slot 1) fullShare v) ∗ AT c arg3 (Blk 0 8192 C W) fullShare (OUF ids codes scales) ∗ ∃ X, owes (c : Thread nD τ) 0 X)

/-- The wait for the last block of slot 0. -/
theorem last0 {lo hi C W : ℕ} {TB : Vec F S80080x128 .i32} {sem : DmaSem sig} (hs : sem = semO arg18 0) {sp : Space} {sh : Shape} {e : EltTy} {src : Memref sig .tc sp sh e} {dst : Memref sig .tc .hbm ⟨2, ![256, W]⟩ .bf16} {h1 : src.view.WordExact} {h2 : dst.view.WordExact}
    (hN : dst.view.dmaCredit = crd arg3 W) {α : Type} {k : PUnit → Prog (TpuEff nD τ sig (Elt F) Λ₀ .tc) α} {Q : α → sProp 𝕄} :
    BL c arg3 arg4 arg7 arg8 arg9 arg10 arg11 arg13 arg14 arg18 ids codes scales lo hi 8192 C W 32 TB ⊢
      iprop((BE c arg3 arg4 arg7 arg8 arg9 arg10 arg11 arg13 arg14 arg18 ids codes scales lo hi C W TB -∗ WP (wpE (defs₀ (F := F)) 𝒱 (c : Thread nD τ) bd) Set.univ (k ⟨⟩) Q)
      -∗ WP (wpE (defs₀ (F := F)) 𝒱 (c : Thread nD τ) bd) Set.univ (.op (.waitDma2 sem src dst h1 h2) k) Q) := by
  have e1 : (32 + 1) / 2 = 15 + 1 := by omega
  unfold BL BE
  rw [e1]
  iintro ⟨HR, HS, HS', HD, HT, HO⟩ Hk
  iapply (slot_wait 𝒱 c bd arg3 arg14 arg18 ids codes scales (n := 15) hs hN) $$ [HS HO]
  · isplitl [HS]; · iexact HS
    iexact HO
  iintro ⟨HV, H14, HB, HO⟩
  iapply Hk
  isplitl [HR]; · iexact HR
  isplitl [HV H14]
  · isplitl [HV]; · iexact HV
    iexact H14
  isplitl [HS']; · iexact HS'
  isplitl [HD HB]
  · have U : (iprop(Dn c arg3 ids codes scales C W 32 ∗ AT c arg3 (Blk (256 * (2 * 15 + 0)) (256 * (2 * 15 + 0 + 1)) C W) fullShare (OUF ids codes scales)) : sProp 𝕄) ⊢ AT c arg3 (Blk 0 (256 * 31) C W) fullShare (OUF ids codes scales) := dn_join c arg3 ids codes scales (b := 30)
    iapply U
    isplitl [HD]; · iexact HD
    iexact HB
  iexact HO

theorem last1 {lo hi C W : ℕ} {TB : Vec F S80080x128 .i32} {sem : DmaSem sig} (hs : sem = semO arg18 1) {sp : Space} {sh : Shape} {e : EltTy} {src : Memref sig .tc sp sh e} {dst : Memref sig .tc .hbm ⟨2, ![256, W]⟩ .bf16} {h1 : src.view.WordExact} {h2 : dst.view.WordExact}
    (hN : dst.view.dmaCredit = crd arg3 W) {α : Type} {k : PUnit → Prog (TpuEff nD τ sig (Elt F) Λ₀ .tc) α} {Q : α → sProp 𝕄} :
    BE c arg3 arg4 arg7 arg8 arg9 arg10 arg11 arg13 arg14 arg18 ids codes scales lo hi C W TB ⊢
      iprop((BF c arg3 arg4 arg7 arg8 arg9 arg10 arg11 arg13 arg14 arg18 ids codes scales lo hi C W TB -∗ WP (wpE (defs₀ (F := F)) 𝒱 (c : Thread nD τ) bd) Set.univ (k ⟨⟩) Q)
      -∗ WP (wpE (defs₀ (F := F)) 𝒱 (c : Thread nD τ) bd) Set.univ (.op (.waitDma2 sem src dst h1 h2) k) Q) := by
  unfold BE BF
  iintro ⟨HR, HS, HS', HD, HO⟩ Hk
  iapply (slot_wait 𝒱 c bd arg3 arg14 arg18 ids codes scales (n := 15) hs hN) $$ [HS' HO]
  · isplitl [HS']; · iexact HS'
    iexact HO
  iintro ⟨HV, H14, HB, HO⟩
  iapply Hk
  isplitl [HR]; · iexact HR
  isplitl [HS]; · iexact HS
  isplitl [HV H14]
  · isplitl [HV]; · iexact HV
    iexact H14
  isplitl [HD HB]
  · have U : (iprop(AT c arg3 (Blk 0 (256 * 31) C W) fullShare (OUF ids codes scales) ∗ AT c arg3 (Blk (256 * (2 * 15 + 1)) (256 * (2 * 15 + 1 + 1)) C W) fullShare (OUF ids codes scales)) : sProp 𝕄) ⊢ AT c arg3 (Blk 0 8192 C W) fullShare (OUF ids codes scales) := dn_join c arg3 ids codes scales (b := 31)
    iapply U
    isplitl [HD]; · iexact HD
    iexact HB
  iexact HO

theorem t4_step (hids : ∀ t, t < 8192 → GG ids t < 8000) (TB : Vec F S80080x128 .i32) (hT : TabOK codes 2 3 0 TB) (hS : ScaOK scales TB) (v77) (hv77 : v77 = k0_pay47) (tb : Fin k0_t4_loop.trips) (acc : Unit) :
    BL c arg3 arg4 arg7 arg8 arg9 arg10 arg11 arg13 arg14 arg18 ids codes scales 0 40040 (256 * (2 * tb.val)) 0 768 (2 * tb.val) TB
      ⊢ WP (wpE (defs₀ (F := F)) 𝒱 (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 lane0 lane1 nib tb acc) (fun _ => BL c arg3 arg4 arg7 arg8 arg9 arg10 arg11 arg13 arg14 arg18 ids codes scales 0 40040 (256 * (2 * (tb.val + 1))) 0 768 (2 * (tb.val + 1)) TB) := by
  unfold k0_t4_body
  iintro H
  iapply (Scf.wp_for_bind frame (wpE (defs₀ (F := F)) 𝒱 (c : Thread nD τ) bd) Set.univ k0_t5_loop.lb k0_t5_loop.ub k0_t5_loop.st k0_t5_ok () _
    (fun n _ => BL c arg3 arg4 arg7 arg8 arg9 arg10 arg11 arg13 arg14 arg18 ids codes scales 0 40040 (256 * (2 * tb.val + n)) 0 768 (2 * tb.val + n) TB)
    (fun k' acc' => bl_step 𝒱 c bd arg3 arg4 arg7 arg8 arg9 arg10 arg11 arg13 arg14 arg18 ids codes scales (lt_of_lt_of_eq k'.isLt (by decide +kernel)) (t5_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT hS v77 hv77 tb k' _ acc'))) $$ H
  iintro %_ HI
  iapply done
  have e : Scf.trips k0_t5_loop.lb k0_t5_loop.ub k0_t5_loop.st = 2 := by decide +kernel
  have e' : 2 * tb.val + 2 = 2 * (tb.val + 1) := by omega
  rw [e, e']
  iexact HI

/-- The whole loop. -/
theorem t4_run (hids : ∀ t, t < 8192 → GG ids t < 8000) (TB : Vec F S80080x128 .i32) (hT : TabOK codes 2 3 0 TB) (hS : ScaOK scales TB) (v77) (hv77 : v77 = k0_pay47) {α : Type} {k : Unit → Prog (TpuEff nD τ sig (Elt F) Λ₀ .tc) α} {Q : α → sProp 𝕄} :
    BL c arg3 arg4 arg7 arg8 arg9 arg10 arg11 arg13 arg14 arg18 ids codes scales 0 40040 (256 * (2 * 0)) 0 768 0 TB ⊢
      iprop((BL c arg3 arg4 arg7 arg8 arg9 arg10 arg11 arg13 arg14 arg18 ids codes scales 0 40040 8192 0 768 32 TB -∗ WP (wpE (defs₀ (F := F)) 𝒱 (c : Thread nD τ) bd) Set.univ (k ⟨⟩) Q)
      -∗ WP (wpE (defs₀ (F := F)) 𝒱 (c : Thread nD τ) bd) Set.univ (Scf.Loop.for k0_t4_loop k0_t4_ok ⟨⟩ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v77 lane0 lane1 nib) >>= k) Q) := by
  iintro H Hk
  iapply (Scf.wp_for_bind frame (wpE (defs₀ (F := F)) 𝒱 (c : Thread nD τ) bd) Set.univ k0_t4_loop.lb k0_t4_loop.ub k0_t4_loop.st k0_t4_ok () _
    (fun n _ => BL c arg3 arg4 arg7 arg8 arg9 arg10 arg11 arg13 arg14 arg18 ids codes scales 0 40040 (256 * (2 * n)) 0 768 (2 * n) TB)
    (fun k' acc' => t4_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT hS v77 hv77 k' acc')) $$ H
  iintro %_ HI
  have e : Scf.trips k0_t4_loop.lb k0_t4_loop.ub k0_t4_loop.st = 16 := by decide +kernel
  rw [e]
  iapply Hk
  iexact HI

theorem t10_step (hids : ∀ t, t < 8192 → GG ids t < 8000) (TB : Vec F S80080x128 .i32) (hT : TabOK codes 6 4 3 TB) (tb : Fin k0_t10_loop.trips) (acc : Unit) :
    BL c arg3 arg4 arg7 arg8 arg9 arg10 arg11 arg13 arg14 arg18 ids codes scales 48048 80080 8192 768 1024 (2 * tb.val) TB
      ⊢ WP (wpE (defs₀ (F := F)) 𝒱 (c : Thread nD τ) bd) Set.univ (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb acc) (fun _ => BL c arg3 arg4 arg7 arg8 arg9 arg10 arg11 arg13 arg14 arg18 ids codes scales 48048 80080 8192 768 1024 (2 * (tb.val + 1)) TB) := by
  unfold k0_t10_body
  iintro H
  iapply (Scf.wp_for_bind frame (wpE (defs₀ (F := F)) 𝒱 (c : Thread nD τ) bd) Set.univ k0_t11_loop.lb k0_t11_loop.ub k0_t11_loop.st k0_t11_ok () _
    (fun n _ => BL c arg3 arg4 arg7 arg8 arg9 arg10 arg11 arg13 arg14 arg18 ids codes scales 48048 80080 8192 768 1024 (2 * tb.val + n) TB)
    (fun k' acc' => bl_step 𝒱 c bd arg3 arg4 arg7 arg8 arg9 arg10 arg11 arg13 arg14 arg18 ids codes scales (lt_of_lt_of_eq k'.isLt (by decide +kernel)) (t11_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb k' _ acc'))) $$ H
  iintro %_ HI
  iapply done
  have e : Scf.trips k0_t11_loop.lb k0_t11_loop.ub k0_t11_loop.st = 2 := by decide +kernel
  have e' : 2 * tb.val + 2 = 2 * (tb.val + 1) := by omega
  rw [e, e']
  iexact HI

/-- The whole loop. -/
theorem t10_run (hids : ∀ t, t < 8192 → GG ids t < 8000) (TB : Vec F S80080x128 .i32) (hT : TabOK codes 6 4 3 TB) {α : Type} {k : Unit → Prog (TpuEff nD τ sig (Elt F) Λ₀ .tc) α} {Q : α → sProp 𝕄} :
    BL c arg3 arg4 arg7 arg8 arg9 arg10 arg11 arg13 arg14 arg18 ids codes scales 48048 80080 8192 768 1024 0 TB ⊢
      iprop((BL c arg3 arg4 arg7 arg8 arg9 arg10 arg11 arg13 arg14 arg18 ids codes scales 48048 80080 8192 768 1024 32 TB -∗ WP (wpE (defs₀ (F := F)) 𝒱 (c : Thread nD τ) bd) Set.univ (k ⟨⟩) Q)
      -∗ WP (wpE (defs₀ (F := F)) 𝒱 (c : Thread nD τ) bd) Set.univ (Scf.Loop.for k0_t10_loop k0_t10_ok ⟨⟩ (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib) >>= k) Q) := by
  iintro H Hk
  iapply (Scf.wp_for_bind frame (wpE (defs₀ (F := F)) 𝒱 (c : Thread nD τ) bd) Set.univ k0_t10_loop.lb k0_t10_loop.ub k0_t10_loop.st k0_t10_ok () _
    (fun n _ => BL c arg3 arg4 arg7 arg8 arg9 arg10 arg11 arg13 arg14 arg18 ids codes scales 48048 80080 8192 768 1024 (2 * n) TB)
    (fun k' acc' => t10_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT k' acc')) $$ H
  iintro %_ HI
  have e : Scf.trips k0_t10_loop.lb k0_t10_loop.ub k0_t10_loop.st = 16 := by decide +kernel
  rw [e]
  iapply Hk
  iexact HI

theorem t15_step (hids : ∀ t, t < 8192 → GG ids t < 8000) (TB : Vec F S80080x128 .i32) (hT : TabOK codes 2 4 7 TB) (tb : Fin k0_t15_loop.trips) (acc : Unit) :
    BL c arg3 arg4 arg7 arg8 arg9 arg10 arg11 arg13 arg14 arg18 ids codes scales 16016 48048 8192 1792 1024 (2 * tb.val) TB
      ⊢ WP (wpE (defs₀ (F := F)) 𝒱 (c : Thread nD τ) bd) Set.univ (k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib tb acc) (fun _ => BL c arg3 arg4 arg7 arg8 arg9 arg10 arg11 arg13 arg14 arg18 ids codes scales 16016 48048 8192 1792 1024 (2 * (tb.val + 1)) TB) := by
  unfold k0_t15_body
  iintro H
  iapply (Scf.wp_for_bind frame (wpE (defs₀ (F := F)) 𝒱 (c : Thread nD τ) bd) Set.univ k0_t16_loop.lb k0_t16_loop.ub k0_t16_loop.st k0_t16_ok () _
    (fun n _ => BL c arg3 arg4 arg7 arg8 arg9 arg10 arg11 arg13 arg14 arg18 ids codes scales 16016 48048 8192 1792 1024 (2 * tb.val + n) TB)
    (fun k' acc' => bl_step 𝒱 c bd arg3 arg4 arg7 arg8 arg9 arg10 arg11 arg13 arg14 arg18 ids codes scales (lt_of_lt_of_eq k'.isLt (by decide +kernel)) (t16_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT tb k' _ acc'))) $$ H
  iintro %_ HI
  iapply done
  have e : Scf.trips k0_t16_loop.lb k0_t16_loop.ub k0_t16_loop.st = 2 := by decide +kernel
  have e' : 2 * tb.val + 2 = 2 * (tb.val + 1) := by omega
  rw [e, e']
  iexact HI

/-- The whole loop. -/
theorem t15_run (hids : ∀ t, t < 8192 → GG ids t < 8000) (TB : Vec F S80080x128 .i32) (hT : TabOK codes 2 4 7 TB) {α : Type} {k : Unit → Prog (TpuEff nD τ sig (Elt F) Λ₀ .tc) α} {Q : α → sProp 𝕄} :
    BL c arg3 arg4 arg7 arg8 arg9 arg10 arg11 arg13 arg14 arg18 ids codes scales 16016 48048 8192 1792 1024 0 TB ⊢
      iprop((BL c arg3 arg4 arg7 arg8 arg9 arg10 arg11 arg13 arg14 arg18 ids codes scales 16016 48048 8192 1792 1024 32 TB -∗ WP (wpE (defs₀ (F := F)) 𝒱 (c : Thread nD τ) bd) Set.univ (k ⟨⟩) Q)
      -∗ WP (wpE (defs₀ (F := F)) 𝒱 (c : Thread nD τ) bd) Set.univ (Scf.Loop.for k0_t15_loop k0_t15_ok ⟨⟩ (k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib) >>= k) Q) := by
  iintro H Hk
  iapply (Scf.wp_for_bind frame (wpE (defs₀ (F := F)) 𝒱 (c : Thread nD τ) bd) Set.univ k0_t15_loop.lb k0_t15_loop.ub k0_t15_loop.st k0_t15_ok () _
    (fun n _ => BL c arg3 arg4 arg7 arg8 arg9 arg10 arg11 arg13 arg14 arg18 ids codes scales 16016 48048 8192 1792 1024 (2 * n) TB)
    (fun k' acc' => t15_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT k' acc')) $$ H
  iintro %_ HI
  have e : Scf.trips k0_t15_loop.lb k0_t15_loop.ub k0_t15_loop.st = 16 := by decide +kernel
  rw [e]
  iapply Hk
  iexact HI

end Cert.Kernel.Body
-- ==== Proof.Table.lean ====
/-
  The code table: batches of tiles copied in, and the table they make.
-/
module

public import proofs.«01_k».proof.Proof.Slot
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (codes : Vec F S8000x1408 .i32) (q : PosShare TreeShare)

/-- Code columns from `lo` to `hi`. -/
def Cols (lo hi : ℕ) : S8000x1408.Idx → Prop := fun i => lo ≤ (i 1 : ℕ) ∧ (i 1 : ℕ) < hi

/-- Plane `P` holding code tile `T`. -/
def PV (P T : ℕ) : Vec F S80080x128 .i32 := fun i => rd2 codes ((i 0 : ℕ) - 8008 * P) (128 * T + (i 1 : ℕ))

/-- What a landed tile leaves: its plane, and its columns back. -/
def Ld (P T : ℕ) : sProp 𝕄 :=
  iprop(AT c arg4 (Rows (8008 * P) (8008 * P + 8000)) fullShare (PV codes P T) ∗ AT c arg1 (Cols (128 * T) (128 * (T + 1))) q codes)

instance at_storable {sp : Space} {s : Shape} {e : EltTy} {m : Memref sig .tc sp s e} {M : s.Idx → Prop} {q : PosShare TreeShare} {v : s.Idx → Elt F e} : Storable (upEmb : UEmb _ 𝕄) (AT c m M q v : sProp 𝕄) := by
  unfold AT; infer_instance

instance ld_storable (P T : ℕ) : Storable (upEmb : UEmb _ 𝕄) (Ld c arg1 arg4 codes q P T : sProp 𝕄) := by unfold Ld; infer_instance

/-- The table copies' semaphores. -/
def semT (s : ℕ) : DmaSem sig := arg17.ix fun d => match d with | ⟨0, _⟩ => (Fin.ofNat 3 s : Fin 3)

theorem semT_eq {s : ℕ} (hs : s < 3) {off : Fin 1 → ℕ} {inb} (ho : off = ![s]) :
    ((arg17.slice (Rect.unit (s := S3) off S1.size inb)).squeeze S_ squeezes_S1_S_).sem = semT arg17 s := by
  subst ho
  refine congrArg arg17.ix (funext fun d => Fin.ext ?_)
  match d with
  | ⟨0, _⟩ =>
    have h := (Shape.reshapeEquiv squeezes_S1_S_.numel_eq (fun i : Fin 0 => i.elim0) 0).isLt
    have h' : (Shape.reshapeEquiv squeezes_S1_S_.numel_eq (fun i : Fin 0 => i.elim0) 0 : ℕ) < 1 := h
    show s + 1 * (Shape.reshapeEquiv squeezes_S1_S_.numel_eq (fun i : Fin 0 => i.elim0) 0 : ℕ) = s % 3
    omega

/-- The amount a copy of a tile counts. -/
abbrev crdT : ℕ := sig.dmaCredit .tc ((Kind.tc).table .vmem) arg4.view.buf S8000x128 .i32

theorem rows_rect {P : ℕ} {off : Fin 2 → ℕ} {inb} (ho : off = ![8008 * P, 0]) (i : S80080x128.Idx) :
    Rows (8008 * P) (8008 * P + 8000) i ↔ i ∈ (Rect.unit (s := S80080x128) off S8000x128.size inb).set := by
  subst ho
  rw [Rect.mem_set_unit]
  constructor
  · rintro ⟨h1, h2⟩
    exact Fin.forall_fin_two.mpr ⟨⟨h1, h2⟩, ⟨Nat.zero_le _, by have h : (i 1 : ℕ) < 128 := (i 1).isLt; show (i 1 : ℕ) < 0 + 128; omega⟩⟩
  · intro h
    exact h 0

theorem cols_rect {T : ℕ} {off : Fin 2 → ℕ} {inb} (ho : off = ![0, 128 * T]) (i : S8000x1408.Idx) :
    Cols (128 * T) (128 * (T + 1)) i ↔ i ∈ (Rect.unit (s := S8000x1408) off S8000x128.size inb).set := by
  subst ho
  rw [Rect.mem_set_unit]
  constructor
  · rintro ⟨h1, h2⟩
    exact Fin.forall_fin_two.mpr ⟨⟨Nat.zero_le _, by have h : (i 0 : ℕ) < 8000 := (i 0).isLt; show (i 0 : ℕ) < 0 + 8000; omega⟩, ⟨h1, by show (i 1 : ℕ) < 128 * T + 128; omega⟩⟩
  · intro h
    have h2 : 128 * T ≤ (i 1 : ℕ) ∧ (i 1 : ℕ) < 128 * T + 128 := h 1
    exact ⟨h2.1, by omega⟩

/-- The pad rows below the first `k` planes from `P`. -/
def Pds (P : ℕ) : ℕ → sProp 𝕄
  | 0 => iprop(emp)
  | k + 1 => iprop(Pds P k ∗ ∃ v : Vec F S80080x128 .i32, AT c arg4 (Rows (8008 * (P + k) + 8000) (8008 * (P + k + 1))) fullShare v)

theorem pds_succ (P k : ℕ) : (Pds c arg4 P (k + 1) : sProp 𝕄) = iprop(Pds c arg4 P k ∗ ∃ v : Vec F S80080x128 .i32, AT c arg4 (Rows (8008 * (P + k) + 8000) (8008 * (P + k + 1))) fullShare v) := rfl

/-- A batch of `n` tiles from `T` on into the planes from `P`, over cell `s`: `k` started, `i` waited for. -/
def BQ (s n P T k i : ℕ) : sProp 𝕄 :=
  iprop((∃ v : Vec F S80080x128 .i32, AT c arg4 (Rows (8008 * (P + k)) (8008 * (P + n))) fullShare v) ∗ Pds (F := F) c arg4 P k ∗ AT c arg1 (Cols (128 * (T + k)) (128 * (T + n))) q codes
    ∗ Transfers.Batch (countersEmb (U := Pipeline.UD sig nD τ)) (c : Thread nD τ) (.dma (semT arg17 s)) () (crdT arg4) (fun j : Fin n => Ld c arg1 arg4 codes q (P + j) (T + j)) k (crdT arg4 * i))

theorem rows_cut {lo A B : ℕ} {v : Vec F S80080x128 .i32} (h1 : lo ≤ A) (h2 : A ≤ B) :
    (AT c arg4 (Rows lo B) fullShare v : sProp 𝕄) ⊢ iprop(AT c arg4 (Rows lo A) fullShare v ∗ AT c arg4 (Rows A B) fullShare v) :=
  AT_split (fun i h h' => by unfold Rows at h h'; omega) (fun i => by unfold Rows; omega)

theorem rows_join {lo A B : ℕ} {v w : Vec F S80080x128 .i32} (h1 : lo ≤ A) (h2 : A ≤ B) :
    (iprop(AT c arg4 (Rows lo A) fullShare v ∗ AT c arg4 (Rows A B) fullShare w) : sProp 𝕄) ⊢ iprop(∃ u, AT c arg4 (Rows lo B) fullShare u ∗ ⌜(∀ i, Rows lo A i → u i = v i) ∧ ∀ i, Rows A B i → u i = w i⌝) :=
  at_join c (fun i h h' => by unfold Rows at h h'; omega) (fun i => by unfold Rows; omega)

theorem cols_cut {A B C : ℕ} {q : PosShare TreeShare} {v : Vec F S8000x1408 .i32} (h1 : A ≤ B) (h2 : B ≤ C) :
    (AT c arg1 (Cols A C) q v : sProp 𝕄) ⊢ iprop(AT c arg1 (Cols A B) q v ∗ AT c arg1 (Cols B C) q v) :=
  AT_split (fun i h h' => by unfold Cols at h h'; omega) (fun i => by unfold Cols; omega)

theorem cols_join {A B C : ℕ} {q : PosShare TreeShare} {v : Vec F S8000x1408 .i32} (h1 : A ≤ B) (h2 : B ≤ C) :
    (iprop(AT c arg1 (Cols A B) q v ∗ AT c arg1 (Cols B C) q v) : sProp 𝕄) ⊢ AT c arg1 (Cols A C) q v :=
  AT_join (fun i h h' => by unfold Cols at h h'; omega) (fun i => by unfold Cols; omega)

theorem bq_alloc {s n P T : ℕ} {v : Vec F S80080x128 .i32} :
    iprop(AT c arg4 (Rows (8008 * P) (8008 * (P + n))) fullShare v ∗ AT c arg1 (Cols (128 * T) (128 * (T + n))) q codes ∗ semVal ((c : Thread nD τ), .dma (semT arg17 s)) 0)
      ⊢ (iprop(|={Set.univ}=> BQ c arg1 arg4 arg17 codes q s n P T 0 0) : sProp 𝕄) := by
  iintro ⟨H4, H1, HV⟩
  imod (Transfers.batch_alloc' (countersEmb (U := Pipeline.UD sig nD τ)) (c := (c : Thread nD τ)) () (crdT arg4) (fun j : Fin n => Ld c arg1 arg4 codes q (P + j) (T + j))) $$ HV with HB
  imodintro
  unfold BQ Pds
  rw [Nat.mul_zero]
  isplitl [H4]; · iexists v; iexact H4
  isplitr; · iempintro
  isplitl [H1]; · iexact H1
  iexact HB

theorem plane_cut {P b : ℕ} {v : Vec F S80080x128 .i32} (hb : P + 1 ≤ b) : (AT c arg4 (Rows (8008 * P) (8008 * b)) fullShare v : sProp 𝕄)
    ⊢ iprop(AT c arg4 (Rows (8008 * P) (8008 * P + 8000)) fullShare v ∗ AT c arg4 (Rows (8008 * P + 8000) (8008 * (P + 1))) fullShare v ∗ AT c arg4 (Rows (8008 * (P + 1)) (8008 * b)) fullShare v) := by
  iintro H
  ihave H := (AT_split (M₁ := Rows (8008 * P) (8008 * P + 8000)) (M₂ := Rows (8008 * P + 8000) (8008 * b)) (fun i h h' => by unfold Rows at h h'; omega) (fun i => by unfold Rows; omega)) $$ H
  icases H with ⟨H1, H2⟩
  isplitl [H1]; · iexact H1
  iapply (AT_split (fun i h h' => by unfold Rows at h h'; omega) (fun i => by unfold Rows; omega)) $$ H2

theorem bq_issue {s n P T k : ℕ} (hk : k < n) {sem : DmaSem sig} (hs : sem = semT arg17 s) {off4 off1 : Fin 2 → ℕ} {i4 i1 hr4 hr1} (o4 : off4 = ![8008 * (P + k), 0]) (o1 : off1 = ![0, 128 * (T + k)])
    {h1 : (arg1.slice (Rect.unit (s := S8000x1408) off1 S8000x128.size i1) hr1).view.WordExact} {h2 : (arg4.slice (Rect.unit (s := S80080x128) off4 S8000x128.size i4) hr4).view.WordExact} {h3}
    {α : Type} {K : PUnit → Prog (TpuEff nD τ sig (Elt F) Λ₀ .tc) α} {Q : α → sProp 𝕄} :
    BQ c arg1 arg4 arg17 codes q s n P T k 0 ⊢
      iprop((BQ c arg1 arg4 arg17 codes q s n P T (k + 1) 0 -∗ WP (wpE (defs₀ (F := F)) 𝒱 (c : Thread nD τ) bd) Set.univ (K ⟨⟩) Q)
      -∗ WP (wpE (defs₀ (F := F)) 𝒱 (c : Thread nD τ) bd) Set.univ (.op (.enqueueDma (arg1.slice (Rect.unit (s := S8000x1408) off1 S8000x128.size i1) hr1) (.here (arg4.slice (Rect.unit (s := S80080x128) off4 S8000x128.size i4) hr4)) (.dma sem) h1 h2 h3) K) Q) := by
  subst hs
  have U4 : (AT c (arg4.slice (Rect.unit (s := S80080x128) off4 S8000x128.size i4) hr4) Whole fullShare (fun x : S8000x128.Idx => codes ((Rect.unit (s := S8000x1408) off1 S8000x128.size i1).emb x)) : sProp 𝕄)
      ⊢ AT c arg4 (Rows (8008 * (P + k)) (8008 * (P + k) + 8000)) fullShare (PV codes (P + k) (T + k)) :=
    AT_unslice (Rect.unit (s := S80080x128) off4 S8000x128.size i4) hr4 (rows_rect o4) (by
      intro x
      subst o4 o1
      have a0 : ((Rect.unit (s := S80080x128) ![8008 * (P + k), 0] S8000x128.size i4).emb x 0 : ℕ) = 8008 * (P + k) + 1 * (x 0 : ℕ) := remb rfl rfl
      have a1 : ((Rect.unit (s := S80080x128) ![8008 * (P + k), 0] S8000x128.size i4).emb x 1 : ℕ) = 0 + 1 * (x 1 : ℕ) := remb rfl rfl
      have b0 : ((Rect.unit (s := S8000x1408) ![0, 128 * (T + k)] S8000x128.size i1).emb x 0 : ℕ) = 0 + 1 * (x 0 : ℕ) := remb rfl rfl
      have b1 : ((Rect.unit (s := S8000x1408) ![0, 128 * (T + k)] S8000x128.size i1).emb x 1 : ℕ) = 128 * (T + k) + 1 * (x 1 : ℕ) := remb rfl rfl
      unfold PV
      exact rd2_of codes _ (by omega) (by omega))
  have U1 : (AT c (arg1.slice (Rect.unit (s := S8000x1408) off1 S8000x128.size i1) hr1) Whole q (fun x : S8000x128.Idx => codes ((Rect.unit (s := S8000x1408) off1 S8000x128.size i1).emb x)) : sProp 𝕄)
      ⊢ AT c arg1 (Cols (128 * (T + k)) (128 * (T + k + 1))) q codes :=
    AT_unslice (Rect.unit (s := S8000x1408) off1 S8000x128.size i1) hr1 (cols_rect o1) (fun _ => rfl)
  have UD : (iprop(AT c (arg4.slice (Rect.unit (s := S80080x128) off4 S8000x128.size i4) hr4) Whole fullShare (fun x : S8000x128.Idx => codes ((Rect.unit (s := S8000x1408) off1 S8000x128.size i1).emb x))
      ∗ AT c (arg1.slice (Rect.unit (s := S8000x1408) off1 S8000x128.size i1) hr1) Whole q (fun x : S8000x128.Idx => codes ((Rect.unit (s := S8000x1408) off1 S8000x128.size i1).emb x))) : sProp 𝕄)
      ⊢ (fun j : Fin n => Ld c arg1 arg4 codes q (P + j) (T + j)) ⟨k, hk⟩ := by
    show _ ⊢ Ld c arg1 arg4 codes q (P + k) (T + k)
    unfold Ld
    iintro ⟨H4, H1⟩
    isplitl [H4]
    · iapply U4 $$ H4
    · iapply U1 $$ H1
  unfold BQ
  rw [Nat.mul_zero]
  iintro ⟨⟨%v, H4⟩, HP, H1, HB⟩ HK
  ihave H4 := (plane_cut c arg4 (b := P + n) (by omega)) $$ H4
  icases H4 with ⟨H4, Hp, Hr⟩
  ihave H1 := (AT_split (M₁ := Cols (128 * (T + k)) (128 * (T + k + 1))) (M₂ := Cols (128 * (T + (k + 1))) (128 * (T + n))) (fun i h h' => by unfold Cols at h h'; omega) (fun i => by unfold Cols; omega)) $$ H1
  icases H1 with ⟨H1, Hc⟩
  ihave H4 := (AT_slice (Rect.unit (s := S80080x128) off4 S8000x128.size i4) hr4 (rows_rect o4)) $$ H4
  ihave H1 := (AT_slice (Rect.unit (s := S8000x1408) off1 S8000x128.size i1) hr1 (cols_rect o1)) $$ H1
  iapply (AT_enqueueBatch (countersEmb (U := Pipeline.UD sig nD τ)) (q := q) (v := fun x : S8000x128.Idx => codes ((Rect.unit (s := S8000x1408) off1 S8000x128.size i1).emb x)) (D := fun j : Fin n => Ld c arg1 arg4 codes q (P + j) (T + j)) (crdT arg4) rfl hk UD) $$ [H4 H1 HB]
  · isplitl [H1]; · iexact H1
    isplitl [H4]; · iexact H4
    iexact HB
  iintro HB
  iapply HK
  isplitl [Hr]; · iexists v; iexact Hr
  isplitl [HP Hp]
  · rw [pds_succ]
    isplitl [HP]; · iexact HP
    iexists v; iexact Hp
  isplitl [Hc]; · iexact Hc
  iexact HB

theorem bq_wait {s n P T i : ℕ} (hi : i + 1 < n) {sem : DmaSem sig} (hs : sem = semT arg17 s) {sp sp' : Space} {sh sh' : Shape} {e e' : EltTy} {src : Memref sig .tc sp' sh' e'} {dst : Memref sig .tc sp sh e} {h1 : src.view.WordExact} {h2 : dst.view.WordExact}
    (hN : dst.view.dmaCredit = crdT arg4) {α : Type} {K : PUnit → Prog (TpuEff nD τ sig (Elt F) Λ₀ .tc) α} {Q : α → sProp 𝕄} :
    iprop(BQ c arg1 arg4 arg17 codes q s n P T n i ∗ ∃ X, owes (c : Thread nD τ) 0 X) ⊢
      iprop((iprop(BQ c arg1 arg4 arg17 codes q s n P T n (i + 1) ∗ ∃ X, owes (c : Thread nD τ) 0 X) -∗ WP (wpE (defs₀ (F := F)) 𝒱 (c : Thread nD τ) bd) Set.univ (K ⟨⟩) Q)
      -∗ WP (wpE (defs₀ (F := F)) 𝒱 (c : Thread nD τ) bd) Set.univ (.op (.waitDma2 sem src dst h1 h2) K) Q) := by
  subst hs
  have hpos : 0 < crdT arg4 := View.dmaCredit_pos (arg4.slice (Rect.unit (s := S80080x128) ![16016, 0] S8000x128.size inb_S80080x128_S8000x128_16016_0) (fun _ => rfl)).view (Shape.numel_pos (s := S8000x128) (Fin.forall_fin_two.mpr ⟨by show 0 < 8000; decide, by show 0 < 128; decide⟩))
  unfold BQ
  iintro ⟨⟨H4, HP, H1, HB⟩, %X, HO⟩ HK
  iapply (Transfers.wp_waitBatch (countersEmb (U := Pipeline.UD sig nD τ)) 𝒱 (c : Thread nD τ) bd () hN (u := crdT arg4 * i) (by
    rw [← Nat.mul_succ]; exact Nat.mul_lt_mul_of_pos_left hi hpos)) $$ [HB HO]
  · isplitl [HB]; · iexact HB
    iexact HO
  iintro ⟨HB, HO⟩
  iapply HK
  rw [Nat.mul_succ]
  isplitr [HO]
  · isplitl [H4]; · iexact H4
    isplitl [HP]; · iexact HP
    isplitl [H1]; · iexact H1
    iexact HB
  iexists _; iexact HO

/-- A batch all of which has arrived. -/
def BD (s n P T : ℕ) : sProp 𝕄 :=
  iprop((∃ v : Vec F S80080x128 .i32, AT c arg4 (Rows (8008 * P) (8008 * P)) fullShare v) ∗ Pds (F := F) c arg4 P n ∗ AT c arg1 (Cols (128 * T) (128 * T)) q codes
    ∗ bigSep Finset.univ (fun j : Fin n => Ld c arg1 arg4 codes q (P + j) (T + j)) ∗ semVal ((c : Thread nD τ), .dma (semT arg17 s)) 0)

theorem bq_last {s n P T i : ℕ} (hi : i + 1 = n) {sem : DmaSem sig} (hs : sem = semT arg17 s) {sp sp' : Space} {sh sh' : Shape} {e e' : EltTy} {src : Memref sig .tc sp' sh' e'} {dst : Memref sig .tc sp sh e} {h1 : src.view.WordExact} {h2 : dst.view.WordExact}
    (hN : dst.view.dmaCredit = crdT arg4) {α : Type} {K : PUnit → Prog (TpuEff nD τ sig (Elt F) Λ₀ .tc) α} {Q : α → sProp 𝕄} :
    iprop(BQ c arg1 arg4 arg17 codes q s n P T n i ∗ ∃ X, owes (c : Thread nD τ) 0 X) ⊢
      iprop((iprop(BD c arg1 arg4 arg17 codes q s n P T ∗ ∃ X, owes (c : Thread nD τ) 0 X) -∗ WP (wpE (defs₀ (F := F)) 𝒱 (c : Thread nD τ) bd) Set.univ (K ⟨⟩) Q)
      -∗ WP (wpE (defs₀ (F := F)) 𝒱 (c : Thread nD τ) bd) Set.univ (.op (.waitDma2 sem src dst h1 h2) K) Q) := by
  subst hs
  have hpos : 0 < crdT arg4 := View.dmaCredit_pos (arg4.slice (Rect.unit (s := S80080x128) ![16016, 0] S8000x128.size inb_S80080x128_S8000x128_16016_0) (fun _ => rfl)).view (Shape.numel_pos (s := S8000x128) (Fin.forall_fin_two.mpr ⟨by show 0 < 8000; decide, by show 0 < 128; decide⟩))
  unfold BQ BD
  iintro ⟨⟨⟨%v, H4⟩, HP, H1, HB⟩, %X, HO⟩ HK
  iapply (Transfers.wp_waitBatchLast (countersEmb (U := Pipeline.UD sig nD τ)) 𝒱 (c : Thread nD τ) bd () hN hpos (D := fun j : Fin n => Ld c arg1 arg4 codes q (P + j) (T + j)) (u := crdT arg4 * i) (by
    rw [← hi, Nat.mul_succ])) $$ [HB HO]
  · isplitl [HB]; · iexact HB
    iexact HO
  iintro ⟨HB, HV, HO⟩
  iapply HK
  isplitr [HO]
  · isplitl [H4]
    · iexists v; iapply (AT_dom (fun i => by unfold Rows; omega)) $$ H4
    isplitl [HP]; · iexact HP
    isplitl [H1]
    · iapply (AT_dom (fun i => by unfold Cols; omega)) $$ H1
    isplitl [HB]; · iexact HB
    iexact HV
  iexists _; iexact HO

/-- Planes filled so far, above rows already known. -/
def TS (lo P T : ℕ) (w : Vec F S80080x128 .i32) (k : ℕ) : sProp 𝕄 :=
  iprop((∃ v : Vec F S80080x128 .i32, AT c arg4 (Rows lo (8008 * (P + k))) fullShare v ∗ ⌜TabOK codes P k T v ∧ ∀ i, Rows lo (8008 * P) i → v i = w i⌝) ∗ AT c arg1 (Cols (128 * T) (128 * (T + k))) q codes)

theorem ts_step {lo P T k : ℕ} {w : Vec F S80080x128 .i32} (hlo : lo ≤ 8008 * P) :
    iprop(TS c arg1 arg4 codes q lo P T w k ∗ Ld c arg1 arg4 codes q (P + k) (T + k) ∗ ∃ v : Vec F S80080x128 .i32, AT c arg4 (Rows (8008 * (P + k) + 8000) (8008 * (P + k + 1))) fullShare v)
      ⊢ (TS c arg1 arg4 codes q lo P T w (k + 1) : sProp 𝕄) := by
  have eA : 8008 * (P + k + 1) = 8008 * (P + k) + 8008 := by omega
  have eB : 8008 * P ≤ 8008 * (P + k) := by omega
  have hT : ∀ j g : ℕ, j < k → g < 8000 → 8008 * P ≤ 8008 * (P + j) + g ∧ 8008 * (P + j) + g < 8008 * (P + k) := fun j g _ _ => by omega
  unfold TS Ld
  rw [← Nat.add_assoc P k 1, ← Nat.add_assoc T k 1]
  iintro ⟨⟨⟨%v, H4, %hv⟩, H1⟩, ⟨Hp, Hc⟩, %u, Hd⟩
  isplitr [H1 Hc]
  · ihave H4 := (rows_join c arg4 (lo := lo) (A := 8008 * (P + k)) (B := 8008 * (P + k) + 8000) (by omega) (by omega)) $$ [H4 Hp]
    · isplitl [H4]; · iexact H4
      iexact Hp
    icases H4 with ⟨%v1, H4, %h1⟩
    ihave H4 := (rows_join c arg4 (lo := lo) (A := 8008 * (P + k) + 8000) (B := 8008 * (P + k + 1)) (by omega) (by omega)) $$ [H4 Hd]
    · isplitl [H4]; · iexact H4
      iexact Hd
    icases H4 with ⟨%v2, H4, %h2⟩
    iexists v2
    isplitl [H4]; · iexact H4
    ipureintro
    refine ⟨?_, fun i hi => ?_⟩
    · intro i j g hj hg h0
      rcases Nat.lt_or_ge j k with hjk | hjk
      · obtain ⟨a, b⟩ := hT j g hjk hg
        rw [← h0] at a b
        rw [h2.1 i ⟨hlo.trans a, Nat.lt_add_right _ b⟩, h1.1 i ⟨hlo.trans a, b⟩]
        exact hv.1 i j g hjk hg h0
      · obtain rfl : j = k := by omega
        rw [h2.1 i ⟨(hlo.trans eB).trans (h0 ▸ Nat.le_add_right _ _), by rw [h0]; exact Nat.add_lt_add_left hg _⟩, h1.2 i ⟨h0 ▸ Nat.le_add_right _ _, by rw [h0]; exact Nat.add_lt_add_left hg _⟩]
        unfold PV; rw [h0, Nat.add_sub_cancel_left]
    · have b : (i 0 : ℕ) < 8008 * (P + k) := lt_of_lt_of_le hi.2 eB
      rw [h2.1 i ⟨hi.1, Nat.lt_add_right _ b⟩, h1.1 i ⟨hi.1, b⟩]
      exact hv.2 i hi
  · iapply (cols_join c arg1 (A := 128 * T) (B := 128 * (T + k)) (C := 128 * (T + k + 1)) (by omega) (by omega))
    isplitl [H1]; · iexact H1
    iexact Hc

theorem ts_fold {lo P T n : ℕ} {w : Vec F S80080x128 .i32} (hlo : lo ≤ 8008 * P) (k : ℕ) (hk : k ≤ n) :
    iprop(TS c arg1 arg4 codes q lo P T w 0 ∗ bigSep (Finset.univ.filter fun j : Fin n => j.val < k) (fun j : Fin n => Ld c arg1 arg4 codes q (P + j) (T + j)) ∗ Pds (F := F) c arg4 P k)
      ⊢ (TS c arg1 arg4 codes q lo P T w k : sProp 𝕄) := by
  induction k with
  | zero =>
    iintro ⟨H, -, -⟩
    iexact H
  | succ k ih =>
    have hs : (Finset.univ.filter fun j : Fin n => j.val < k + 1) = insert (⟨k, hk⟩ : Fin n) (Finset.univ.filter fun j : Fin n => j.val < k) := by
      ext j
      simp only [Finset.mem_filter, Finset.mem_univ, true_and, Finset.mem_insert, Fin.ext_iff]
      omega
    have hb : bigSep (insert (⟨k, hk⟩ : Fin n) (Finset.univ.filter fun j : Fin n => j.val < k)) (fun j : Fin n => (Ld c arg1 arg4 codes q (P + j) (T + j) : sProp 𝕄))
        ⊢ iprop(Ld c arg1 arg4 codes q (P + k) (T + k) ∗ bigSep (Finset.univ.filter fun j : Fin n => j.val < k) (fun j : Fin n => (Ld c arg1 arg4 codes q (P + j) (T + j) : sProp 𝕄))) := Entails.of_eq (bigSep_insert (by simp))
    rw [hs, pds_succ]
    iintro ⟨HT, HB, HP, HD⟩
    ihave HB := hb $$ HB
    icases HB with ⟨HL, HB⟩
    iapply (ts_step c arg1 arg4 codes q hlo)
    isplitl [HT HB HP]
    · iapply (ih (Nat.le_of_succ_le hk))
      isplitl [HT]; · iexact HT
      isplitl [HB]; · iexact HB
      iexact HP
    isplitl [HL]; · iexact HL
    iexact HD

/-- Everything that has arrived, as one table above rows already known. -/
theorem bd_table {s n lo P T : ℕ} {w : Vec F S80080x128 .i32} (hlo : lo ≤ 8008 * P) :
    iprop(AT c arg4 (Rows lo (8008 * P)) fullShare w ∗ BD c arg1 arg4 arg17 codes q s n P T) ⊢
      (iprop((∃ v : Vec F S80080x128 .i32, AT c arg4 (Rows lo (8008 * (P + n))) fullShare v ∗ ⌜TabOK codes P n T v ∧ ∀ i, Rows lo (8008 * P) i → v i = w i⌝) ∗ AT c arg1 (Cols (128 * T) (128 * (T + n))) q codes
        ∗ semVal ((c : Thread nD τ), .dma (semT arg17 s)) 0) : sProp 𝕄) := by
  unfold BD
  iintro ⟨H4, -, HP, H1, HB, HV⟩
  ihave HT := (ts_fold c arg1 arg4 codes q (lo := lo) (P := P) (T := T) (w := w) hlo n (le_refl n)) $$ [H4 H1 HB HP]
  · unfold TS
    isplitl [H4 H1]
    · isplitl [H4]
      · iexists w
        isplitl [H4]; · iexact H4
        ipureintro
        exact ⟨fun i j g hj => absurd hj (Nat.not_lt_zero j), fun _ _ => rfl⟩
      iexact H1
    isplitl [HB]
    · rw [show (Finset.univ.filter fun j : Fin n => j.val < n) = Finset.univ from Finset.filter_true_of_mem fun j _ => j.isLt]
      iexact HB
    iexact HP
  unfold TS
  icases HT with ⟨HT, H1⟩
  isplitl [HT]; · iexact HT
  isplitl [H1]; · iexact H1
  iexact HV

/-- The same, with nothing below. -/
theorem bd_table' {s n P T : ℕ} :
    BD c arg1 arg4 arg17 codes q s n P T ⊢
      (iprop((∃ v : Vec F S80080x128 .i32, AT c arg4 (Rows (8008 * P) (8008 * (P + n))) fullShare v ∗ ⌜TabOK codes P n T v⌝) ∗ AT c arg1 (Cols (128 * T) (128 * (T + n))) q codes
        ∗ semVal ((c : Thread nD τ), .dma (semT arg17 s)) 0) : sProp 𝕄) := by
  have h := fun w => bd_table c arg1 arg4 arg17 codes q (s := s) (n := n) (P := P) (T := T) (w := w) (le_refl (8008 * P))
  unfold BD at h ⊢
  iintro ⟨⟨%w, H4⟩, HP, H1, HB, HV⟩
  ihave H4 := (rows_cut c arg4 (le_refl (8008 * P)) (le_refl (8008 * P))) $$ H4
  icases H4 with ⟨H4, H4'⟩
  ihave H := (h w) $$ [H4 H4' HP H1 HB HV]
  · isplitl [H4]; · iexact H4
    isplitl [H4']; · iexists w; iexact H4'
    isplitl [HP]; · iexact HP
    isplitl [H1]; · iexact H1
    isplitl [HB]; · iexact HB
    iexact HV
  icases H with ⟨⟨%v, H4, %hv⟩, H1, HV⟩
  isplitl [H4]
  · iexists v
    isplitl [H4]; · iexact H4
    ipureintro; exact hv.1
  isplitl [H1]; · iexact H1
  iexact HV

end Cert.Kernel.Body
-- ==== Proof.Parts.lean ====
/-
  The kernel, part by part.
-/
module

public import proofs.«01_k».proof.Proof.Phase
public import proofs.«01_k».proof.Proof.Table
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16) (q q0 q2 : PosShare TreeShare)

/-- What a copy of the scales counts, and of the row numbers. -/
abbrev crd5 : ℕ := sig.dmaCredit .tc ((Kind.tc).table .vmem) arg5.view.buf S88x32000 .i16
abbrev crd7 : ℕ := sig.dmaCredit .tc ((Kind.tc).table .smem) arg7.view.buf S4x2048 .i32

/-- The scales on their way, and the row numbers. -/
def Fl16 : sProp 𝕄 := Transfers.Flight (countersEmb (U := Pipeline.UD sig nD τ)) (c : Thread nD τ) (.dma arg16.sem) () (crd5 arg5) iprop(AT c arg5 Whole fullShare scales ∗ AT c arg2 Whole q2 scales)
def Fl15 : sProp 𝕄 := Transfers.Flight (countersEmb (U := Pipeline.UD sig nD τ)) (c : Thread nD τ) (.dma arg15.sem) () (crd7 arg7) iprop(AT c arg7 Whole fullShare (k0_pay40 (F := F) ids) ∗ AT c arg6 Whole fullShare (k0_pay40 (F := F) ids))

/-- Both slots free. -/
def SLT : sProp 𝕄 :=
  iprop((semVal ((c : Thread nD τ), .dma (semO arg18 0)) 0 ∗ ∃ v : Vec F S2x256x1024 .bf16, AT c arg14 (Slot 0) fullShare v) ∗ (semVal ((c : Thread nD τ), .dma (semO arg18 1)) 0 ∗ ∃ v : Vec F S2x256x1024 .bf16, AT c arg14 (Slot 1) fullShare v))

/-- What a block's body keeps besides the table and its slot. -/
def RX (h : ℕ) : sProp 𝕄 :=
  iprop(AT c arg7 Whole fullShare (k0_pay40 (F := F) ids) ∗ (∃ v : Vec F S1560x128 .i32, AT c arg11 Whole fullShare v) ∗ AT c arg8 Whole fullShare (SHF ids)
    ∗ (∃ v : Vec F S8192x256 .f32, AT c arg9 Whole fullShare v ∗ ⌜∀ i : S8192x256.Idx, (i 0 : ℕ) < h → v i = LHS ids scales (i 0) (i 1)⌝)
    ∗ AT c arg10 Whole fullShare (EXF (F := F)) ∗ (∃ u : Vec F S256x256 .f32, AT c arg13 Whole fullShare u))

theorem rb_intro {lo hi h : ℕ} {TB : Vec F S80080x128 .i32} : iprop(RX c arg7 arg8 arg9 arg10 arg11 arg13 ids scales h ∗ AT c arg4 (Rows lo hi) fullShare TB) ⊢ (RB c arg4 arg7 arg8 arg9 arg10 arg11 arg13 ids scales lo hi h TB : sProp 𝕄) := by
  unfold RX RB
  iintro ⟨⟨H7, H⟩, H4⟩
  isplitl [H7]; · iexact H7
  isplitl [H4]; · iexact H4
  iexact H

theorem rb_elim {lo hi h : ℕ} {TB : Vec F S80080x128 .i32} : (RB c arg4 arg7 arg8 arg9 arg10 arg11 arg13 ids scales lo hi h TB : sProp 𝕄) ⊢ iprop(RX c arg7 arg8 arg9 arg10 arg11 arg13 ids scales h ∗ AT c arg4 (Rows lo hi) fullShare TB) := by
  unfold RX RB
  iintro ⟨H7, H4, H⟩
  isplitr [H4]
  · isplitl [H7]; · iexact H7
    iexact H
  iexact H4

/-- A phase's state from its parts, and back. -/
theorem phase_begin {lo hi h C W : ℕ} {TB : Vec F S80080x128 .i32} :
    iprop(RX c arg7 arg8 arg9 arg10 arg11 arg13 ids scales h ∗ AT c arg4 (Rows lo hi) fullShare TB ∗ SLT c arg14 arg18 ∗ (∃ v : Vec F S8192x2816 .bf16, AT c arg3 (Blk 0 8192 C W) fullShare v) ∗ (∃ X, owes (c : Thread nD τ) 0 X))
      ⊢ BL c arg3 arg4 arg7 arg8 arg9 arg10 arg11 arg13 arg14 arg18 ids codes scales lo hi h C W 0 TB := by
  unfold SLT
  iintro ⟨HX, H4, ⟨HS, HS'⟩, H3, HO⟩
  iapply (bl_intro c arg3 arg4 arg7 arg8 arg9 arg10 arg11 arg13 arg14 arg18 ids codes scales)
  isplitl [HX H4]
  · iapply (rb_intro c arg4 arg7 arg8 arg9 arg10 arg11 arg13 ids scales)
    isplitl [HX]; · iexact HX
    iexact H4
  isplitl [HS]; · iexact HS
  isplitl [HS']; · iexact HS'
  isplitl [H3]; · iexact H3
  iexact HO

theorem phase_end {lo hi C W : ℕ} {TB : Vec F S80080x128 .i32} :
    BF c arg3 arg4 arg7 arg8 arg9 arg10 arg11 arg13 arg14 arg18 ids codes scales lo hi C W TB
      ⊢ iprop(RX c arg7 arg8 arg9 arg10 arg11 arg13 ids scales 8192 ∗ AT c arg4 (Rows lo hi) fullShare TB ∗ SLT c arg14 arg18 ∗ AT c arg3 (Blk 0 8192 C W) fullShare (OUF ids codes scales) ∗ (∃ X, owes (c : Thread nD τ) 0 X)) := by
  unfold BF SLT
  iintro ⟨HR, HS, HS', H3, HO⟩
  ihave HR := (rb_elim c arg4 arg7 arg8 arg9 arg10 arg11 arg13 ids scales) $$ HR
  icases HR with ⟨HX, H4⟩
  isplitl [HX]; · iexact HX
  isplitl [H4]; · iexact H4
  isplitl [HS HS']
  · isplitl [HS]; · iexact HS
    iexact HS'
  isplitl [H3]; · iexact H3
  iexact HO

theorem part13_wp :
    iprop(AT c arg2 Whole q2 scales ∗ (∃ v : Vec F S88x32000 .i16, AT c arg5 Whole fullShare v) ∗ semVal ((c : Thread nD τ), .dma arg16.sem) 0 ∗ BQ c arg1 arg4 arg17 codes q 0 3 2 0 0 0 ∗ BQ c arg1 arg4 arg17 codes q 1 4 6 3 0 0)
      ⊢ WP (wpE (defs₀ (F := F)) 𝒱 (c : Thread nD τ) bd) Set.univ (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) (fun _ => iprop(Fl16 c arg2 arg5 arg16 scales q2 ∗ BQ c arg1 arg4 arg17 codes q 0 3 2 0 3 0 ∗ BQ c arg1 arg4 arg17 codes q 1 4 6 3 2 0)) := by
  rw [k0_part13_eq_skeleton]; unfold k0_part13_skel
  iintro ⟨H2, ⟨%v5, H5⟩, HV, HB0, HB1⟩
  iapply (AT_enqueue (countersEmb (U := Pipeline.UD sig nD τ)) (v := scales) (q := q2) (crd5 arg5) rfl (View.dmaCredit_pos arg5.view (Shape.numel_pos (s := S88x32000) (Fin.forall_fin_two.mpr ⟨by show 0 < 88; decide, by show 0 < 32000; decide⟩)))) $$ [H2 H5 HV]
  · isplitl [H2]; · iexact H2
    isplitl [H5]; · iexact H5
    iexact HV
  iintro HF
  iapply (bq_issue 𝒱 c bd arg1 arg4 arg17 codes q (s := 0) (n := 3) (P := 2) (T := 0) (k := 0) (by decide) (semT_eq arg17 (by decide) (show (![0] : Fin 1 → ℕ) = ![0] from rfl)) (show (![16016, 0] : Fin 2 → ℕ) = ![8008 * (2 + 0), 0] from rfl) (show (![0, 0] : Fin 2 → ℕ) = ![0, 128 * (0 + 0)] from rfl)) $$ HB0
  iintro HB0
  iapply (bq_issue 𝒱 c bd arg1 arg4 arg17 codes q (s := 0) (n := 3) (P := 2) (T := 0) (k := 1) (by decide) (semT_eq arg17 (by decide) (show (![0] : Fin 1 → ℕ) = ![0] from rfl)) (show (![24024, 0] : Fin 2 → ℕ) = ![8008 * (2 + 1), 0] from rfl) (show (![0, 128] : Fin 2 → ℕ) = ![0, 128 * (0 + 1)] from rfl)) $$ HB0
  iintro HB0
  iapply (bq_issue 𝒱 c bd arg1 arg4 arg17 codes q (s := 0) (n := 3) (P := 2) (T := 0) (k := 2) (by decide) (semT_eq arg17 (by decide) (show (![0] : Fin 1 → ℕ) = ![0] from rfl)) (show (![32032, 0] : Fin 2 → ℕ) = ![8008 * (2 + 2), 0] from rfl) (show (![0, 256] : Fin 2 → ℕ) = ![0, 128 * (0 + 2)] from rfl)) $$ HB0
  iintro HB0
  iapply (bq_issue 𝒱 c bd arg1 arg4 arg17 codes q (s := 1) (n := 4) (P := 6) (T := 3) (k := 0) (by decide) (semT_eq arg17 (by decide) (show (![1] : Fin 1 → ℕ) = ![1] from rfl)) (show (![48048, 0] : Fin 2 → ℕ) = ![8008 * (6 + 0), 0] from rfl) (show (![0, 384] : Fin 2 → ℕ) = ![0, 128 * (3 + 0)] from rfl)) $$ HB1
  iintro HB1
  iapply (bq_issue 𝒱 c bd arg1 arg4 arg17 codes q (s := 1) (n := 4) (P := 6) (T := 3) (k := 1) (by decide) (semT_eq arg17 (by decide) (show (![1] : Fin 1 → ℕ) = ![1] from rfl)) (show (![56056, 0] : Fin 2 → ℕ) = ![8008 * (6 + 1), 0] from rfl) (show (![0, 512] : Fin 2 → ℕ) = ![0, 128 * (3 + 1)] from rfl)) $$ HB1
  iintro HB1
  iapply done
  unfold Fl16
  isplitl [HF]; · iexact HF
  isplitl [HB0]; · iexact HB0
  iexact HB1

theorem part14_wp :
    iprop(BQ c arg1 arg4 arg17 codes q 1 4 6 3 2 0 ∗ AT c arg0 Whole q0 ids ∗ (∃ v : Vec F S4x2048 .i32, AT c arg6 Whole fullShare v) ∗ (∃ v : Vec F S4x2048 .i32, AT c arg7 Whole fullShare v) ∗ semVal ((c : Thread nD τ), .dma arg15.sem) 0 ∗ (∃ v : Vec F S8192x128 .i32, AT c arg8 Whole fullShare v))
      ⊢ WP (wpE (defs₀ (F := F)) 𝒱 (c : Thread nD τ) bd) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) (fun r => iprop(BQ c arg1 arg4 arg17 codes q 1 4 6 3 4 0 ∗ AT c arg0 Whole q0 ids ∗ Fl15 c arg6 arg7 arg15 ids ∗ AT c arg8 Whole fullShare (SHF ids) ∗ ⌜r = ⟨k0_pay42, iota .tc S256x256 32 [1] iota_S256x256_d1_w32, 32#32, k0_pay43, k0_pay44, k0_pay45⟩⌝)) := by
  rw [k0_part14_eq_skeleton]; unfold k0_part14_skel
  iintro ⟨HB1, H0, ⟨%v6, H6⟩, ⟨%v7, H7⟩, HV, %v8, H8⟩
  iapply (bq_issue 𝒱 c bd arg1 arg4 arg17 codes q (s := 1) (n := 4) (P := 6) (T := 3) (k := 2) (by decide) (semT_eq arg17 (by decide) (show (![1] : Fin 1 → ℕ) = ![1] from rfl)) (show (![64064, 0] : Fin 2 → ℕ) = ![8008 * (6 + 2), 0] from rfl) (show (![0, 640] : Fin 2 → ℕ) = ![0, 128 * (3 + 2)] from rfl)) $$ HB1
  iintro HB1
  iapply (bq_issue 𝒱 c bd arg1 arg4 arg17 codes q (s := 1) (n := 4) (P := 6) (T := 3) (k := 3) (by decide) (semT_eq arg17 (by decide) (show (![1] : Fin 1 → ℕ) = ![1] from rfl)) (show (![72072, 0] : Fin 2 → ℕ) = ![8008 * (6 + 3), 0] from rfl) (show (![0, 768] : Fin 2 → ℕ) = ![0, 128 * (3 + 3)] from rfl)) $$ HB1
  iintro HB1
  iapply (load_as 𝒱 c bd (m := arg0) (w := ids) (fun _ => trivial) (by exact funext fun x => congrArg ids (whole2 _ x))) $$ H0
  iintro H0
  iapply (AT_load (m := arg6) (fun _ => trivial)) $$ H6
  iintro H6
  iapply (AT_store (m := arg6) (k0_pay40 (F := F) ids) (fun _ => trivial) (by
    intro x
    rw [whole2]) (fun i _ h => absurd (whole2 _ i) (h i))) $$ H6
  iintro H6
  iapply (AT_enqueue (countersEmb (U := Pipeline.UD sig nD τ)) (v := k0_pay40 (F := F) ids) (q := fullShare) (crd7 arg7) rfl (View.dmaCredit_pos arg7.view (Shape.numel_pos (s := S4x2048) (Fin.forall_fin_two.mpr ⟨by show 0 < 4; decide, by show 0 < 2048; decide⟩)))) $$ [H6 H7 HV]
  · isplitl [H6]; · iexact H6
    isplitl [H7]; · iexact H7
    iexact HV
  iintro HF
  iapply (Scf.wp_for_bind frame (wpE (defs₀ (F := F)) 𝒱 (c : Thread nD τ) bd) Set.univ k0_t1_loop.lb k0_t1_loop.ub k0_t1_loop.st k0_t1_ok () _
    (fun n _ => I1 c arg0 arg8 q0 ids n) (fun k' acc' => t1_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 q0 ids k' acc')) $$ [H0 H8]
  · unfold I1
    isplitl [H0]; · iexact H0
    iexists v8; isplitl [H8]; · iexact H8
    ipureintro; intros; omega
  iintro %_ HI
  unfold I1
  icases HI with ⟨H0, %w8, H8, %h8⟩
  have e : Scf.trips k0_t1_loop.lb k0_t1_loop.ub k0_t1_loop.st = 64 := by decide +kernel
  rw [e] at h8
  iapply done
  unfold Fl15
  isplitl [HB1]; · iexact HB1
  isplitl [H0]; · iexact H0
  isplitl [HF]; · iexact HF
  isplitl [H8]
  · iapply (AT_congr (v := w8) (fun i _ => h8 i (i 0).isLt)) $$ H8
  ipureintro; rfl

theorem part15_wp :
    iprop((∃ v : Vec F S256x2816 .bf16, AT c arg10 Whole fullShare v) ∗ Fl16 c arg2 arg5 arg16 scales q2 ∗ (∃ X, owes (c : Thread nD τ) 0 X) ∗ (∃ v : Vec F S128x128 .i32, AT c arg12 Whole fullShare v) ∗ (∃ v : Vec F S80080x128 .i32, AT c arg4 (Rows 0 16016) fullShare v))
      ⊢ WP (wpE (defs₀ (F := F)) 𝒱 (c : Thread nD τ) bd) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_pay42 (iota .tc S256x256 32 [1] iota_S256x256_d1_w32) 32#32 k0_pay43 k0_pay44 k0_pay45)
        (fun r => iprop(AT c arg10 Whole fullShare (EXF (F := F)) ∗ AT c arg2 Whole q2 scales ∗ (∃ v : Vec F S88x32000 .i16, AT c arg5 Whole fullShare v) ∗ semVal ((c : Thread nD τ), .dma arg16.sem) 0 ∗ (∃ X, owes (c : Thread nD τ) 0 X) ∗ (∃ v : Vec F S128x128 .i32, AT c arg12 Whole fullShare v)
          ∗ (∃ v : Vec F S80080x128 .i32, AT c arg4 (Rows 0 16016) fullShare v ∗ ⌜ScaOK scales v⌝) ∗ ⌜r = ⟨iota .tc S8x128 32 [1] iota_S8x128_d1_w32, k0_pay47, 2#32, k0_pay51, k0_pay52⟩⌝)) := by
  rw [k0_part15_eq_skeleton]; unfold k0_part15_skel Fl16
  iintro ⟨⟨%v10, H10⟩, HF, ⟨%X, HO⟩, H12, %v4, H4⟩
  iapply (Scf.wp_for_bind frame (wpE (defs₀ (F := F)) 𝒱 (c : Thread nD τ) bd) Set.univ k0_t2_loop.lb k0_t2_loop.ub k0_t2_loop.st k0_t2_ok () _
    (fun n _ => I2 (F := F) c arg10 n) (fun k' acc' => t2_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k' acc')) $$ [H10]
  · unfold I2
    iexists v10; isplitl [H10]; · iexact H10
    ipureintro; intros; omega
  iintro %_ HI
  unfold I2
  icases HI with ⟨%w10, H10, %h10⟩
  have e2 : Scf.trips k0_t2_loop.lb k0_t2_loop.ub k0_t2_loop.st = 11 := by decide +kernel
  rw [e2] at h10
  iapply (Transfers.wp_waitLocal (countersEmb (U := Pipeline.UD sig nD τ)) 𝒱 (c : Thread nD τ) bd () (N := crd5 arg5) rfl) $$ [HF HO]
  · isplitl [HF]; · iexact HF
    iexact HO
  iintro ⟨⟨H5, H2⟩, HV, HO⟩
  iapply (Scf.wp_for_bind frame (wpE (defs₀ (F := F)) 𝒱 (c : Thread nD τ) bd) Set.univ k0_t3_loop.lb k0_t3_loop.ub k0_t3_loop.st k0_t3_ok () _
    (fun n _ => I3 c arg4 arg5 arg12 fullShare scales n) (fun k' acc' => t3_step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 fullShare scales k' acc')) $$ [H5 H12 H4]
  · unfold I3
    isplitl [H5]; · iexact H5
    isplitl [H12]; · iexact H12
    iexists v4; isplitl [H4]
    · iapply (AT_dom (fun i => by unfold Rows; omega)) $$ H4
    ipureintro; intros; omega
  iintro %_ HI
  unfold I3
  icases HI with ⟨H5, H12, %w4, H4, %h4⟩
  have e3 : Scf.trips k0_t3_loop.lb k0_t3_loop.ub k0_t3_loop.st = 250 := by decide +kernel
  rw [e3] at h4
  iapply done
  isplitl [H10]
  · iapply (AT_congr (v := w10) (fun i _ => h10 i (i 1).isLt)) $$ H10
  isplitl [H2]; · iexact H2
  isplitl [H5]; · iexists scales; iexact H5
  isplitl [HV]; · iexact HV
  isplitl [HO]; · iexists _; iexact HO
  isplitl [H12]; · iexact H12
  isplitl [H4]
  · iexists w4
    isplitl [H4]
    · iapply (AT_dom (fun i => by unfold Rows; omega)) $$ H4
    ipureintro
    intro i j g hj hg h0
    obtain rfl | rfl : j = 0 ∨ j = 1 := by omega
    · rw [(h4 i).1 (by omega), h0, Nat.mul_zero, Nat.zero_add]
    · rw [(h4 i).2 (by omega) (by omega), h0, Nat.mul_one, Nat.add_sub_cancel_left]
  ipureintro; rfl

theorem part16_wp :
    iprop(Fl15 c arg6 arg7 arg15 ids ∗ (∃ X, owes (c : Thread nD τ) 0 X))
      ⊢ WP (wpE (defs₀ (F := F)) 𝒱 (c : Thread nD τ) bd) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 (iota .tc S8x128 32 [1] iota_S8x128_d1_w32) 2#32 k0_pay51 k0_pay52)
        (fun r => iprop(AT c arg7 Whole fullShare (k0_pay40 (F := F) ids) ∗ (∃ v : Vec F S4x2048 .i32, AT c arg6 Whole fullShare v) ∗ semVal ((c : Thread nD τ), .dma arg15.sem) 0 ∗ (∃ X, owes (c : Thread nD τ) 0 X) ∗ ⌜r = ⟨lane0, lane1, nib⟩⌝)) := by
  rw [k0_part16_eq_skeleton]; unfold k0_part16_skel Fl15
  iintro ⟨HF, %X, HO⟩
  iapply (Transfers.wp_waitLocal (countersEmb (U := Pipeline.UD sig nD τ)) 𝒱 (c : Thread nD τ) bd () (N := crd7 arg7) rfl) $$ [HF HO]
  · isplitl [HF]; · iexact HF
    iexact HO
  iintro ⟨⟨H7, H6⟩, HV, HO⟩
  iapply done
  isplitl [H7]; · iexact H7
  isplitl [H6]; · iexists _; iexact H6
  isplitl [HV]; · iexact HV
  isplitl [HO]; · iexists _; iexact HO
  ipureintro; rfl

theorem part17_wp (hids : ∀ t, t < 8192 → GG ids t < 8000) :
    iprop(BQ c arg1 arg4 arg17 codes q 0 3 2 0 3 0 ∗ (∃ X, owes (c : Thread nD τ) 0 X) ∗ (∃ v : Vec F S80080x128 .i32, AT c arg4 (Rows 0 16016) fullShare v ∗ ⌜ScaOK scales v⌝) ∗ RX c arg7 arg8 arg9 arg10 arg11 arg13 ids scales 0 ∗ SLT c arg14 arg18 ∗ (∃ v : Vec F S8192x2816 .bf16, AT c arg3 (Blk 0 8192 0 768) fullShare v))
      ⊢ WP (wpE (defs₀ (F := F)) 𝒱 (c : Thread nD τ) bd) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_pay47 lane0 lane1 nib)
        (fun _ => iprop(RX c arg7 arg8 arg9 arg10 arg11 arg13 ids scales 8192 ∗ (∃ v : Vec F S80080x128 .i32, AT c arg4 (Rows 0 40040) fullShare v) ∗ AT c arg1 (Cols 0 384) q codes ∗ semVal ((c : Thread nD τ), .dma (semT arg17 0)) 0 ∗ SLT c arg14 arg18
          ∗ AT c arg3 (Blk 0 8192 0 768) fullShare (OUF ids codes scales) ∗ (∃ X, owes (c : Thread nD τ) 0 X))) := by
  rw [k0_part17_eq_skeleton]; unfold k0_part17_skel
  iintro ⟨HB0, HO, ⟨%w, H4, %hw⟩, HX, HS, H3⟩
  iapply (bq_wait 𝒱 c bd arg1 arg4 arg17 codes q (s := 0) (n := 3) (P := 2) (T := 0) (i := 0) (by decide) (semT_eq arg17 (by decide) (show (![0] : Fin 1 → ℕ) = ![0] from rfl)) (by rfl)) $$ [HB0 HO]
  · isplitl [HB0]; · iexact HB0
    iexact HO
  iintro ⟨HB0, HO⟩
  iapply (bq_wait 𝒱 c bd arg1 arg4 arg17 codes q (s := 0) (n := 3) (P := 2) (T := 0) (i := 1) (by decide) (semT_eq arg17 (by decide) (show (![0] : Fin 1 → ℕ) = ![0] from rfl)) (by rfl)) $$ [HB0 HO]
  · isplitl [HB0]; · iexact HB0
    iexact HO
  iintro ⟨HB0, HO⟩
  iapply (bq_last 𝒱 c bd arg1 arg4 arg17 codes q (s := 0) (n := 3) (P := 2) (T := 0) (i := 2) (by decide) (semT_eq arg17 (by decide) (show (![0] : Fin 1 → ℕ) = ![0] from rfl)) (by rfl)) $$ [HB0 HO]
  · isplitl [HB0]; · iexact HB0
    iexact HO
  iintro ⟨HB0, HO⟩
  have U : iprop(AT c arg4 (Rows 0 16016) fullShare w ∗ BD c arg1 arg4 arg17 codes q 0 3 2 0) ⊢
      (iprop((∃ v : Vec F S80080x128 .i32, AT c arg4 (Rows 0 40040) fullShare v ∗ ⌜TabOK codes 2 3 0 v ∧ ∀ i, Rows 0 16016 i → v i = w i⌝) ∗ AT c arg1 (Cols 0 384) q codes
        ∗ semVal ((c : Thread nD τ), .dma (semT arg17 0)) 0) : sProp 𝕄) := bd_table c arg1 arg4 arg17 codes q (s := 0) (n := 3) (lo := 0) (P := 2) (T := 0) (Nat.zero_le _)
  ihave HB0 := U $$ [H4 HB0]
  · isplitl [H4]; · iexact H4
    iexact HB0
  icases HB0 with ⟨⟨%TB, H4, %hT⟩, H1, HV⟩
  have hsc : ScaOK scales TB := fun i j g hj hg h0 => by
    rw [hT.2 i ⟨Nat.zero_le _, by omega⟩]; exact hw i j g hj hg h0
  ihave HI := (phase_begin c arg3 arg4 arg7 arg8 arg9 arg10 arg11 arg13 arg14 arg18 ids codes scales (lo := 0) (hi := 40040) (h := 256 * (2 * 0)) (C := 0) (W := 768) (TB := TB)) $$ [HX H4 HS H3 HO]
  · isplitl [HX]; · iexact HX
    isplitl [H4]; · iexact H4
    isplitl [HS]; · iexact HS
    isplitl [H3]; · iexact H3
    iexact HO
  iapply (t4_run 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT.1 hsc k0_pay47 rfl) $$ HI
  iintro HI
  iapply (last0 𝒱 c bd arg3 arg4 arg7 arg8 arg9 arg10 arg11 arg13 arg14 arg18 ids codes scales (sem_eq arg18 (by decide) (show (![0] : Fin 1 → ℕ) = ![0] from rfl)) (by rfl)) $$ HI
  iintro HI
  iapply (last1 𝒱 c bd arg3 arg4 arg7 arg8 arg9 arg10 arg11 arg13 arg14 arg18 ids codes scales (sem_eq arg18 (by decide) (show (![1] : Fin 1 → ℕ) = ![1] from rfl)) (by rfl)) $$ HI
  iintro HI
  ihave HI := (phase_end c arg3 arg4 arg7 arg8 arg9 arg10 arg11 arg13 arg14 arg18 ids codes scales) $$ HI
  icases HI with ⟨HX, H4, HS, H3, HO⟩
  iapply done
  isplitl [HX]; · iexact HX
  isplitl [H4]; · iexists TB; iexact H4
  isplitl [H1]; · iexact H1
  isplitl [HV]; · iexact HV
  isplitl [HS]; · iexact HS
  isplitl [H3]; · iexact H3
  iexact HO

theorem part18_wp :
    iprop(BQ c arg1 arg4 arg17 codes q 2 4 2 7 0 0 ∗ BQ c arg1 arg4 arg17 codes q 1 4 6 3 4 0 ∗ (∃ X, owes (c : Thread nD τ) 0 X)) ⊢ WP (wpE (defs₀ (F := F)) 𝒱 (c : Thread nD τ) bd) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) (fun _ => iprop(BQ c arg1 arg4 arg17 codes q 2 4 2 7 4 0 ∗ BQ c arg1 arg4 arg17 codes q 1 4 6 3 4 2 ∗ (∃ X, owes (c : Thread nD τ) 0 X))) := by
  rw [k0_part18_eq_skeleton]; unfold k0_part18_skel
  iintro ⟨HB2, HB1, HO⟩
  iapply (bq_issue 𝒱 c bd arg1 arg4 arg17 codes q (s := 2) (n := 4) (P := 2) (T := 7) (k := 0) (by decide) (semT_eq arg17 (by decide) (show (![2] : Fin 1 → ℕ) = ![2] from rfl)) (show (![16016, 0] : Fin 2 → ℕ) = ![8008 * (2 + 0), 0] from rfl) (show (![0, 896] : Fin 2 → ℕ) = ![0, 128 * (7 + 0)] from rfl)) $$ HB2
  iintro HB2
  iapply (bq_issue 𝒱 c bd arg1 arg4 arg17 codes q (s := 2) (n := 4) (P := 2) (T := 7) (k := 1) (by decide) (semT_eq arg17 (by decide) (show (![2] : Fin 1 → ℕ) = ![2] from rfl)) (show (![24024, 0] : Fin 2 → ℕ) = ![8008 * (2 + 1), 0] from rfl) (show (![0, 1024] : Fin 2 → ℕ) = ![0, 128 * (7 + 1)] from rfl)) $$ HB2
  iintro HB2
  iapply (bq_issue 𝒱 c bd arg1 arg4 arg17 codes q (s := 2) (n := 4) (P := 2) (T := 7) (k := 2) (by decide) (semT_eq arg17 (by decide) (show (![2] : Fin 1 → ℕ) = ![2] from rfl)) (show (![32032, 0] : Fin 2 → ℕ) = ![8008 * (2 + 2), 0] from rfl) (show (![0, 1152] : Fin 2 → ℕ) = ![0, 128 * (7 + 2)] from rfl)) $$ HB2
  iintro HB2
  iapply (bq_issue 𝒱 c bd arg1 arg4 arg17 codes q (s := 2) (n := 4) (P := 2) (T := 7) (k := 3) (by decide) (semT_eq arg17 (by decide) (show (![2] : Fin 1 → ℕ) = ![2] from rfl)) (show (![40040, 0] : Fin 2 → ℕ) = ![8008 * (2 + 3), 0] from rfl) (show (![0, 1280] : Fin 2 → ℕ) = ![0, 128 * (7 + 3)] from rfl)) $$ HB2
  iintro HB2
  iapply (bq_wait 𝒱 c bd arg1 arg4 arg17 codes q (s := 1) (n := 4) (P := 6) (T := 3) (i := 0) (by decide) (semT_eq arg17 (by decide) (show (![1] : Fin 1 → ℕ) = ![1] from rfl)) (by rfl)) $$ [HB1 HO]
  · isplitl [HB1]; · iexact HB1
    iexact HO
  iintro ⟨HB1, HO⟩
  iapply (bq_wait 𝒱 c bd arg1 arg4 arg17 codes q (s := 1) (n := 4) (P := 6) (T := 3) (i := 1) (by decide) (semT_eq arg17 (by decide) (show (![1] : Fin 1 → ℕ) = ![1] from rfl)) (by rfl)) $$ [HB1 HO]
  · isplitl [HB1]; · iexact HB1
    iexact HO
  iintro ⟨HB1, HO⟩
  iapply done
  isplitl [HB2]; · iexact HB2
  isplitl [HB1]; · iexact HB1
  iexact HO

theorem part19_wp (hids : ∀ t, t < 8192 → GG ids t < 8000) :
    iprop(BQ c arg1 arg4 arg17 codes q 1 4 6 3 4 2 ∗ BQ c arg1 arg4 arg17 codes q 2 4 2 7 4 0 ∗ (∃ X, owes (c : Thread nD τ) 0 X) ∗ RX c arg7 arg8 arg9 arg10 arg11 arg13 ids scales 8192 ∗ SLT c arg14 arg18 ∗ (∃ v : Vec F S8192x2816 .bf16, AT c arg3 (Blk 0 8192 768 1024) fullShare v))
      ⊢ WP (wpE (defs₀ (F := F)) 𝒱 (c : Thread nD τ) bd) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 lane0 lane1 nib)
        (fun _ => iprop(RX c arg7 arg8 arg9 arg10 arg11 arg13 ids scales 8192 ∗ (∃ v : Vec F S80080x128 .i32, AT c arg4 (Rows 48048 80080) fullShare v) ∗ AT c arg1 (Cols 384 896) q codes ∗ semVal ((c : Thread nD τ), .dma (semT arg17 1)) 0 ∗ SLT c arg14 arg18
          ∗ AT c arg3 (Blk 0 8192 768 1024) fullShare (OUF ids codes scales) ∗ BQ c arg1 arg4 arg17 codes q 2 4 2 7 4 1 ∗ (∃ X, owes (c : Thread nD τ) 0 X))) := by
  rw [k0_part19_eq_skeleton]; unfold k0_part19_skel
  iintro ⟨HB1, HB2, HO, HX, HS, H3⟩
  iapply (bq_wait 𝒱 c bd arg1 arg4 arg17 codes q (s := 1) (n := 4) (P := 6) (T := 3) (i := 2) (by decide) (semT_eq arg17 (by decide) (show (![1] : Fin 1 → ℕ) = ![1] from rfl)) (by rfl)) $$ [HB1 HO]
  · isplitl [HB1]; · iexact HB1
    iexact HO
  iintro ⟨HB1, HO⟩
  iapply (bq_last 𝒱 c bd arg1 arg4 arg17 codes q (s := 1) (n := 4) (P := 6) (T := 3) (i := 3) (by decide) (semT_eq arg17 (by decide) (show (![1] : Fin 1 → ℕ) = ![1] from rfl)) (by rfl)) $$ [HB1 HO]
  · isplitl [HB1]; · iexact HB1
    iexact HO
  iintro ⟨HB1, HO⟩
  have U : BD c arg1 arg4 arg17 codes q 1 4 6 3 ⊢
      (iprop((∃ v : Vec F S80080x128 .i32, AT c arg4 (Rows 48048 80080) fullShare v ∗ ⌜TabOK codes 6 4 3 v⌝) ∗ AT c arg1 (Cols 384 896) q codes
        ∗ semVal ((c : Thread nD τ), .dma (semT arg17 1)) 0) : sProp 𝕄) := bd_table' c arg1 arg4 arg17 codes q (s := 1) (n := 4) (P := 6) (T := 3)
  ihave HB1 := U $$ HB1
  icases HB1 with ⟨⟨%TB, H4, %hT⟩, H1, HV⟩
  ihave HI := (phase_begin c arg3 arg4 arg7 arg8 arg9 arg10 arg11 arg13 arg14 arg18 ids codes scales (lo := 48048) (hi := 80080) (h := 8192) (C := 768) (W := 1024) (TB := TB)) $$ [HX H4 HS H3 HO]
  · isplitl [HX]; · iexact HX
    isplitl [H4]; · iexact H4
    isplitl [HS]; · iexact HS
    isplitl [H3]; · iexact H3
    iexact HO
  iapply (t10_run 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT) $$ HI
  iintro HI
  iapply (last0 𝒱 c bd arg3 arg4 arg7 arg8 arg9 arg10 arg11 arg13 arg14 arg18 ids codes scales (sem_eq arg18 (by decide) (show (![0] : Fin 1 → ℕ) = ![0] from rfl)) (by rfl)) $$ HI
  iintro HI
  iapply (last1 𝒱 c bd arg3 arg4 arg7 arg8 arg9 arg10 arg11 arg13 arg14 arg18 ids codes scales (sem_eq arg18 (by decide) (show (![1] : Fin 1 → ℕ) = ![1] from rfl)) (by rfl)) $$ HI
  iintro HI
  ihave HI := (phase_end c arg3 arg4 arg7 arg8 arg9 arg10 arg11 arg13 arg14 arg18 ids codes scales) $$ HI
  icases HI with ⟨HX, H4, HS, H3, HO⟩
  iapply (bq_wait 𝒱 c bd arg1 arg4 arg17 codes q (s := 2) (n := 4) (P := 2) (T := 7) (i := 0) (by decide) (semT_eq arg17 (by decide) (show (![2] : Fin 1 → ℕ) = ![2] from rfl)) (by rfl)) $$ [HB2 HO]
  · isplitl [HB2]; · iexact HB2
    iexact HO
  iintro ⟨HB2, HO⟩
  iapply done
  isplitl [HX]; · iexact HX
  isplitl [H4]; · iexists TB; iexact H4
  isplitl [H1]; · iexact H1
  isplitl [HV]; · iexact HV
  isplitl [HS]; · iexact HS
  isplitl [H3]; · iexact H3
  isplitl [HB2]; · iexact HB2
  iexact HO

end Cert.Kernel.Body
-- ==== Proof.Kern.lean ====
/-
  The whole kernel: what it is run with and what it leaves.
-/
module

public import proofs.«01_k».proof.Proof.Parts
public import Idealize.ShloMosaic.Lib.Pipeline.FrameBody
public import Idealize.ShloMosaic.Lib.Pointwise

@[expose] public section

set_option maxRecDepth 16384
set_option maxHeartbeats 1600000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Offs Cert.Kernel.Spec Cert.At Cert.Tools

variable {F : FTy → Type} [FloatOps F]
local notation "𝕄" => MT nD τ sig Unit (Elt F) ℕ (Pipeline.UD sig nD τ) ℕ
local notation "WP" => wp (M := MT nD τ sig Unit (Elt F) ℕ (Pipeline.UD sig nD τ) ℕ) frame
local notation "Whole" => (fun _ => True)

variable (𝒱 : Variants) (c : Dev nD) (bd : Option 𝒱.V)

variable (arg0 : Memref sig .tc .vmem S4x2048 .i32) (harg0 : arg0.IsWhole)
  (arg1 : Memref sig .tc .hbm S8000x1408 .i32) (harg1 : arg1.IsWhole)
  (arg2 : Memref sig .tc .hbm S88x32000 .i16) (harg2 : arg2.IsWhole)
  (arg3 : Memref sig .tc .hbm S8192x2816 .bf16) (harg3 : arg3.IsWhole)
  (arg4 : Memref sig .tc .vmem S80080x128 .i32) (harg4 : arg4.IsWhole)
  (arg5 : Memref sig .tc .vmem S88x32000 .i16) (harg5 : arg5.IsWhole)
  (arg6 : Memref sig .tc .vmem S4x2048 .i32) (harg6 : arg6.IsWhole)
  (arg7 : Memref sig .tc .smem S4x2048 .i32) (harg7 : arg7.IsWhole)
  (arg8 : Memref sig .tc .vmem S8192x128 .i32) (harg8 : arg8.IsWhole)
  (arg9 : Memref sig .tc .vmem S8192x256 .f32) (harg9 : arg9.IsWhole)
  (arg10 : Memref sig .tc .vmem S256x2816 .bf16) (harg10 : arg10.IsWhole)
  (arg11 : Memref sig .tc .vmem S1560x128 .i32) (harg11 : arg11.IsWhole)
  (arg12 : Memref sig .tc .vmem S128x128 .i32) (harg12 : arg12.IsWhole)
  (arg13 : Memref sig .tc .vmem S256x256 .f32) (harg13 : arg13.IsWhole)
  (arg14 : Memref sig .tc .vmem S2x256x1024 .bf16) (harg14 : arg14.IsWhole)
  (arg15 : DmaSems sig S_) (arg16 : DmaSems sig S_) (arg17 : DmaSems sig S3) (arg18 : DmaSems sig S2)

variable (ids : Vec F S4x2048 .i32) (codes : Vec F S8000x1408 .i32) (scales : Vec F S88x32000 .i16) (q q0 q2 : PosShare TreeShare)

/-- What the kernel is run with: the three arguments, the result at some value, the scratch buffers, the semaphores at zero. -/
def Pre : sProp 𝕄 :=
  iprop(AT c arg0 Whole q0 ids ∗ AT c arg1 Whole q codes ∗ AT c arg2 Whole q2 scales ∗ (∃ v : Vec F S8192x2816 .bf16, AT c arg3 Whole fullShare v) ∗ ((∃ v : Vec F S80080x128 .i32, AT c arg4 Whole fullShare v) ∗ (∃ v : Vec F S88x32000 .i16, AT c arg5 Whole fullShare v) ∗ (∃ v : Vec F S4x2048 .i32, AT c arg6 Whole fullShare v) ∗ (∃ v : Vec F S4x2048 .i32, AT c arg7 Whole fullShare v) ∗ (∃ v : Vec F S8192x128 .i32, AT c arg8 Whole fullShare v) ∗ (∃ v : Vec F S8192x256 .f32, AT c arg9 Whole fullShare v) ∗ (∃ v : Vec F S256x2816 .bf16, AT c arg10 Whole fullShare v) ∗ (∃ v : Vec F S1560x128 .i32, AT c arg11 Whole fullShare v) ∗ (∃ v : Vec F S128x128 .i32, AT c arg12 Whole fullShare v) ∗ (∃ v : Vec F S256x256 .f32, AT c arg13 Whole fullShare v) ∗ (∃ v : Vec F S2x256x1024 .bf16, AT c arg14 Whole fullShare v)) ∗ (semVal ((c : Thread nD τ), .dma arg15.sem) 0 ∗ semVal ((c : Thread nD τ), .dma arg16.sem) 0 ∗ semVal ((c : Thread nD τ), .dma (semT arg17 0)) 0 ∗ semVal ((c : Thread nD τ), .dma (semT arg17 1)) 0 ∗ semVal ((c : Thread nD τ), .dma (semT arg17 2)) 0 ∗ semVal ((c : Thread nD τ), .dma (semO arg18 0)) 0 ∗ semVal ((c : Thread nD τ), .dma (semO arg18 1)) 0) ∗ (∃ X, owes (c : Thread nD τ) 0 X))

/-- What it leaves: the same, with the result computed. -/
def Post : sProp 𝕄 :=
  iprop(AT c arg0 Whole q0 ids ∗ AT c arg1 Whole q codes ∗ AT c arg2 Whole q2 scales ∗ AT c arg3 Whole fullShare (OUF ids codes scales) ∗ ((∃ v : Vec F S80080x128 .i32, AT c arg4 Whole fullShare v) ∗ (∃ v : Vec F S88x32000 .i16, AT c arg5 Whole fullShare v) ∗ (∃ v : Vec F S4x2048 .i32, AT c arg6 Whole fullShare v) ∗ (∃ v : Vec F S4x2048 .i32, AT c arg7 Whole fullShare v) ∗ (∃ v : Vec F S8192x128 .i32, AT c arg8 Whole fullShare v) ∗ (∃ v : Vec F S8192x256 .f32, AT c arg9 Whole fullShare v) ∗ (∃ v : Vec F S256x2816 .bf16, AT c arg10 Whole fullShare v) ∗ (∃ v : Vec F S1560x128 .i32, AT c arg11 Whole fullShare v) ∗ (∃ v : Vec F S128x128 .i32, AT c arg12 Whole fullShare v) ∗ (∃ v : Vec F S256x256 .f32, AT c arg13 Whole fullShare v) ∗ (∃ v : Vec F S2x256x1024 .bf16, AT c arg14 Whole fullShare v)) ∗ (semVal ((c : Thread nD τ), .dma arg15.sem) 0 ∗ semVal ((c : Thread nD τ), .dma arg16.sem) 0 ∗ semVal ((c : Thread nD τ), .dma (semT arg17 0)) 0 ∗ semVal ((c : Thread nD τ), .dma (semT arg17 1)) 0 ∗ semVal ((c : Thread nD τ), .dma (semT arg17 2)) 0 ∗ semVal ((c : Thread nD τ), .dma (semO arg18 0)) 0 ∗ semVal ((c : Thread nD τ), .dma (semO arg18 1)) 0) ∗ (∃ X, owes (c : Thread nD τ) 0 X))

/-- What the last phase does not need. -/
def Rest : sProp 𝕄 :=
  iprop(AT c arg0 Whole q0 ids ∗ AT c arg2 Whole q2 scales ∗ (∃ v : Vec F S88x32000 .i16, AT c arg5 Whole fullShare v) ∗ (∃ v : Vec F S4x2048 .i32, AT c arg6 Whole fullShare v) ∗ (∃ v : Vec F S128x128 .i32, AT c arg12 Whole fullShare v) ∗ semVal ((c : Thread nD τ), .dma arg15.sem) 0 ∗ semVal ((c : Thread nD τ), .dma arg16.sem) 0
    ∗ (∃ v : Vec F S80080x128 .i32, AT c arg4 (Rows 0 16016) fullShare v) ∗ (∃ v : Vec F S80080x128 .i32, AT c arg4 (Rows 48048 80080) fullShare v) ∗ AT c arg1 (Cols 0 384) q codes ∗ AT c arg1 (Cols 384 896) q codes ∗ AT c arg1 (Cols 896 1408) q codes ∗ semVal ((c : Thread nD τ), .dma (semT arg17 0)) 0 ∗ semVal ((c : Thread nD τ), .dma (semT arg17 1)) 0 ∗ semVal ((c : Thread nD τ), .dma (semT arg17 2)) 0
    ∗ AT c arg3 (Blk 0 8192 0 768) fullShare (OUF ids codes scales) ∗ AT c arg3 (Blk 0 8192 768 1024) fullShare (OUF ids codes scales))

theorem rows_whole {i : S80080x128.Idx} : True ↔ Rows 0 80080 i := ⟨fun _ => ⟨Nat.zero_le _, (i 0).isLt⟩, fun _ => trivial⟩
theorem cols_whole {i : S8000x1408.Idx} : True ↔ Cols 0 1408 i := ⟨fun _ => ⟨Nat.zero_le _, (i 1).isLt⟩, fun _ => trivial⟩

/-- The table cut where its parts are filled. -/
theorem rows_cuts {v : Vec F S80080x128 .i32} : (AT c arg4 Whole fullShare v : sProp 𝕄) ⊢ iprop(AT c arg4 (Rows 0 16016) fullShare v ∗ AT c arg4 (Rows 16016 40040) fullShare v ∗ AT c arg4 (Rows 40040 48048) fullShare v ∗ AT c arg4 (Rows 48048 80080) fullShare v) := by
  iintro H
  ihave H := (AT_dom (M₂ := Rows 0 80080) (fun i => rows_whole)) $$ H
  ihave H := (rows_cut c arg4 (A := 16016) (by decide) (by decide)) $$ H
  icases H with ⟨H1, H⟩
  isplitl [H1]; · iexact H1
  ihave H := (rows_cut c arg4 (A := 40040) (by decide) (by decide)) $$ H
  icases H with ⟨H1, H⟩
  isplitl [H1]; · iexact H1
  iapply (rows_cut c arg4 (A := 48048) (by decide) (by decide)) $$ H

theorem rows_back : (iprop((∃ v : Vec F S80080x128 .i32, AT c arg4 (Rows 0 16016) fullShare v) ∗ (∃ v : Vec F S80080x128 .i32, AT c arg4 (Rows 16016 48048) fullShare v) ∗ (∃ v : Vec F S80080x128 .i32, AT c arg4 (Rows 48048 80080) fullShare v)) : sProp 𝕄) ⊢ (∃ v : Vec F S80080x128 .i32, AT c arg4 Whole fullShare v) := by
  iintro ⟨⟨%a, H1⟩, ⟨%b, H2⟩, %d, H3⟩
  ihave H := (rows_join c arg4 (lo := 0) (A := 16016) (B := 48048) (by decide) (by decide)) $$ [H1 H2]
  · isplitl [H1]; · iexact H1
    iexact H2
  icases H with ⟨%u, H, %_⟩
  ihave H := (rows_join c arg4 (lo := 0) (A := 48048) (B := 80080) (by decide) (by decide)) $$ [H H3]
  · isplitl [H]; · iexact H
    iexact H3
  icases H with ⟨%u, H, %_⟩
  iexists u
  iapply (AT_dom (fun i => rows_whole.symm)) $$ H

theorem cols_cuts : (AT c arg1 Whole q codes : sProp 𝕄) ⊢ iprop(AT c arg1 (Cols 0 384) q codes ∗ AT c arg1 (Cols 384 896) q codes ∗ AT c arg1 (Cols 896 1408) q codes) := by
  iintro H
  ihave H := (AT_dom (M₂ := Cols 0 1408) (fun i => cols_whole)) $$ H
  ihave H := (cols_cut c arg1 (B := 384) (by decide) (by decide)) $$ H
  icases H with ⟨H1, H⟩
  isplitl [H1]; · iexact H1
  iapply (cols_cut c arg1 (B := 896) (by decide) (by decide)) $$ H

theorem cols_back : (iprop(AT c arg1 (Cols 0 384) q codes ∗ AT c arg1 (Cols 384 896) q codes ∗ AT c arg1 (Cols 896 1408) q codes) : sProp 𝕄) ⊢ AT c arg1 Whole q codes := by
  iintro ⟨H1, H2, H3⟩
  ihave H := (cols_join c arg1 (A := 0) (B := 384) (C := 896) (by decide) (by decide)) $$ [H1 H2]
  · isplitl [H1]; · iexact H1
    iexact H2
  ihave H := (cols_join c arg1 (A := 0) (B := 896) (C := 1408) (by decide) (by decide)) $$ [H H3]
  · isplitl [H]; · iexact H
    iexact H3
  iapply (AT_dom (fun i => cols_whole.symm)) $$ H

/-- The result's three groups of columns. -/
theorem out_cuts {v : Vec F S8192x2816 .bf16} : (AT c arg3 Whole fullShare v : sProp 𝕄) ⊢ iprop(AT c arg3 (Blk 0 8192 0 768) fullShare v ∗ AT c arg3 (Blk 0 8192 768 1024) fullShare v ∗ AT c arg3 (Blk 0 8192 1792 1024) fullShare v) := by
  iintro H
  ihave H := (AT_split (M₁ := Blk 0 8192 0 768) (M₂ := Blk 0 8192 768 2048) (fun i h h' => by unfold Blk at h h'; omega)
    (fun i => by have h0 : (i 0 : ℕ) < 8192 := (i 0).isLt; have h1 : (i 1 : ℕ) < 2816 := (i 1).isLt; refine ⟨fun _ => ?_, fun _ => trivial⟩; unfold Blk; omega)) $$ H
  icases H with ⟨H1, H⟩
  isplitl [H1]; · iexact H1
  iapply (AT_split (fun i h h' => by unfold Blk at h h'; omega) (fun i => by unfold Blk; omega)) $$ H

theorem out_back {v : Vec F S8192x2816 .bf16} : (iprop(AT c arg3 (Blk 0 8192 0 768) fullShare v ∗ AT c arg3 (Blk 0 8192 768 1024) fullShare v ∗ AT c arg3 (Blk 0 8192 1792 1024) fullShare v) : sProp 𝕄) ⊢ AT c arg3 Whole fullShare v := by
  iintro ⟨H1, H2, H3⟩
  ihave H := (AT_join (M := Blk 0 8192 768 2048) (M₁ := Blk 0 8192 768 1024) (M₂ := Blk 0 8192 1792 1024) (fun i h h' => by unfold Blk at h h'; omega) (fun i => by unfold Blk; omega)) $$ [H2 H3]
  · isplitl [H2]; · iexact H2
    iexact H3
  iapply (AT_join (M₁ := Blk 0 8192 0 768) (M₂ := Blk 0 8192 768 2048) (fun i h h' => by unfold Blk at h h'; omega)
    (fun i => by have h0 : (i 0 : ℕ) < 8192 := (i 0).isLt; have h1 : (i 1 : ℕ) < 2816 := (i 1).isLt; refine ⟨fun _ => ?_, fun _ => trivial⟩; unfold Blk; omega))
  isplitl [H1]; · iexact H1
  iexact H

theorem slots_cut {v : Vec F S2x256x1024 .bf16} : (AT c arg14 Whole fullShare v : sProp 𝕄) ⊢ iprop(AT c arg14 (Slot 0) fullShare v ∗ AT c arg14 (Slot 1) fullShare v) :=
  AT_split (fun i h h' => by unfold Slot at h h'; omega) (fun i => by have h0 : (i 0 : ℕ) < 2 := (i 0).isLt; refine ⟨fun _ => ?_, fun _ => trivial⟩; unfold Slot; omega)

theorem slots_back {v w : Vec F S2x256x1024 .bf16} : (iprop(AT c arg14 (Slot 0) fullShare v ∗ AT c arg14 (Slot 1) fullShare w) : sProp 𝕄) ⊢ (∃ v : Vec F S2x256x1024 .bf16, AT c arg14 Whole fullShare v) := by
  iintro H
  ihave H := (at_join c (m := arg14) (M := Whole) (M₁ := Slot 0) (M₂ := Slot 1) (v₁ := v) (v₂ := w) (fun i h h' => by unfold Slot at h h'; omega) (fun i => by have h0 : (i 0 : ℕ) < 2 := (i 0).isLt; refine ⟨fun _ => ?_, fun _ => trivial⟩; unfold Slot; omega)) $$ H
  icases H with ⟨%u, H, %_⟩
  iexists u; iexact H

theorem part20_wp (hids : ∀ t, t < 8192 → GG ids t < 8000) :
    Pre c arg0 arg1 arg2 arg3 arg4 arg5 arg6 arg7 arg8 arg9 arg10 arg11 arg12 arg13 arg14 arg15 arg16 arg17 arg18 ids codes scales q q0 q2
      ⊢ WP (wpE (defs₀ (F := F)) 𝒱 (c : Thread nD τ) bd) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
        (fun _ => iprop((∃ TB : Vec F S80080x128 .i32, BE c arg3 arg4 arg7 arg8 arg9 arg10 arg11 arg13 arg14 arg18 ids codes scales 16016 48048 1792 1024 TB) ∗ Rest c arg0 arg1 arg2 arg3 arg4 arg5 arg6 arg12 arg15 arg16 arg17 ids codes scales q q0 q2)) := by
  have A0 : ∀ v, iprop(AT c arg4 (Rows 16016 40040) fullShare v ∗ AT c arg1 (Cols 0 384) q codes ∗ semVal ((c : Thread nD τ), .dma (semT arg17 0)) 0) ⊢ (iprop(|={Set.univ}=> BQ c arg1 arg4 arg17 codes q 0 3 2 0 0 0) : sProp 𝕄) :=
    fun v => bq_alloc c arg1 arg4 arg17 codes q (s := 0) (n := 3) (P := 2) (T := 0) (v := v)
  have A1 : ∀ v, iprop(AT c arg4 (Rows 48048 80080) fullShare v ∗ AT c arg1 (Cols 384 896) q codes ∗ semVal ((c : Thread nD τ), .dma (semT arg17 1)) 0) ⊢ (iprop(|={Set.univ}=> BQ c arg1 arg4 arg17 codes q 1 4 6 3 0 0) : sProp 𝕄) :=
    fun v => bq_alloc c arg1 arg4 arg17 codes q (s := 1) (n := 4) (P := 6) (T := 3) (v := v)
  have A2 : ∀ v, iprop(AT c arg4 (Rows 16016 48048) fullShare v ∗ AT c arg1 (Cols 896 1408) q codes ∗ semVal ((c : Thread nD τ), .dma (semT arg17 2)) 0) ⊢ (iprop(|={Set.univ}=> BQ c arg1 arg4 arg17 codes q 2 4 2 7 0 0) : sProp 𝕄) :=
    fun v => bq_alloc c arg1 arg4 arg17 codes q (s := 2) (n := 4) (P := 2) (T := 7) (v := v)
  rw [k0_part20_eq_skeleton]; unfold k0_part20_skel Pre
  iintro ⟨H0, H1, H2, ⟨%v3, H3⟩, ⟨⟨%v4, H4⟩, H5, H6, H7, H8, ⟨%v9, H9⟩, H10, H11, H12, H13, %v14, H14⟩, ⟨S15, S16, T0, T1, T2, O0, O1⟩, HO⟩
  ihave H1 := (cols_cuts c arg1 codes q) $$ H1
  icases H1 with ⟨C0, C1, C2⟩
  ihave H4 := (rows_cuts c arg4) $$ H4
  icases H4 with ⟨R0, R1, R2, R3⟩
  ihave H3 := (out_cuts c arg3) $$ H3
  icases H3 with ⟨X0, X1, X2⟩
  ihave H14 := (slots_cut c arg14) $$ H14
  icases H14 with ⟨L0, L1⟩
  imod (A0 v4) $$ [R1 C0 T0] with HB0
  · isplitl [R1]; · iexact R1
    isplitl [C0]; · iexact C0
    iexact T0
  imod (A1 v4) $$ [R3 C1 T1] with HB1
  · isplitl [R3]; · iexact R3
    isplitl [C1]; · iexact C1
    iexact T1
  iapply (seq 𝒱 c bd (part13_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 codes scales q q2)) $$ [H2 H5 S16 HB0 HB1]
  · isplitl [H2]; · iexact H2
    isplitl [H5]; · iexact H5
    isplitl [S16]; · iexact S16
    isplitl [HB0]; · iexact HB0
    iexact HB1
  iintro %_ ⟨HF16, HB0, HB1⟩
  iapply (seq 𝒱 c bd (part14_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes q q0)) $$ [HB1 H0 H6 H7 S15 H8]
  · isplitl [HB1]; · iexact HB1
    isplitl [H0]; · iexact H0
    isplitl [H6]; · iexact H6
    isplitl [H7]; · iexact H7
    isplitl [S15]; · iexact S15
    iexact H8
  iintro %r ⟨HB1, H0, HF15, H8, %e⟩
  subst e
  iapply (seq 𝒱 c bd (part15_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 scales q2)) $$ [H10 HF16 HO H12 R0]
  · isplitl [H10]; · iexact H10
    isplitl [HF16]; · iexact HF16
    isplitl [HO]; · iexact HO
    isplitl [H12]; · iexact H12
    iexists v4; iexact R0
  iintro %r ⟨H10, H2, H5, S16, HO, H12, R0, %e⟩
  subst e
  iapply (seq 𝒱 c bd (part16_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids)) $$ [HF15 HO]
  · isplitl [HF15]; · iexact HF15
    iexact HO
  iintro %r ⟨H7, H6, S15, HO, %e⟩
  subst e
  iapply (seq 𝒱 c bd (part17_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales q hids)) $$ [HB0 HO R0 H7 H8 H9 H10 H11 H13 L0 L1 O0 O1 X0]
  · isplitl [HB0]; · iexact HB0
    isplitl [HO]; · iexact HO
    isplitl [R0]; · iexact R0
    isplitl [H7 H8 H9 H10 H11 H13]
    · unfold RX
      isplitl [H7]; · iexact H7
      isplitl [H11]; · iexact H11
      isplitl [H8]; · iexact H8
      isplitl [H9]
      · iexists v9; isplitl [H9]; · iexact H9
        ipureintro; intros; omega
      isplitl [H10]; · iexact H10
      iexact H13
    isplitl [L0 L1 O0 O1]
    · unfold SLT
      isplitl [L0 O0]
      · isplitl [O0]; · iexact O0
        iexists v14; iexact L0
      isplitl [O1]; · iexact O1
      iexists v14; iexact L1
    iexists v3; iexact X0
  iintro %_ ⟨HX, ⟨%w4, H4⟩, C0, T0, HS, X0, HO⟩
  ihave H4 := (rows_cut c arg4 (A := 16016) (by decide) (by decide)) $$ H4
  icases H4 with ⟨R0, R1⟩
  ihave H4 := (rows_join c arg4 (lo := 16016) (A := 40040) (B := 48048) (by decide) (by decide)) $$ [R1 R2]
  · isplitl [R1]; · iexact R1
    iexact R2
  icases H4 with ⟨%u4, H4, %_⟩
  imod (A2 u4) $$ [H4 C2 T2] with HB2
  · isplitl [H4]; · iexact H4
    isplitl [C2]; · iexact C2
    iexact T2
  iapply (seq 𝒱 c bd (part18_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 codes q)) $$ [HB1 HB2 HO]
  · isplitl [HB2]; · iexact HB2
    isplitl [HB1]; · iexact HB1
    iexact HO
  iintro %_ ⟨HB2, HB1, HO⟩
  iapply (seq 𝒱 c bd (part19_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales q hids)) $$ [HB1 HB2 HO HX HS X1]
  · isplitl [HB1]; · iexact HB1
    isplitl [HB2]; · iexact HB2
    isplitl [HO]; · iexact HO
    isplitl [HX]; · iexact HX
    isplitl [HS]; · iexact HS
    iexists v3; iexact X1
  iintro %_ ⟨HX, R3, C1, T1, HS, X1, HB2, HO⟩
  iapply (bq_wait 𝒱 c bd arg1 arg4 arg17 codes q (s := 2) (n := 4) (P := 2) (T := 7) (i := 1) (by decide) (semT_eq arg17 (by decide) (show (![2] : Fin 1 → ℕ) = ![2] from rfl)) (by rfl)) $$ [HB2 HO]
  · isplitl [HB2]; · iexact HB2
    iexact HO
  iintro ⟨HB2, HO⟩
  iapply (bq_wait 𝒱 c bd arg1 arg4 arg17 codes q (s := 2) (n := 4) (P := 2) (T := 7) (i := 2) (by decide) (semT_eq arg17 (by decide) (show (![2] : Fin 1 → ℕ) = ![2] from rfl)) (by rfl)) $$ [HB2 HO]
  · isplitl [HB2]; · iexact HB2
    iexact HO
  iintro ⟨HB2, HO⟩
  iapply (bq_last 𝒱 c bd arg1 arg4 arg17 codes q (s := 2) (n := 4) (P := 2) (T := 7) (i := 3) (by decide) (semT_eq arg17 (by decide) (show (![2] : Fin 1 → ℕ) = ![2] from rfl)) (by rfl)) $$ [HB2 HO]
  · isplitl [HB2]; · iexact HB2
    iexact HO
  iintro ⟨HB2, HO⟩
  have U : BD c arg1 arg4 arg17 codes q 2 4 2 7 ⊢
      (iprop((∃ v : Vec F S80080x128 .i32, AT c arg4 (Rows 16016 48048) fullShare v ∗ ⌜TabOK codes 2 4 7 v⌝) ∗ AT c arg1 (Cols 896 1408) q codes
        ∗ semVal ((c : Thread nD τ), .dma (semT arg17 2)) 0) : sProp 𝕄) := bd_table' c arg1 arg4 arg17 codes q (s := 2) (n := 4) (P := 2) (T := 7)
  ihave HB2 := U $$ HB2
  icases HB2 with ⟨⟨%TB, H4, %hT⟩, C2, T2⟩
  ihave H3 := (show (AT c arg3 (Blk 0 8192 1792 1024) fullShare v3 : sProp 𝕄) ⊢ iprop(∃ v : Vec F S8192x2816 .bf16, AT c arg3 (Blk 0 8192 1792 1024) fullShare v) from by iintro H; iexists v3; iexact H) $$ X2
  ihave HI := (phase_begin c arg3 arg4 arg7 arg8 arg9 arg10 arg11 arg13 arg14 arg18 ids codes scales (lo := 16016) (hi := 48048) (h := 8192) (C := 1792) (W := 1024) (TB := TB)) $$ [HX H4 HS H3 HO]
  · isplitl [HX]; · iexact HX
    isplitl [H4]; · iexact H4
    isplitl [HS]; · iexact HS
    isplitl [H3]; · iexact H3
    iexact HO
  iapply (t15_run 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales hids TB hT) $$ HI
  iintro HI
  iapply (last0 𝒱 c bd arg3 arg4 arg7 arg8 arg9 arg10 arg11 arg13 arg14 arg18 ids codes scales (sem_eq arg18 (by decide) (show (![0] : Fin 1 → ℕ) = ![0] from rfl)) (by rfl)) $$ HI
  iintro HI
  iapply done
  isplitl [HI]; · iexists TB; iexact HI
  unfold Rest
  isplitl [H0]; · iexact H0
  isplitl [H2]; · iexact H2
  isplitl [H5]; · iexact H5
  isplitl [H6]; · iexact H6
  isplitl [H12]; · iexact H12
  isplitl [S15]; · iexact S15
  isplitl [S16]; · iexact S16
  isplitl [R0]; · iexists w4; iexact R0
  isplitl [R3]; · iexact R3
  isplitl [C0]; · iexact C0
  isplitl [C1]; · iexact C1
  isplitl [C2]; · iexact C2
  isplitl [T0]; · iexact T0
  isplitl [T1]; · iexact T1
  isplitl [T2]; · iexact T2
  isplitl [X0]; · iexact X0
  iexact X1

/-- The kernel's run. -/
theorem kernel_wp (hids : ∀ t, t < 8192 → GG ids t < 8000) :
    Pre c arg0 arg1 arg2 arg3 arg4 arg5 arg6 arg7 arg8 arg9 arg10 arg11 arg12 arg13 arg14 arg15 arg16 arg17 arg18 ids codes scales q q0 q2 ⊢ WP (wpE (defs₀ (F := F)) 𝒱 (c : Thread nD τ) bd) Set.univ (cc0_q4_embed (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) (fun _ => Post c arg0 arg1 arg2 arg3 arg4 arg5 arg6 arg7 arg8 arg9 arg10 arg11 arg12 arg13 arg14 arg15 arg16 arg17 arg18 ids codes scales q q0 q2) := by
  rw [cc0_q4_embed_eq_skeleton]; unfold cc0_q4_embed_skel
  iintro HP
  iapply (seq 𝒱 c bd (part20_wp 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 ids codes scales q q0 q2 hids)) $$ HP
  iintro %_ ⟨⟨%TB, HI⟩, HR⟩
  iapply (last1 𝒱 c bd arg3 arg4 arg7 arg8 arg9 arg10 arg11 arg13 arg14 arg18 ids codes scales (sem_eq arg18 (by decide) (show (![1] : Fin 1 → ℕ) = ![1] from rfl)) (by rfl)) $$ HI
  iintro HI
  ihave HI := (phase_end c arg3 arg4 arg7 arg8 arg9 arg10 arg11 arg13 arg14 arg18 ids codes scales) $$ HI
  icases HI with ⟨HX, H4, HS, H3, HO⟩
  iapply done
  unfold RX SLT Rest Post
  icases HX with ⟨H7, H11, H8, ⟨%v9, H9, %_⟩, H10, H13⟩
  icases HS with ⟨⟨O0, %v14, L0⟩, O1, %w14, L1⟩
  icases HR with ⟨H0, H2, H5, H6, H12, S15, S16, R0, R3, C0, C1, C2, T0, T1, T2, X0, X1⟩
  isplitl [H0]; · iexact H0
  isplitl [C0 C1 C2]
  · iapply (cols_back c arg1 codes q)
    isplitl [C0]; · iexact C0
    isplitl [C1]; · iexact C1
    iexact C2
  isplitl [H2]; · iexact H2
  isplitl [X0 X1 H3]
  · iapply (out_back c arg3)
    isplitl [X0]; · iexact X0
    isplitl [X1]; · iexact X1
    iexact H3
  isplitr [S15 S16 T0 T1 T2 O0 O1 HO]
  · isplitl [R0 R3 H4]
    · iapply (rows_back c arg4)
      isplitl [R0]; · iexact R0
      isplitl [H4]; · iexists TB; iexact H4
      iexact R3
    isplitl [H5]; · iexact H5
    isplitl [H6]; · iexact H6
    isplitl [H7]; · iexists _; iexact H7
    isplitl [H8]; · iexists _; iexact H8
    isplitl [H9]; · iexists v9; iexact H9
    isplitl [H10]; · iexists _; iexact H10
    isplitl [H11]; · iexact H11
    isplitl [H12]; · iexact H12
    isplitl [H13]; · iexact H13
    iapply (slots_back c arg14)
    isplitl [L0]; · iexact L0
    iexact L1
  isplitr [HO]
  · isplitl [S15]; · iexact S15
    isplitl [S16]; · iexact S16
    isplitl [T0]; · iexact T0
    isplitl [T1]; · iexact T1
    isplitl [T2]; · iexact T2
    isplitl [O0]; · iexact O0
    iexact O1
  iexact HO

end Cert.Kernel.Body
-- ==== Proof.Launch.lean ====
/-
  The kernel's run as the program launches it: the arguments unchanged, every semaphore counter at zero, the result as computed.
-/
module

public import proofs.«01_k».proof.Proof.Kern
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue

@[expose] public section

set_option maxRecDepth 16384
set_option maxHeartbeats 1600000

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen Cert.Kernel.Spec Cert.Kernel.Body Cert.At

variable {F : FTy → Type} [FloatOps F]
local notation "𝕄" => MT nD τ sig Unit (Elt F) ℕ (Pipeline.UD sig nD τ) ℕ
local notation "Whole" => (fun _ => True)

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev ms0_0 (t : Fin cfg0.N) : Memref sig .tc .vmem S4x2048 .i32 := win0_0.stage (cfg0.slots t 0)
abbrev hs0_0 (t : Fin cfg0.N) : (ms0_0 t).IsWhole := hstage0_0 0
abbrev hbM1 : Memref sig .tc .hbm S8000x1408 .i32 := Memref.whole main_v3
abbrev hbM2 : Memref sig .tc .hbm S88x32000 .i16 := Memref.whole main_v0
abbrev hbM3 : Memref sig .tc .hbm S8192x2816 .bf16 := Memref.whole main_v4
abbrev scM0 : Memref sig .tc .vmem S80080x128 .i32 := Memref.whole cc0_scratch0
abbrev scM1 : Memref sig .tc .vmem S88x32000 .i16 := Memref.whole cc0_scratch1
abbrev scM2 : Memref sig .tc .vmem S4x2048 .i32 := Memref.whole cc0_scratch2
abbrev scM3 : Memref sig .tc .smem S4x2048 .i32 := Memref.whole cc0_scratch3
abbrev scM4 : Memref sig .tc .vmem S8192x128 .i32 := Memref.whole cc0_scratch4
abbrev scM5 : Memref sig .tc .vmem S8192x256 .f32 := Memref.whole cc0_scratch5
abbrev scM6 : Memref sig .tc .vmem S256x2816 .bf16 := Memref.whole cc0_scratch6
abbrev scM7 : Memref sig .tc .vmem S1560x128 .i32 := Memref.whole cc0_scratch7
abbrev scM8 : Memref sig .tc .vmem S128x128 .i32 := Memref.whole cc0_scratch8
abbrev scM9 : Memref sig .tc .vmem S256x256 .f32 := Memref.whole cc0_scratch9
abbrev scM10 : Memref sig .tc .vmem S2x256x1024 .bf16 := Memref.whole cc0_scratch10

/-- The buffers the body's transfers read, and the one they write. -/
def H0 : Finset (Ref sig .tc) := {main_v3, main_v0}
def R0 : Finset (Ref sig .tc) := {main_v4}
theorem H0_sub : H0 ⊆ Pipeline.restRefs sig spec0 := by decide
theorem R0_sub : R0 ⊆ Pipeline.restRefs sig spec0 \ H0 := by decide

/-- The body's seven transfer semaphores. -/
abbrev osem0 : Fin 7 → SemLoc sig := fun j => (![SemLoc.dma 1, SemLoc.dma 2, SemLoc.dma 3, SemLoc.dma 4, SemLoc.dma 5, SemLoc.dma 6, SemLoc.dma 7] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5, 6] (by decide) (by decide)]; rfl

/-- The token ids, the code words and the scale words as the region finds them. -/
def idsOf (c : Dev nD) : Vec F S4x2048 .i32 := V m c main_arg0
def codesOf (c : Dev nD) : Vec F S8000x1408 .i32 := V m c main_v3
def scalesOf (c : Dev nD) : Vec F S88x32000 .i16 := V m c main_v0

/-- What the buffers hold afterwards: the result computed, the others as found. -/
def G (c : Dev nD) (b : Ref sig .tc) : Buf (Elt F) ((c : Thread nD τ).loc b) :=
  Function.update (V m c) main_v4 (show Buf (Elt F) ((c : Thread nD τ).loc main_v4) from OUF (idsOf m c) (codesOf m c) (scalesOf m c)) b

theorem G_v4 (c : Dev nD) : G m c main_v4 = (show Buf (Elt F) ((c : Thread nD τ).loc main_v4) from OUF (idsOf m c) (codesOf m c) (scalesOf m c)) := by
  unfold G; rw [Function.update_self]

theorem hbmPts0_eq (c : Dev nD) :
    (bigSep H0 (fun b => ((c : Thread nD τ).loc b) ↦{fullShare} V m c b) : sProp 𝕄)
      = iprop(owns (c : Thread nD τ) hbM1 fullShare (V m c main_v3) ∗ owns (c : Thread nD τ) hbM2 fullShare (V m c main_v0)) := by
  rw [BI.bigSep_eq_bigSepL_of_eq [main_v3, main_v0] (by decide) (by decide)]
  simp only [hbM1, hbM2, owns_whole]; rfl

theorem routed_eq (c : Dev nD) (g : (b : Ref sig .tc) → Buf (Elt F) ((c : Thread nD τ).loc b)) :
    (Pipeline.routed R0 c g : sProp 𝕄) = owns (c : Thread nD τ) hbM3 fullShare (g main_v4) := by
  unfold Pipeline.routed
  rw [BI.bigSep_eq_bigSepL_of_eq [main_v4] (by decide) (by decide)]
  simp only [hbM3, owns_whole]; rfl

theorem Phi_eq (c : Dev nD) (g : (c : Dev nD) → (b : Ref sig .tc) → Buf (Elt F) ((c : Thread nD τ).loc b)) :
    (Pipeline.ΦDRG osem0 spec0 H0 R0 (V m) g c : sProp 𝕄)
      = iprop(((∃ d, owns (c : Thread nD τ) (scM0) fullShare d) ∗ (∃ d, owns (c : Thread nD τ) (scM1) fullShare d) ∗ (∃ d, owns (c : Thread nD τ) (scM2) fullShare d) ∗ (∃ d, owns (c : Thread nD τ) (scM4) fullShare d) ∗ (∃ d, owns (c : Thread nD τ) (scM5) fullShare d) ∗ (∃ d, owns (c : Thread nD τ) (scM6) fullShare d) ∗ (∃ d, owns (c : Thread nD τ) (scM7) fullShare d) ∗ (∃ d, owns (c : Thread nD τ) (scM8) fullShare d) ∗ (∃ d, owns (c : Thread nD τ) (scM9) fullShare d) ∗ (∃ d, owns (c : Thread nD τ) (scM10) fullShare d) ∗ (∃ d, owns (c : Thread nD τ) (scM3) fullShare d)) ∗ (∃ r, prngReg c r) ∗ (semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
          ∗ (owns (c : Thread nD τ) hbM1 fullShare (V m c main_v3) ∗ owns (c : Thread nD τ) hbM2 fullShare (V m c main_v0))
          ∗ owns (c : Thread nD τ) hbM3 fullShare (g c main_v4)) := by
  rw [Pipeline.ΦDRG_eq, scopedRest0_eq, ownSems00_eq, hbmPts0_eq, routed_eq]
  simp only [scM0, scM1, scM2, scM3, scM4, scM5, scM6, scM7, scM8, scM9, scM10, owns_whole]; try rfl

/-- Whole ownership in the two forms. -/
theorem owns_at {c : Dev nD} {sp : Space} {s : Shape} {e : EltTy} {M : Memref sig .tc sp s e} {v : s.Idx → Elt F e} :
    (owns (c : Thread nD τ) M fullShare v : sProp 𝕄) ⊢ AT c M Whole fullShare v := by
  unfold owns
  iintro ⟨%f, %h, H⟩
  iapply (AT_intro (m := M) (f := f) (by rw [fset_true, View.setOn_univ]) (fun i _ => congrFun h i)) $$ H

theorem at_owns {c : Dev nD} {sp : Space} {s : Shape} {e : EltTy} {M : Memref sig .tc sp s e} {v : s.Idx → Elt F e} :
    (AT c M Whole fullShare v : sProp 𝕄) ⊢ owns (c : Thread nD τ) M fullShare v := by
  unfold owns AT
  rw [fset_true, View.setOn_univ]
  iintro ⟨%f, H, %h⟩
  iexists f
  isplitr
  · ipureintro; exact funext fun i => h i trivial
  iexact H

theorem ex_at {c : Dev nD} {sp : Space} {s : Shape} {e : EltTy} {M : Memref sig .tc sp s e} :
    (iprop(∃ d, owns (c : Thread nD τ) M fullShare d) : sProp 𝕄) ⊢ iprop(∃ v : s.Idx → Elt F e, AT c M Whole fullShare v) := by
  iintro ⟨%d, H⟩; iexists d; iapply owns_at $$ H

theorem ex_owns {c : Dev nD} {sp : Space} {s : Shape} {e : EltTy} {M : Memref sig .tc sp s e} :
    (iprop(∃ v : s.Idx → Elt F e, AT c M Whole fullShare v) : sProp 𝕄) ⊢ iprop(∃ d, owns (c : Thread nD τ) M fullShare d) := by
  iintro ⟨%d, H⟩; iexists d; iapply at_owns $$ H

/-- The pipeline's data: the ids' block stays, the written result goes from what it was to what is computed. -/
def dats (_ : Fin 1) (c : Dev nD) : Dat τ (Elt F) Unit ℕ (Pipeline.UD sig nD τ) ℕ cfg0 c where
  A w := V m c (Pipeline.arrRef spec0 w)
  after w _ := match w with | ⟨0, _⟩ => idsOf m c
  Φ t := Pipeline.ΦDRG osem0 spec0 H0 R0 (V m) (if t = 0 then V m else G m) c
  q _ := fullShare
  owed _ := 0

theorem A_eq (c : Dev nD) (w : Fin cfg0.W) : (dats m 0 c).A w = V m c (Pipeline.arrRef spec0 w) := by
  dsimp only [dats]

/-- The ids' block is the whole array: its rectangle takes every index to itself. -/
theorem emb0 (t : Fin cfg0.N) (j : S4x2048.Idx) : ((cfg0.win 0).blk t).view.emb j = j := by
  funext a; apply Fin.ext
  match a with
  | ⟨0, _⟩ => show 0 * 4 + 1 * (j 0).val = (j 0).val; omega
  | ⟨1, _⟩ => show 0 * 2048 + 1 * (j 1).val = (j 1).val; omega

theorem iblk0 (c : Dev nD) (t : Fin cfg0.N) : iblk m c 0 t = idsOf m c := by
  funext j; show V m c main_arg0 (((cfg0.win 0).blk t).view.emb j) = V m c main_arg0 j; rw [emb0]

theorem cut0 (c : Dev nD) (t : Fin cfg0.N) : (cfg0.win 0).cut (grid0.coords t) (idsOf m c) = iblk m c 0 t := by
  rw [iblk0]; rfl

theorem before0_0 (c : Dev nD) (t : Fin cfg0.N) (d) : (dats m 0 c).before 0 t d = iblk m c 0 t :=
  ((dats m 0 c).before_in_eq_fetched 0 rfl (fun _ => rfl) (fun _ _ _ => rfl) (fun t => cut0 m c t) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

theorem sound_body (c : Dev nD) (hids : ∀ t, t < 8192 → GG (idsOf m c) t < 8000) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).after 0 t = idsOf m c from rfl]
  rw [show (dats m 0 c).Φ t.castSucc = Pipeline.ΦDRG osem0 spec0 H0 R0 (V m) (V m) c from by
    show Pipeline.ΦDRG osem0 spec0 H0 R0 (V m) (if t.castSucc = 0 then V m else G m) c = _
    rw [if_pos (by rw [fin_N0 t]; rfl)]]
  rw [show (dats m 0 c).Φ t.succ = Pipeline.ΦDRG osem0 spec0 H0 R0 (V m) (G m) c from by
    show Pipeline.ΦDRG osem0 spec0 H0 R0 (V m) (if t.succ = 0 then V m else G m) c = _
    rw [if_neg (Fin.succ_ne_zero t)]]
  rw [Phi_eq, Phi_eq, G_v4]
  unfold Dat.owesAt Pipeline.owesWithin
  rw [show (dats m 0 c).owed t.castSucc = 0 from rfl, show (dats m 0 c).owed t.succ = 0 from rfl]
  have K := kernel_wp Variants.none c none (ms0_0 t) (hs0_0 t) hbM1 (Memref.isWhole_whole _) hbM2 (Memref.isWhole_whole _) hbM3 (Memref.isWhole_whole _) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) cc0_scratch11 cc0_scratch12 cc0_scratch13 cc0_scratch14 (idsOf m c) (codesOf m c) (scalesOf m c) fullShare fullShare fullShare hids
  iintro ⟨⟨⟨S0, S1, S2, S4, S5, S6, S7, S8, S9, S10, S3⟩, Hg, ⟨Q1, Q2, Q3, Q4, Q5, Q6, Q7⟩, ⟨B1, B2⟩, B3⟩, ⟨%W, -, HW⟩, ⟨%d0, B0⟩⟩
  rw [before0_0, iblk0]
  iapply (wp_wand frame (wpE (defs₀ (F := F)) Variants.none (c : Thread nD τ) none) Set.univ (Q := fun _ => Post c (ms0_0 t) hbM1 hbM2 hbM3 scM0 scM1 scM2 scM3 scM4 scM5 scM6 scM7 scM8 scM9 scM10 cc0_scratch11 cc0_scratch12 cc0_scratch13 cc0_scratch14 (idsOf m c) (codesOf m c) (scalesOf m c) fullShare fullShare fullShare)) $$ [B0 B1 B2 B3 S0 S1 S2 S3 S4 S5 S6 S7 S8 S9 S10 Q1 Q2 Q3 Q4 Q5 Q6 Q7 HW]
  · iapply K
    unfold Pre
    isplitl [B0]; · iapply owns_at $$ B0
    isplitl [B1]; · iapply owns_at $$ B1
    isplitl [B2]; · iapply owns_at $$ B2
    isplitl [B3]; · iexists (V m c main_v4); iapply owns_at $$ B3
    isplitl [S0 S1 S2 S3 S4 S5 S6 S7 S8 S9 S10]
    · isplitl [S0]; · iapply ex_at $$ S0
      isplitl [S1]; · iapply ex_at $$ S1
      isplitl [S2]; · iapply ex_at $$ S2
      isplitl [S3]; · iapply ex_at $$ S3
      isplitl [S4]; · iapply ex_at $$ S4
      isplitl [S5]; · iapply ex_at $$ S5
      isplitl [S6]; · iapply ex_at $$ S6
      isplitl [S7]; · iapply ex_at $$ S7
      isplitl [S8]; · iapply ex_at $$ S8
      isplitl [S9]; · iapply ex_at $$ S9
      iapply ex_at $$ S10
    isplitl [Q1 Q2 Q3 Q4 Q5 Q6 Q7]
    · isplitl [Q1]; · iexact Q1
      isplitl [Q2]; · iexact Q2
      isplitl [Q3]; · iexact Q3
      isplitl [Q4]; · iexact Q4
      isplitl [Q5]; · iexact Q5
      isplitl [Q6]; · iexact Q6
      iexact Q7
    iexists W; iexact HW
  iintro %_ HP
  unfold Post
  icases HP with ⟨B0, B1, B2, B3, ⟨S0, S1, S2, S3, S4, S5, S6, S7, S8, S9, S10⟩, ⟨Q1, Q2, Q3, Q4, Q5, Q6, Q7⟩, ⟨%W', HW⟩⟩
  isplitl [B1 B2 B3 Hg S0 S1 S2 S3 S4 S5 S6 S7 S8 S9 S10 Q1 Q2 Q3 Q4 Q5 Q6 Q7]
  · isplitl [S0 S1 S2 S3 S4 S5 S6 S7 S8 S9 S10]
    · isplitl [S0]; · iapply ex_owns $$ S0
      isplitl [S1]; · iapply ex_owns $$ S1
      isplitl [S2]; · iapply ex_owns $$ S2
      isplitl [S4]; · iapply ex_owns $$ S4
      isplitl [S5]; · iapply ex_owns $$ S5
      isplitl [S6]; · iapply ex_owns $$ S6
      isplitl [S7]; · iapply ex_owns $$ S7
      isplitl [S8]; · iapply ex_owns $$ S8
      isplitl [S9]; · iapply ex_owns $$ S9
      isplitl [S10]; · iapply ex_owns $$ S10
      iapply ex_owns $$ S3
    isplitl [Hg]; · iexact Hg
    isplitl [Q1 Q2 Q3 Q4 Q5 Q6 Q7]
    · isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [B1 B2]
    · isplitl [B1]; · iapply at_owns $$ B1
      iapply at_owns $$ B2
    iapply at_owns $$ B3
  isplitl [HW]
  · iexists W'; isplitr; · ipureintro; exact fun _ _ => Or.inl trivial
    iexact HW
  iapply at_owns $$ B0

theorem defs₀_row (t : Fin cfg0.N) :
    defs₀ (F := F) .tc cfg0.body (cfg0.bodyArgs t (cfg0.slots t)) = bodyAt0 t := by
  unfold defs₀; rw [Defs.onTc_tc]

theorem body_obligation (c : Dev nD) (hids : ∀ t, t < 8192 → GG (idsOf m c) t < 8000) :
    BodyObligation (dats (F := F) m 0 c) (defs₀ (F := F)) Variants.none () Set.univ := fun t => by
  rw [bigSep_W0, bigSep_W0, defs₀_row]
  exact triple_restated (sound_body m c hids t) rfl .rfl fun _ => .rfl

set_option backward.isDefEq.respectTransparency.types false in
theorem run_main (hids : ∀ c t, t < 8192 → GG (idsOf m c) t < 8000) :
    θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c (hids c)).loose) (hshare := fun c => (dats m 0 c).share_full fun _ => rfl)
    (howed := fun _ _ => rfl) (V := V m) (hmain := hmain m Variants.none) (hA := A_eq m) (G := G m)
    (hin := fun _ => .rfl) (hout := fun _ => .rfl)

/-- The run: the arguments as they were, every counter at zero, the result as computed. -/
theorem run (hids : ∀ c t, t < 8192 → GG (idsOf m c) t < 8000) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v4) = (show Buf (Elt F) ((c : Thread nD τ).loc main_v4) from OUF (idsOf m c) (codesOf m c) (scalesOf m c)))
      ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      (h.1.2 c main_v4 (by decide)).trans (G_v4 m c)⟩, h.2⟩) (run_main m ρ hids)

end Cert.Kernel.Launch

end
-- ==== Proof.Range.lean ====
/-
  What the precondition says of the token ids, and what it gives of the table rows they name.
-/
module

public import proofs.«01_k».proof.Proof.Spec
public import proofs.«01_k».proof.Proof.Gen.Pre_ids_in_range
public import Idealize.ShloMosaic.Lib.Pointwise

@[expose] public section

noncomputable section

namespace Cert.Range

open Idealize.ShloMosaic Idealize.ShloMosaic.TcCoe

variable {F : FTy → Type} [FloatOps F]

/-- A word between 0 and 32000 as a signed number is that number unsigned. -/
theorem word_lt (x : BitVec 32) (h : IntOp.cmpi .sge x 0#32 &&& IntOp.cmpi .slt x 32000#32 = 1#1) : x.toNat < 32000 := by
  simp only [IntOp.cmpi] at h
  have h1 : (0#32).sle x = true := by
    by_contra hc; simp only [Bool.not_eq_true] at hc; rw [hc] at h; revert h; cases x.slt 32000#32 <;> decide
  have h2 : x.slt 32000#32 = true := by
    by_contra hc; simp only [Bool.not_eq_true] at hc; rw [hc, h1] at h; revert h; decide
  simp only [BitVec.sle, BitVec.slt, decide_eq_true_eq, BitVec.toInt_eq_toNat_cond] at h1 h2
  have := x.isLt
  norm_num at h1 h2
  split at h1 <;> split at h2 <;> omega

/-- Under the precondition every token id is below 32000. -/
theorem ids_lt [Cert.Pre_ids_in_range.Facts] (ids : IVec Cert.Pre_ids_in_range.S4x2048 32) (codes scales)
    (h : Cert.Pre_ids_in_range.fn (F := F) ids codes scales = fun _ => 1#1) (i : Cert.Pre_ids_in_range.S4x2048.Idx) :
    (ids i).toNat < 32000 :=
  word_lt _ (congrFun h i)

/-- A word below 32000 shifted right by two, as a signed number, is its quarter. -/
theorem shr_two (x : BitVec 32) (h : x.toNat < 32000) : (IntOp.shrsi .vector x 2#32).toNat = x.toNat / 4 := by
  have hm : x.msb = false := by rw [BitVec.msb_eq_decide]; simp only [decide_eq_false_iff_not]; omega
  have : IntOp.shrsi .vector x 2#32 = x >>> 2 := by
    show x.sshiftRight 2 = x >>> 2
    exact BitVec.sshiftRight_eq_of_msb_false hm
  rw [this, BitVec.toNat_ushiftRight, Nat.shiftRight_eq_div_pow]

end Cert.Range

namespace Cert.Kernel.Spec

open Idealize.ShloMosaic Cert.Kernel Cert.Kernel.Gen

variable {F : FTy → Type} [FloatOps F]

/-- The row of a token: a quarter of its id. -/
theorem GG_eq (ids : Vec F S4x2048 .i32) (t : ℕ) (h : ∀ i, (show BitVec 32 from ids i).toNat < 32000) :
    GG ids t = (show BitVec 32 from rd2 (α := BitVec 32) ids (t / 2048) (t % 2048)).toNat / 4 := by
  unfold GG k0_pay40
  dsimp only
  rw [shapeCast_id]
  exact Cert.Range.shr_two _ (h _)

theorem GG_lt (ids : Vec F S4x2048 .i32) (t : ℕ) (h : ∀ i, (show BitVec 32 from ids i).toNat < 32000) : GG ids t < 8000 := by
  rw [GG_eq ids t h]
  have : (show BitVec 32 from rd2 (α := BitVec 32) ids (t / 2048) (t % 2048)).toNat < 32000 := h _
  omega

end Cert.Kernel.Spec

end
-- ==== Proof.Runs.lean ====
/-
  The runs of the three programs at the instances the claims name. The idealized kernel is the kernel's own text, so its run is the
  kernel's run read at `Ideal`.
-/
module

public import proofs.«01_k».proof.Defs
public import proofs.«01_k».proof.Proof.Launch
public import proofs.«01_k».proof.Proof.Range
public import proofs.«01_k».proof.Proof.Gen.KernelIdeal
public import proofs.«01_k».proof.Proof.Gen.ReferenceIdeal
public import proofs.«01_k».proof.Proof.Gen.ReferenceIdeal.Run

@[expose] public section

set_option maxRecDepth 100000
set_option maxHeartbeats 0

noncomputable section

namespace Cert.Runs

open Idealize.ShloMosaic Idealize.ShloMosaic.TcCoe Cert.Kernel.Spec Cert.Kernel.Launch

theorem main_eq : Cert.KernelIdeal.main (F := Ideal) = Cert.Kernel.main (F := Ideal) := by
  unfold Cert.KernelIdeal.main Cert.Kernel.main
  with_unfolding_all exact rfl

theorem body_eq : Cert.KernelIdeal.cc0_q4_embed (F := Ideal) = Cert.Kernel.cc0_q4_embed (F := Ideal) := by
  with_unfolding_all rfl

theorem defs₀_eq : Cert.KernelIdeal.defs₀ (F := Ideal) = Cert.Kernel.defs₀ (F := Ideal) := by
  unfold Cert.KernelIdeal.defs₀ Cert.Kernel.defs₀
  refine congrArg (Defs.onTc (nD := Cert.Kernel.nD) (τ := Cert.Kernel.τ) (sig := Cert.Kernel.sig) (Val := Elt Ideal) (Λ := Cert.Kernel.Λ₀)) ?_
  funext l a
  match l, a with
  | ⟨0, _⟩, (t, s) => with_unfolding_all rfl

theorem defs_eq : Cert.KernelIdeal.defs (F := Ideal) = Cert.Kernel.defs (F := Ideal) := by
  show Pipeline.defs Cert.Kernel.pcfgs Cert.KernelIdeal.defs₀ = Pipeline.defs Cert.Kernel.pcfgs Cert.Kernel.defs₀
  exact congrArg (Pipeline.defs Cert.Kernel.pcfgs) defs₀_eq

section
variable {F : FTy → Type} [FloatOps F]
variable (m : (ℓ : Loc Cert.Kernel.nD Cert.Kernel.τ Cert.Kernel.sig) → Buf (Elt F) ℓ)

/-- The ids the precondition bounds are the ids the kernel reads. -/
theorem hids (h : ∀ c : Dev Cert.Kernel.nD,
    Cert.Pre_ids_in_range.fn (F := F) (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)) = fun _ => 1#1) (c) (i) :
    (show BitVec 32 from idsOf m c i).toNat < 32000 := by
  unfold idsOf
  rw [Cert.Kernel.Gen.V_main_arg0]
  exact Cert.Range.ids_lt _ _ _ (h c) i

end

theorem frame_p : Cert.quiescent_Kernel := fun m ρ h =>
  (θ_run Cert.Kernel.defs _ _).mono (fun _ h => ⟨fun c => ⟨(h.1 c).1, (h.1 c).2.1, (h.1 c).2.2.1⟩, h.2⟩)
    (run (F := Bits) m ρ fun c t _ => GG_lt _ t (hids m h c))

/-- The idealized kernel's run. -/
theorem run_ideal (m : (ℓ : Loc Cert.KernelIdeal.nD Cert.KernelIdeal.τ Cert.KernelIdeal.sig) → Buf (Elt Ideal) ℓ) (ρ) (h : Cert.Pre_KernelIdeal m) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_v4)
        = (show Buf (Elt Ideal) ((c : Thread Cert.Kernel.nD Cert.Kernel.τ).loc Cert.Kernel.main_v4) from
            Cert.Kernel.Body.OUF (idsOf (F := Ideal) m c) (codesOf (F := Ideal) m c) (scalesOf (F := Ideal) m c)))
      ∧ r.2.sem = fun _ => 0) := by
  have K := run (F := Ideal) m ρ fun c t _ => GG_lt _ t (hids (F := Ideal) m h c)
  rw [← main_eq, ← defs_eq] at K
  exact K

theorem frame_pi : Cert.quiescent_KernelIdeal := fun m ρ h =>
  (θ_run Cert.KernelIdeal.defs _ _).mono (fun _ h => ⟨fun c => ⟨(h.1 c).1, (h.1 c).2.1, (h.1 c).2.2.1⟩, h.2⟩) (run_ideal m ρ h)

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Runs

end
-- ==== Proof.Decode.lean ====
/-
  The value of a half-precision pattern over the extended reals: as the kernel rebuilds it in single precision, and as arithmetic
  on its fields.
-/
module

public import Idealize.ShloMosaic.PureOps.Ideal
public import Idealize.ShloMosaic.Lib.Pointwise

@[expose] public section

noncomputable section

namespace Cert.Decode

open Idealize.ShloMosaic

/-- The fields of a pattern whose sign bit is clear. -/
theorem fields (e f : ℕ) (he' : e < 256) (hf : f < 1024) :
    (BitVec.extractLsb' 31 1 (BitVec.ofNat 32 (e * 8388608 + f * 8192)) == 1#1) = false
    ∧ (BitVec.extractLsb' 23 8 (BitVec.ofNat 32 (e * 8388608 + f * 8192))).toNat = e
    ∧ (BitVec.extractLsb' 0 23 (BitVec.ofNat 32 (e * 8388608 + f * 8192))).toNat = f * 8192 := by
  have hb : (e * 8388608 + f * 8192) % 4294967296 = e * 8388608 + f * 8192 := Nat.mod_eq_of_lt (by omega)
  refine ⟨?_, ?_, ?_⟩
  · rw [beq_eq_false_iff_ne]; intro h
    have := congrArg BitVec.toNat h
    rw [BitVec.extractLsb'_toNat, BitVec.toNat_ofNat, Nat.shiftRight_eq_div_pow] at this
    norm_num at this
    omega
  · rw [BitVec.extractLsb'_toNat, BitVec.toNat_ofNat, Nat.shiftRight_eq_div_pow]
    norm_num
    omega
  · rw [BitVec.extractLsb'_toNat, BitVec.toNat_ofNat, Nat.shiftRight_eq_div_pow]
    norm_num
    omega

/-- The pattern with exponent `e` and the ten high fraction bits `f`, as a real. -/
theorem ieee_word (e f : ℕ) (he : 0 < e) (he' : e < 255) (hf : f < 1024) :
    Ideal.ofBits .f32 (BitVec.ofNat 32 (e * 8388608 + f * 8192)) = (((1024 + f : ℕ) : ℝ) * (2 : ℝ) ^ ((e : ℤ) - 137) : ℝ) := by
  obtain ⟨h1, h2, h3⟩ := fields e f (by omega) hf
  show Ideal.ieee 8 23 _ = _
  unfold Ideal.ieee
  simp only [h1, h2, h3]
  rw [if_neg (by omega), if_neg (by omega)]
  congr 1
  have : ((2 ^ 23 + f * 8192 : ℕ) : ℝ) = ((1024 + f : ℕ) : ℝ) * 2 ^ (13 : ℤ) := by
    rw [show (2 ^ 23 + f * 8192 : ℕ) = (1024 + f) * 8192 by omega, Nat.cast_mul]; norm_num
  rw [if_neg (by decide), this, one_mul, mul_assoc, ← zpow_add₀ (by norm_num)]
  congr 2
  norm_num
  ring

/-- The infinity's pattern, or a nan's. -/
theorem ieee_word_special (f : ℕ) (hf : f < 1024) :
    Ideal.ofBits .f32 (BitVec.ofNat 32 (255 * 8388608 + f * 8192)) = if f = 0 then ⊤ else ⊥ := by
  obtain ⟨h1, h2, h3⟩ := fields 255 f (by omega) hf
  show Ideal.ieee 8 23 _ = _
  unfold Ideal.ieee
  simp only [h1, h2, h3]
  rw [if_pos (by norm_num)]
  by_cases h : f = 0
  · subst h; simp
  · rw [if_neg (by omega), if_neg h]
/-- The kernel's decoding of the word `y`. -/
def fk (y : BitVec 32) : EReal :=
  let mag := IntOp.shli .vector (IntOp.andi y 32767#32) 13#32
  let e := IntOp.andi y 31744#32
  let f0 : EReal := Scalar.select (IntOp.cmpi .eq e 0#32)
    (Ideal.ofBits .f32 (IntOp.addi mag 947912704#32) - Ideal.ofBits .f32 0x38800000#32)
    (Ideal.ofBits .f32 (IntOp.addi mag (Scalar.select (IntOp.cmpi .eq e 31744#32) 1879048192#32 939524096#32)))
  Scalar.select (IntOp.cmpi .ne (IntOp.andi y 32768#32) 0#32) (Ideal.ofBits .f32 0x00000000#32 - f0) f0

/-- The reference's. -/
def fr' (y : BitVec 32) : EReal :=
  let frac := IntOp.andi y 1023#32
  let e := IntOp.andi (IntOp.shrsi .host y 10#32) 31#32
  let sign : EReal := Scalar.select (IntOp.cmpi .ne (IntOp.andi y 32768#32) 0#32) (Ideal.ofBits .f32 0xBF800000#32) (Ideal.ofBits .f32 0x3F800000#32)
  let mant : EReal := (((Scalar.select (IntOp.cmpi .eq e 0#32) frac (IntOp.addi frac 1024#32) : BitVec 32).toInt : ℝ) : EReal)
  let power : EReal := (((IntOp.shli .host 1#32 (IntOp.maxsi e 1#32)).toInt : ℝ) : EReal) * Ideal.ofBits .f32 0x33000000#32
  let special : EReal := Scalar.select (IntOp.cmpi .eq frac 0#32) (Ideal.ofBits .f32 0x7F800000#32) (Ideal.ofBits .f32 0x7FC00000#32)
  sign * Scalar.select (IntOp.cmpi .eq e 31#32) special (mant * power)

theorem select_eq {α : Type} (x y : BitVec 32) (a b : α) : Scalar.select (IntOp.cmpi .eq x y) a b = if x = y then a else b := by
  unfold Scalar.select IntOp.cmpi
  by_cases h : x = y
  · subst h; simp
  · rw [if_neg h]; dsimp only; first | rw [beq_false_of_ne h]; rfl | rw [bne_iff_ne.mpr h]; rfl

theorem select_ne {α : Type} (x y : BitVec 32) (a b : α) : Scalar.select (IntOp.cmpi .ne x y) a b = if x = y then b else a := by
  unfold Scalar.select IntOp.cmpi
  by_cases h : x = y
  · subst h; simp
  · rw [if_neg h]; dsimp only; first | rw [beq_false_of_ne h]; rfl | rw [bne_iff_ne.mpr h]; rfl

theorem nat_and (n a b : ℕ) : n &&& ((2 ^ a - 1) * 2 ^ b) = n / 2 ^ b % 2 ^ a * 2 ^ b := by
  apply Nat.eq_of_testBit_eq
  intro i
  simp only [Nat.testBit_and, Nat.testBit_mul_two_pow, Nat.testBit_two_pow_sub_one, Nat.testBit_mod_two_pow, Nat.testBit_div_two_pow]
  by_cases hi : b ≤ i
  · simp only [ge_iff_le, hi, decide_true, Bool.true_and, Nat.sub_add_cancel hi]
    exact Bool.and_comm _ _
  · simp [hi]

/-- A word below 65536 under a mask of consecutive bits. -/
theorem and_mask (n a b k : ℕ) (hk : (2 ^ a - 1) * 2 ^ b = k) (hk' : k < 4294967296) (hn : n < 65536) :
    IntOp.andi (BitVec.ofNat 32 n) (BitVec.ofNat 32 k) = BitVec.ofNat 32 (n / 2 ^ b % 2 ^ a * 2 ^ b) := by
  apply BitVec.eq_of_toNat_eq
  show (BitVec.ofNat 32 n &&& BitVec.ofNat 32 k).toNat = _
  rw [← nat_and, hk, BitVec.toNat_and, BitVec.toNat_ofNat, BitVec.toNat_ofNat, BitVec.toNat_ofNat]
  rw [Nat.mod_eq_of_lt (a := n) (lt_trans hn (by norm_num)), Nat.mod_eq_of_lt (a := k) hk', Nat.mod_eq_of_lt]
  exact lt_of_le_of_lt Nat.and_le_left (lt_trans hn (by norm_num))

theorem ofNat_inj (a b : ℕ) (ha : a < 4294967296) (hb : b < 4294967296) : (BitVec.ofNat 32 a = BitVec.ofNat 32 b) = (a = b) := by
  apply propext
  constructor
  · intro h
    have := congrArg BitVec.toNat h
    rw [BitVec.toNat_ofNat, BitVec.toNat_ofNat] at this
    rwa [Nat.mod_eq_of_lt ha, Nat.mod_eq_of_lt hb] at this
  · rintro rfl; rfl

theorem toInt_small (a : ℕ) (ha : a < 2147483648) : (BitVec.ofNat 32 a).toInt = a := by
  rw [BitVec.toInt_eq_toNat_cond, BitVec.toNat_ofNat, Nat.mod_eq_of_lt (by omega), if_pos (by omega)]

section
variable (n : ℕ) (hn : n < 65536)

/-- The unsigned value where the exponent field is not full. -/
def val : ℝ := ((if n / 1024 % 32 = 0 then n % 1024 else n % 1024 + 1024 : ℕ) : ℝ) * (2 : ℝ) ^ (((max (n / 1024 % 32) 1 : ℕ) : ℤ) - 25)

/-- The sign. -/
def sgn : ℝ := if n / 32768 % 2 = 0 then 1 else -1

include hn in
theorem fk_eq : fk (BitVec.ofNat 32 n) =
    if n / 1024 % 32 = 31 then (if n / 32768 % 2 = 0 then (if n % 1024 = 0 then (⊤ : EReal) else ⊥) else 0 - (if n % 1024 = 0 then (⊤ : EReal) else ⊥))
    else ((sgn n * val n : ℝ) : EReal) := by
  have hf : n % 1024 < 1024 := Nat.mod_lt _ (by norm_num)
  have hE : n / 1024 % 32 < 32 := Nat.mod_lt _ (by norm_num)
  have m1 := and_mask n 15 0 32767 (by norm_num) (by norm_num) hn
  have m2 := and_mask n 5 10 31744 (by norm_num) (by norm_num) hn
  have m3 := and_mask n 1 15 32768 (by norm_num) (by norm_num) hn
  have hm : IntOp.shli .vector (IntOp.andi (BitVec.ofNat 32 n) 32767#32) 13#32 = BitVec.ofNat 32 (n / 1024 % 32 * 8388608 + n % 1024 * 8192) := by
    rw [m1]
    show (BitVec.ofNat 32 (n / 2 ^ 0 % 2 ^ 15 * 2 ^ 0)) <<< 13 = _
    apply BitVec.eq_of_toNat_eq
    rw [BitVec.toNat_shiftLeft, BitVec.toNat_ofNat, BitVec.toNat_ofNat, Nat.shiftLeft_eq]
    norm_num
    omega
  have hadd : ∀ a b : ℕ, IntOp.addi (BitVec.ofNat 32 a) (BitVec.ofNat 32 b) = BitVec.ofNat 32 (a + b) := fun a b => (BitVec.ofNat_add a b).symm
  unfold fk
  simp only [select_eq, select_ne, hm, m2, m3]
  have c1 : (BitVec.ofNat 32 (n / 2 ^ 15 % 2 ^ 1 * 2 ^ 15) = 0#32) = (n / 2 ^ 15 % 2 ^ 1 * 2 ^ 15 = 0) := ofNat_inj _ 0 (by norm_num; omega) (by norm_num)
  have c2 : (BitVec.ofNat 32 (n / 2 ^ 10 % 2 ^ 5 * 2 ^ 10) = 0#32) = (n / 2 ^ 10 % 2 ^ 5 * 2 ^ 10 = 0) := ofNat_inj _ 0 (by norm_num; omega) (by norm_num)
  have c3 : (BitVec.ofNat 32 (n / 2 ^ 10 % 2 ^ 5 * 2 ^ 10) = 31744#32) = (n / 2 ^ 10 % 2 ^ 5 * 2 ^ 10 = 31744) := ofNat_inj _ 31744 (by norm_num; omega) (by norm_num)
  have hz : Ideal.ofBits .f32 0x00000000#32 = 0 := Ideal.ofBits_zero .f32
  have hs : (n / 2 ^ 15 % 2 ^ 1 * 2 ^ 15 = 0) = (n / 32768 % 2 = 0) := by apply propext; norm_num
  simp only [c1, c2, c3, hs]
  rw [hz]
  by_cases h0 : n / 1024 % 32 = 0
  · rw [if_pos (show n / 2 ^ 10 % 2 ^ 5 * 2 ^ 10 = 0 by norm_num; omega), if_neg (show ¬ n / 1024 % 32 = 31 by omega)]
    rw [hadd, show n / 1024 % 32 * 8388608 + n % 1024 * 8192 + 947912704 = 113 * 8388608 + n % 1024 * 8192 by omega,
      ieee_word 113 _ (by norm_num) (by norm_num) hf,
      show (0x38800000#32 : BitVec 32) = BitVec.ofNat 32 (113 * 8388608 + 0 * 8192) from rfl, ieee_word 113 0 (by norm_num) (by norm_num) (by norm_num)]
    have hv : (((1024 + n % 1024 : ℕ) : ℝ) * (2 : ℝ) ^ (((113 : ℕ) : ℤ) - 137)) - (((1024 + 0 : ℕ) : ℝ) * (2 : ℝ) ^ (((113 : ℕ) : ℤ) - 137)) = val n := by
      unfold val
      rw [if_pos h0, h0]
      push_cast
      norm_num
      ring
    rw [← EReal.coe_sub, hv]
    unfold sgn
    split
    · rw [one_mul]
    · rw [neg_one_mul, zero_sub, EReal.coe_neg]
  · rw [if_neg (show ¬ n / 2 ^ 10 % 2 ^ 5 * 2 ^ 10 = 0 by norm_num; omega)]
    by_cases h1 : n / 1024 % 32 = 31
    · rw [if_pos (show n / 2 ^ 10 % 2 ^ 5 * 2 ^ 10 = 31744 by norm_num; omega), if_pos h1]
      rw [hadd, show n / 1024 % 32 * 8388608 + n % 1024 * 8192 + 1879048192 = 255 * 8388608 + n % 1024 * 8192 by omega, ieee_word_special _ hf]
    · rw [if_neg (show ¬ n / 2 ^ 10 % 2 ^ 5 * 2 ^ 10 = 31744 by norm_num; omega), if_neg h1]
      rw [hadd, show n / 1024 % 32 * 8388608 + n % 1024 * 8192 + 939524096 = (n / 1024 % 32 + 112) * 8388608 + n % 1024 * 8192 by omega,
        ieee_word _ _ (by omega) (by omega) hf]
      have hv : (((1024 + n % 1024 : ℕ) : ℝ) * (2 : ℝ) ^ (((n / 1024 % 32 + 112 : ℕ) : ℤ) - 137)) = val n := by
        unfold val
        rw [if_neg h0, Nat.add_comm 1024, show max (n / 1024 % 32) 1 = n / 1024 % 32 by omega]
        congr 2
        push_cast
        ring
      rw [hv]
      unfold sgn
      split
      · rw [one_mul]
      · rw [neg_one_mul, zero_sub, EReal.coe_neg]

include hn in
theorem fr_eq : fr' (BitVec.ofNat 32 n) =
    if n / 1024 % 32 = 31 then ((sgn n : ℝ) : EReal) * (if n % 1024 = 0 then (⊤ : EReal) else ⊥)
    else ((sgn n * val n : ℝ) : EReal) := by
  have hf : n % 1024 < 1024 := Nat.mod_lt _ (by norm_num)
  have hE : n / 1024 % 32 < 32 := Nat.mod_lt _ (by norm_num)
  have m1 := and_mask n 10 0 1023 (by norm_num) (by norm_num) hn
  have m3 := and_mask n 1 15 32768 (by norm_num) (by norm_num) hn
  have he : IntOp.andi (IntOp.shrsi .host (BitVec.ofNat 32 n) 10#32) 31#32 = BitVec.ofNat 32 (n / 1024 % 32) := by
    have : IntOp.shrsi .host (BitVec.ofNat 32 n) 10#32 = BitVec.ofNat 32 (n / 1024) := by
      have hm : (BitVec.ofNat 32 n).msb = false := by rw [BitVec.msb_eq_decide, BitVec.toNat_ofNat]; simp only [decide_eq_false_iff_not]; norm_num; omega
      show (BitVec.ofNat 32 n).sshiftRight 10 = _
      rw [BitVec.sshiftRight_eq_of_msb_false hm]
      apply BitVec.eq_of_toNat_eq
      rw [BitVec.toNat_ushiftRight, BitVec.toNat_ofNat, BitVec.toNat_ofNat, Nat.shiftRight_eq_div_pow]
      norm_num
      omega
    rw [this, and_mask (n / 1024) 5 0 31 (by norm_num) (by norm_num) (by omega)]
    norm_num
  have hadd : IntOp.addi (BitVec.ofNat 32 (n / 2 ^ 0 % 2 ^ 10 * 2 ^ 0)) 1024#32 = BitVec.ofNat 32 (n % 1024 + 1024) := by
    rw [show (1024#32 : BitVec 32) = BitVec.ofNat 32 1024 from rfl]
    show BitVec.ofNat 32 _ + BitVec.ofNat 32 _ = _
    rw [← BitVec.ofNat_add]; norm_num
  have hmax : ∀ e : Fin 32, e.val ≠ 31 → (IntOp.shli .host 1#32 (IntOp.maxsi (BitVec.ofNat 32 e.val) 1#32)).toInt = 2 ^ (max e.val 1) := by decide
  unfold fr'
  simp only [select_eq, select_ne, he, m1, m3, hadd]
  have c1 : (BitVec.ofNat 32 (n / 2 ^ 15 % 2 ^ 1 * 2 ^ 15) = 0#32) = (n / 2 ^ 15 % 2 ^ 1 * 2 ^ 15 = 0) := ofNat_inj _ 0 (by norm_num; omega) (by norm_num)
  have c2 : (BitVec.ofNat 32 (n / 1024 % 32) = 0#32) = (n / 1024 % 32 = 0) := ofNat_inj _ 0 (by omega) (by norm_num)
  have c3 : (BitVec.ofNat 32 (n / 1024 % 32) = 31#32) = (n / 1024 % 32 = 31) := ofNat_inj _ 31 (by omega) (by norm_num)
  have c4 : (BitVec.ofNat 32 (n / 2 ^ 0 % 2 ^ 10 * 2 ^ 0) = 0#32) = (n / 2 ^ 0 % 2 ^ 10 * 2 ^ 0 = 0) := ofNat_inj _ 0 (by norm_num; omega) (by norm_num)
  have hs : (n / 2 ^ 15 % 2 ^ 1 * 2 ^ 15 = 0) = (n / 32768 % 2 = 0) := by apply propext; norm_num
  have hf0 : (n / 2 ^ 0 % 2 ^ 10 * 2 ^ 0 = 0) = (n % 1024 = 0) := by norm_num
  have hone : Ideal.ofBits .f32 0x3F800000#32 = ((1 : ℝ) : EReal) := by simp [Ideal.ofBits, Ideal.ieee, -EReal.coe_mul]; norm_num
  have hneg : Ideal.ofBits .f32 0xBF800000#32 = ((-1 : ℝ) : EReal) := by simp [Ideal.ofBits, Ideal.ieee, -EReal.coe_mul]; norm_num
  have htop : Ideal.ofBits .f32 0x7F800000#32 = ⊤ := by simp [Ideal.ofBits, Ideal.ieee]
  have hbot : Ideal.ofBits .f32 0x7FC00000#32 = ⊥ := by simp [Ideal.ofBits, Ideal.ieee]
  have hpow : Ideal.ofBits .f32 0x33000000#32 = (((2 : ℝ) ^ (-25 : ℤ) : ℝ) : EReal) := by
    rw [show (0x33000000#32 : BitVec 32) = BitVec.ofNat 32 (102 * 8388608 + 0 * 8192) from rfl, ieee_word 102 0 (by norm_num) (by norm_num) (by norm_num)]
    congr 1; norm_num
  simp only [c1, c2, c3, c4, hs, hf0]
  rw [hone, hneg, htop, hbot, hpow]
  have hsg : (if n / 32768 % 2 = 0 then ((1 : ℝ) : EReal) else ((-1 : ℝ) : EReal)) = ((sgn n : ℝ) : EReal) := by
    unfold sgn; split <;> rfl
  rw [hsg]
  by_cases h1 : n / 1024 % 32 = 31
  · rw [if_pos h1, if_pos h1]
  · rw [if_neg h1, if_neg h1]
    have := hmax ⟨n / 1024 % 32, hE⟩ h1
    dsimp only at this
    rw [this]
    have hmant : ((if n / 1024 % 32 = 0 then BitVec.ofNat 32 (n / 2 ^ 0 % 2 ^ 10 * 2 ^ 0) else BitVec.ofNat 32 (n % 1024 + 1024)).toInt)
        = ((if n / 1024 % 32 = 0 then n % 1024 else n % 1024 + 1024 : ℕ) : ℤ) := by
      split
      · rw [toInt_small _ (by norm_num; omega)]; norm_num
      · rw [toInt_small _ (by omega)]
    rw [hmant]
    rw [← EReal.coe_mul, ← EReal.coe_mul, ← EReal.coe_mul]
    congr 2
    unfold val
    rw [sub_eq_add_neg, zpow_add₀ (by norm_num), zpow_natCast]
    push_cast
    rfl

end

/-- The value with the difference from itself added, as both programs add it: the two decodings agree. -/
theorem decode_eq (y : BitVec 16) : fk (y.setWidth 32) + (fk (y.setWidth 32) - fk (y.setWidth 32)) = fr' (y.setWidth 32) + (fr' (y.setWidth 32) - fr' (y.setWidth 32)) := by
  have e : y.setWidth 32 = BitVec.ofNat 32 y.toNat := by
    apply BitVec.eq_of_toNat_eq; rw [BitVec.toNat_setWidth, BitVec.toNat_ofNat]
  rw [e, fk_eq _ y.isLt, fr_eq _ y.isLt]
  split
  · unfold sgn
    split <;> split <;> simp
  · rfl

end Cert.Decode

end
-- ==== Proof.KScale.lean ====
/-
  The kernel's scales over the extended reals: which half-precision pattern each lane of the gathered words holds, and what the
  expansion over the columns makes of it.
-/
module

public import proofs.«01_k».proof.Proof.Range
public import proofs.«01_k».proof.Proof.Decode
public import Idealize.ShloMosaic.Lib.Pointwise
public import Idealize.ShloMosaic.Lib.BitcastPair

@[expose] public section

set_option maxRecDepth 16384

noncomputable section

namespace Cert.Kernel.Value

open Idealize.ShloMosaic Idealize.ShloMosaic.TcCoe Cert.Kernel Cert.Kernel.Gen Cert.Kernel.Spec

/-- Two neighbouring scale patterns of vocabulary entry `N`, as one word. -/
def word (scales : IVec S88x32000 16) (k N : ℕ) : BitVec 32 := (rd2 scales (2 * k + 1) N : BitVec 16) ++ (rd2 scales (2 * k) N : BitVec 16)

theorem pair_word (x : IVec S88x128 16) (k : Fin 44) (r : Fin 128) :
    bitcast S44x128 32 x bitcasts_S88x128_w16_S44x128_w32 (ix2 k r) =
      x (ix2 ⟨2 * k + 1, by omega⟩ r) ++ x (ix2 ⟨2 * k, by omega⟩ r) := by
  rw [bitcast_16_32]
  congr 1 <;> refine congrArg x ?_ <;> funext a <;> apply Fin.ext <;>
    match a with
    | ⟨0, _⟩ => exact Shape.Bitcasts.srcIdx_row _ _ _ _ _ rfl
    | ⟨1, _⟩ => exact Shape.Bitcasts.srcIdx_other _ _ _ _ _ (show ¬ (1 + 2 = 2) from by decide)

theorem tbuf_apply (x : IVec S88x128 16) (r : Fin 128) (m : Fin 128) (hm : (m : ℕ) % 64 < 44) :
    k0_pay1 (F := Ideal) x (ix2 r m) = x (ix2 ⟨2 * (m % 64) + 1, by omega⟩ r) ++ x (ix2 ⟨2 * (m % 64), by omega⟩ r) := by
  pointwise [k0_pay1]
  by_cases h : (m : ℕ) < 44
  · rw [dif_pos h, pair_word]
    simp only [show (m : ℕ) % 64 = m by omega]
  · rw [dif_neg h, dif_neg (by omega), dif_pos (by omega), pair_word]
    simp only [show (m : ℕ) % 64 = m - 44 - 20 by omega]

theorem SC_eq (scales : Vec Ideal S88x32000 .i16) (p g l : ℕ) (hl : l < 128) (hk : l % 64 < 44) (hp : p < 2) (hg : g < 8000) :
    SC scales p g l = word scales (l % 64) (4 * g + 2 * p + if l < 64 then 0 else 1) := by
  have hlt : 4 * (g % 32) + 2 * p + (if l < 64 then 0 else 1) < 128 := by split <;> omega
  unfold SC TBUF
  rw [rd2_ix _ hlt hl, tbuf_apply _ _ _ hk]
  unfold word
  have e : 128 * (g / 32) + (4 * (g % 32) + 2 * p + if l < 64 then 0 else 1) = 4 * g + 2 * p + if l < 64 then 0 else 1 := by omega
  exact congrArg₂ (fun (a b : BitVec 16) => a ++ b) (congrArg (rd2 scales (2 * (l % 64) + 1)) e) (congrArg (rd2 scales (2 * (l % 64))) e)

/-- The shift of token `t` is eight times the place of its vocabulary entry in a group of four. -/
theorem SH_eq (ids : Vec Ideal S4x2048 .i32) (t l : ℕ) (ht : t < 8192) (hl : l < 128) :
    SH ids t l = BitVec.ofNat 32 (8 * ((rd2 ids (t / 2048) (t % 2048) : BitVec 32).toNat % 4)) := by
  have key : ∀ (x : Vec Ideal S1x128 .i32) (r m : Fin 128), k0_pay41 (F := Ideal) x (ix2 r m) =
      BitVec.ofNat 32 (8 * ((x (ix2 0 r) : BitVec 32).toNat % 4)) := fun x r m => by
    pointwise [k0_pay41]
    generalize (x (ix2 0 r) : BitVec 32) = w
    have h3 : IntOp.andi w 3#32 = BitVec.ofNat 32 (w.toNat % 4) := by
      apply BitVec.eq_of_toNat_eq
      show (w &&& 3#32).toNat = _
      rw [BitVec.toNat_and, BitVec.toNat_ofNat, BitVec.toNat_ofNat, show (3 % 2 ^ 32 : ℕ) = 2 ^ 2 - 1 from rfl, Nat.and_two_pow_sub_one_eq_mod]
      omega
    rw [h3]
    have h4 : w.toNat % 4 < 4 := Nat.mod_lt _ (by decide)
    generalize w.toNat % 4 = j at h4
    interval_cases j <;> decide
  unfold SH
  rw [rd2_ix _ (Nat.mod_lt t (by decide)) hl, key]
  have e : rowOf (F := Ideal) ids (t / 128) (ix2 0 ⟨t % 128, Nat.mod_lt t (by decide)⟩) = rd2 ids (t / 2048) (t % 2048) := by
    show rd2 ids (t / 128 / 16) (128 * (t / 128 % 16) + t % 128) = _
    exact congrArg₂ (rd2 ids) (by omega) (by omega)
  rw [e]

theorem lane_lt : ∀ m : Fin 128, IntOp.cmpi .slt (BitVec.ofNat 32 m) 64#32 = if (m : ℕ) < 64 then 1#1 else 0#1 := by decide +kernel

/-- The pattern each lane takes: from its own half of the row or the other, by the place in the group of four. -/
theorem pay8_apply (s x y : Vec Ideal S8x128 .i32) (r : Fin 8) (m : Fin 128) (j : ℕ) (hj : j < 4) (w : ℕ → BitVec 32)
    (hs : ∀ l : Fin 128, s (ix2 r l) = BitVec.ofNat 32 (8 * j))
    (hx : ∀ l : Fin 128, (l : ℕ) % 64 = m % 64 → x (ix2 r l) = w (if (l : ℕ) < 64 then 0 else 1))
    (hy : ∀ l : Fin 128, (l : ℕ) % 64 = m % 64 → y (ix2 r l) = w (2 + if (l : ℕ) < 64 then 0 else 1)) :
    k0_pay8 (F := Ideal) k0_pay47 s x y (ix2 r m) =
      IntOp.andi (if (m : ℕ) < 64 then w j else IntOp.shrsi .vector (w j) 16#32) 65535#32 := by
  pointwise [k0_pay8, k0_pay47]
  have hm := m.isLt
  have e : (⟨((m : ℕ) + 128 - 64) % 128, Nat.mod_lt _ (by decide)⟩ : Fin 128).val % 64 = m % 64 := by show ((m : ℕ) + 128 - 64) % 128 % 64 = _; omega
  simp only [hs, lane_lt, hx m rfl, hy m rfl, hx _ e, hy _ e]
  unfold Scalar.select
  by_cases h : (m : ℕ) < 64
  · have h' : ¬ ((m : ℕ) + 128 - 64) % 128 < 64 := by omega
    simp only [h, h', if_true, if_false]
    interval_cases j <;> simp (decide := true) only [if_true, if_false]
  · have h' : ((m : ℕ) + 128 - 64) % 128 < 64 := by omega
    simp only [h, h', if_true, if_false]
    interval_cases j <;> simp (decide := true) only [if_true, if_false]

theorem low_half (a b : BitVec 16) : IntOp.andi (a ++ b) 65535#32 = b.setWidth 32 := by
  apply BitVec.eq_of_getLsbD_eq
  intro i hi
  show (a ++ b &&& 65535#32).getLsbD i = _
  have : ∀ i : Fin 32, (65535#32).getLsbD i = decide ((i : ℕ) < 16) := by decide
  rw [BitVec.getLsbD_and, BitVec.getLsbD_append, BitVec.getLsbD_setWidth, this ⟨i, hi⟩]
  by_cases h : i < 16
  · simp [h, hi]
  · simp [h, BitVec.getLsbD_of_ge b i (by omega)]

theorem high_half (a b : BitVec 16) : IntOp.andi (IntOp.shrsi .vector (a ++ b) 16#32) 65535#32 = a.setWidth 32 := by
  apply BitVec.eq_of_getLsbD_eq
  intro i hi
  have e : IntOp.shrsi .vector (a ++ b) 16#32 = (a ++ b).sshiftRight 16 := rfl
  rw [e]
  show ((a ++ b).sshiftRight 16 &&& 65535#32).getLsbD i = _
  have : ∀ i : Fin 32, (65535#32).getLsbD i = decide ((i : ℕ) < 16) := by decide
  rw [BitVec.getLsbD_and, BitVec.getLsbD_sshiftRight, BitVec.getLsbD_append, BitVec.getLsbD_setWidth, this ⟨i, hi⟩]
  by_cases h : i < 16
  · simp [h, hi, show 16 + i < 32 by omega]
  · simp [h, BitVec.getLsbD_of_ge a i (by omega)]

/-- The decoding of a tile of patterns, its constants any words. -/
theorem pay22_shape (w : IVec S8x128 32) (k1 k2 k3 k4 k5 k6 k7 k8 k9 k10 k11 k12 : BitVec 32) (j : Fin 8) (k : Fin 128) :
    (let mag := shli (andi w (broadcast S8x128 k1)) (broadcast S8x128 k2)
     let f : FVec Ideal S8x128 .f32 := select (cmpi .eq (andi w (broadcast S8x128 k3)) (broadcast S8x128 k4))
        (subf (bitcastToFloat .f32 (addi mag (broadcast S8x128 k5))) (broadcast S8x128 (FloatOps.ofBits .f32 k6)))
        (bitcastToFloat .f32 (addi mag (select (cmpi .eq (andi w (broadcast S8x128 k3)) (broadcast S8x128 k7)) (broadcast S8x128 k8) (broadcast S8x128 k9))))
     select (cmpi .ne (andi w (broadcast S8x128 k10)) (broadcast S8x128 k11)) (subf (broadcast S8x128 (FloatOps.ofBits .f32 k12)) f) f) (ix2 j k) =
    (let mag := IntOp.shli .vector (IntOp.andi (w (ix2 j k)) k1) k2
     let e := IntOp.andi (w (ix2 j k)) k3
     let f0 : EReal := Scalar.select (IntOp.cmpi .eq e k4) (Ideal.ofBits .f32 (IntOp.addi mag k5) - Ideal.ofBits .f32 k6)
        (Ideal.ofBits .f32 (IntOp.addi mag (Scalar.select (IntOp.cmpi .eq e k7) k8 k9)))
     Scalar.select (IntOp.cmpi .ne (IntOp.andi (w (ix2 j k)) k10) k11) (Ideal.ofBits .f32 k12 - f0) f0) := rfl

theorem pay22_apply (w : IVec S8x128 32) (j : Fin 8) (k : Fin 128) :
    k0_pay22 (F := Ideal) w (shli (andi w (broadcast S8x128 32767#32)) (broadcast S8x128 13#32)) (andi w (broadcast S8x128 31744#32))
      (cmpi .eq (andi w (broadcast S8x128 31744#32)) (broadcast S8x128 31744#32)) k0_pay12 k0_pay13 (ix2 j k) = Cert.Decode.fk (w (ix2 j k)) := by
  rw [k0_pay22, k0_pay12, k0_pay13, Cert.Decode.fk]
  exact pay22_shape w 32767#32 13#32 31744#32 0#32 947912704#32 947912704#32 31744#32 1879048192#32 939524096#32 32768#32 0#32 0#32 j k

theorem pay24_apply (v : IVec S8x128 1) (s x y : Vec Ideal S8x128 .i32) (r : Fin 8) (m : Fin 128) :
    k0_pay24 (F := Ideal) (k0_pay8 (F := Ideal) v s x y) (k0_pay9 (F := Ideal) v s x y) (k0_pay10 (F := Ideal) v s x y)
      (k0_pay11 (F := Ideal) v s x y) k0_pay12 k0_pay13 (ix2 r m) = Cert.Decode.fk (k0_pay8 (F := Ideal) v s x y (ix2 r m)) := by
  unfold k0_pay24 k0_pay9 k0_pay11 k0_pay10
  rw [shapeCast_id]
  generalize k0_pay8 (F := Ideal) v s x y = w
  exact pay22_apply w _ _

theorem pay25_apply (v : IVec S8x128 1) (s x y : Vec Ideal S8x128 .i32) (r : Fin 8) (m : Fin 128) :
    k0_pay25 (F := Ideal) (k0_pay8 (F := Ideal) v s x y) (k0_pay9 (F := Ideal) v s x y) (k0_pay10 (F := Ideal) v s x y)
      (k0_pay11 (F := Ideal) v s x y) k0_pay12 k0_pay13 (ix2 r m) =
      Cert.Decode.fk (k0_pay8 (F := Ideal) v s x y (ix2 r m)) - Cert.Decode.fk (k0_pay8 (F := Ideal) v s x y (ix2 r m)) := by
  unfold k0_pay25 k0_pay9 k0_pay11 k0_pay10
  rw [shapeCast_id]
  generalize k0_pay8 (F := Ideal) v s x y = w
  exact congrArg₂ (fun a b : EReal => a - b) (pay22_apply w _ _) (pay22_apply w _ _)

section Left
variable (ids : Vec Ideal S4x2048 .i32) (scales : Vec Ideal S88x32000 .i16) (h : ∀ i, (ids i).toNat < 32000)

/-- The vocabulary entry of token `t`. -/
def voc (t : ℕ) : ℕ := (rd2 ids (t / 2048) (t % 2048) : BitVec 32).toNat

include h in
theorem voc_lt (t : ℕ) : voc ids t < 32000 := h _

/-- The pattern lane `m` of token `t` decodes. -/
def lane16 (t m : ℕ) : BitVec 16 := rd2 scales (2 * (m % 64) + m / 64) (voc ids t)

include h in
theorem picked (t m : ℕ) (ht : t < 8192) (hm : m < 128) (hk : m % 64 < 44) :
    k0_pay8 (F := Ideal) k0_pay47 (SHB ids (8 * (t / 8)) 1) (SCG ids scales 0 (8 * (t / 8))) (SCG ids scales 1 (8 * (t / 8)))
      (ix2 ⟨t % 8, Nat.mod_lt t (by decide)⟩ ⟨m, hm⟩) = (lane16 ids scales t m).setWidth 32 := by
  have hv := voc_lt ids h t
  have et : 8 * (t / 8) + 1 * (t % 8) = t := by omega
  have et' : 8 * (t / 8) + t % 8 = t := by omega
  have plane : ∀ (p : ℕ), p < 2 → ∀ l : Fin 128, (l : ℕ) % 64 = m % 64 →
      SCG ids scales p (8 * (t / 8)) (ix2 ⟨t % 8, Nat.mod_lt t (by decide)⟩ l) =
        word scales (m % 64) (4 * (voc ids t / 4) + (2 * p + if (l : ℕ) < 64 then 0 else 1)) := fun p hp l hl => by
    show SC scales p (GG ids (8 * (t / 8) + t % 8)) l = _
    rw [et', GG_eq ids t h]
    show SC scales p (voc ids t / 4) l = _
    rw [SC_eq scales p _ l l.isLt (by omega) hp (by omega), hl, Nat.add_assoc]
  rw [pay8_apply _ _ _ _ ⟨m, hm⟩ (voc ids t % 4) (Nat.mod_lt _ (by decide)) (fun q => word scales (m % 64) (4 * (voc ids t / 4) + q))
    (fun l => by
      show SH ids (8 * (t / 8) + 1 * (t % 8)) l = _
      rw [et, SH_eq ids t l ht l.isLt]
      rfl)
    (fun l hl => by rw [plane 0 (by decide) l hl, Nat.mul_zero, Nat.zero_add])
    (fun l hl => plane 1 (by decide) l hl)]
  have en : 4 * (voc ids t / 4) + voc ids t % 4 = voc ids t := by omega
  dsimp only
  rw [en]
  unfold word lane16
  by_cases hh : m < 64
  · rw [if_pos hh, low_half, show 2 * (m % 64) + m / 64 = 2 * (m % 64) by omega]
  · rw [if_neg hh, high_half, show 2 * (m % 64) + m / 64 = 2 * (m % 64) + 1 by omega]

/-- The value lane `m` of token `t` decodes to. -/
def val (t m : ℕ) : EReal := Cert.Decode.fk ((lane16 ids scales t m).setWidth 32)

include h in
theorem LHS_high (t m : ℕ) (ht : t < 8192) (hm : m < 128) (hk : m % 64 < 44) : LHS ids scales t m = val ids scales t m := by
  unfold LHS val
  dsimp only
  rw [if_pos hm, rd2_ix _ (Nat.mod_lt t (by decide)) hm, ← picked ids scales h t m ht hm hk]
  rw [pay24_apply]

include h in
theorem LHS_low (t m : ℕ) (ht : t < 8192) (hm : m < 128) (hk : m % 64 < 44) :
    LHS ids scales t (m + 128) = val ids scales t m - val ids scales t m := by
  unfold LHS val
  dsimp only
  rw [if_neg (by omega), Nat.add_sub_cancel, rd2_ix _ (Nat.mod_lt t (by decide)) hm, ← picked ids scales h t m ht hm hk]
  rw [pay25_apply]

end Left

section Right

theorem exp_row : ∀ a : Fin 256, k0_pay42 (ix2 a 0) =
    if (a % 128 % 64 : ℕ) < 44 then BitVec.ofNat 32 (2 * (a % 128 % 64) + a % 128 / 64) else 4294967295#32 := by decide +kernel

/-- The floored quotient of a column by thirty-two. -/
def colq (c : BitVec 32) : BitVec 32 :=
  Scalar.select
    (IntOp.andi
      (IntOp.cmpi .ne (IntOp.subi (BitVec.setWidth 32 (IntOp.cmpi .sgt c 0#32)) (BitVec.setWidth 32 (IntOp.cmpi .slt c 0#32)))
        (Scalar.subi (Scalar.extui (Scalar.cmpi .sgt 32#32 0#32)) (Scalar.extui (Scalar.cmpi .slt 32#32 0#32))))
      (IntOp.cmpi .ne (IntOp.remsi .vector c 32#32) 0#32))
    (IntOp.subi (IntOp.divsi .vector c 32#32) 1#32) (IntOp.divsi .vector c 32#32)

theorem colq_eq : ∀ c : Fin 256, colq (BitVec.ofNat 32 c) = BitVec.ofNat 32 (c / 32) := by decide +kernel

theorem tile_eq : ∀ T : Fin 11, Scalar.muli (Scf.iv 0#32 1#32 T) 8#32 = BitVec.ofNat 32 (8 * T) := by decide +kernel

/-- The rows that reach column `c`. -/
def hits (a c : ℕ) : Prop := a % 128 % 64 < 44 ∧ 2 * (a % 128 % 64) + a % 128 / 64 = c / 32

instance (a c : ℕ) : Decidable (hits a c) := inferInstanceAs (Decidable (_ ∧ _))

theorem EXP_eq (a c : ℕ) (ha : a < 256) (hc : c < 2816) :
    EXP (F := Ideal) a c = if hits a c then Ideal.ofBits .f32 0x3D800000#32 else (0 : EReal) := by
  have key : ∀ (a c : Fin 256) (k : Fin k0_t2_loop.trips),
      k0_pay46 (F := Ideal) k0_pay42 (iota .tc S256x256 32 [1] iota_S256x256_d1_w32) 32#32 k0_pay43 k0_pay44 k0_pay45 k (ix2 a c) =
        Scalar.select (IntOp.cmpi .eq (k0_pay42 (ix2 a 0)) (IntOp.addi (colq (BitVec.ofNat 32 c)) (Scalar.muli (Scf.iv 0#32 1#32 k) 8#32)))
          (Ideal.ofBits .f32 0x3D800000#32) (0 : EReal) := fun a c k => by
    pointwise [k0_pay46, k0_pay43, k0_pay44, k0_pay45]
    rfl
  unfold EXP
  rw [rd2_ix _ ha (Nat.mod_lt c (by decide)), key, exp_row, colq_eq]
  have eT : Scalar.muli (Scf.iv 0#32 1#32 (⟨c / 256 % 11, t2_lt (c / 256)⟩ : Fin k0_t2_loop.trips)) 8#32 = BitVec.ofNat 32 (8 * (c / 256)) := by
    rw [← Nat.mod_eq_of_lt (show c / 256 < 11 by omega)]
    simp only [Nat.mod_mod]
    exact tile_eq ⟨c / 256 % 11, Nat.mod_lt _ (by decide)⟩
  have eA : IntOp.addi (BitVec.ofNat 32 (c % 256 / 32)) (BitVec.ofNat 32 (8 * (c / 256))) = BitVec.ofNat 32 (c / 32) := by
    show BitVec.ofNat 32 _ + BitVec.ofNat 32 _ = _
    rw [← BitVec.ofNat_add, show c % 256 / 32 + 8 * (c / 256) = c / 32 by omega]
  dsimp only
  rw [eT, eA, Cert.Decode.select_eq]
  unfold hits
  by_cases hk : a % 128 % 64 < 44
  · simp only [hk, if_true, true_and, Cert.Decode.ofNat_inj (2 * (a % 128 % 64) + a % 128 / 64) (c / 32) (by omega) (by omega)]
  · simp only [hk, if_false, false_and]
    rw [if_neg]
    intro e
    have := congrArg BitVec.toNat e
    rw [BitVec.toNat_ofNat, BitVec.toNat_ofNat] at this
    omega

end Right

section Expanded
variable (ids : Vec Ideal S4x2048 .i32) (scales : Vec Ideal S88x32000 .i16) (h : ∀ i, (ids i).toNat < 32000)

/-- The pattern of token `t` at group `g`. -/
def gval (t g : ℕ) : EReal := Cert.Decode.fk ((rd2 scales g (voc ids t) : BitVec 16).setWidth 32)

theorem sixteenth : Ideal.ofBits .f32 0x3D800000#32 = ((1 / 16 : ℝ) : EReal) := by
  have := Cert.Decode.ieee_word 123 0 (by norm_num) (by norm_num) (by norm_num)
  rw [show (0x3D800000#32 : BitVec 32) = BitVec.ofNat 32 (123 * 8388608 + 0 * 8192) from by decide, this]
  norm_num

/-- The first row that reaches group `g`. -/
def spot (g : ℕ) : ℕ := 64 * (g % 2) + g / 2

theorem spot_lt (g : ℕ) (hg : g < 88) : spot g < 128 ∧ spot g % 64 < 44 := by
  unfold spot
  rcases Nat.mod_two_eq_zero_or_one g with e | e <;> rw [e] <;> omega

theorem spot_iff (g m : ℕ) (hg : g < 88) (hm : m < 128) : (m % 128 % 64 < 44 ∧ 2 * (m % 128 % 64) + m % 128 / 64 = g) ↔ m = spot g := by
  rw [Nat.mod_eq_of_lt hm]
  unfold spot
  rcases Nat.mod_two_eq_zero_or_one g with e | e <;> rw [e] <;> by_cases h : m < 64 <;> omega

/-- A sum against the spreading matrix has two entries. -/
theorem sum_hits (f : ℕ → EReal) (c : ℕ) (hc : c < 2816) :
    ∑ m : Fin 256, f m * (if hits m c then ((1 / 16 : ℝ) : EReal) else 0) =
      f (spot (c / 32)) * ((1 / 16 : ℝ) : EReal) + f (spot (c / 32) + 128) * ((1 / 16 : ℝ) : EReal) := by
  have one : ∀ (g : ℕ → ℕ), (∀ m, g m % 128 = m % 128) → ∑ m : Fin 128, f (g m) * (if hits (g m) c then ((1 / 16 : ℝ) : EReal) else 0) =
      f (g (spot (c / 32))) * ((1 / 16 : ℝ) : EReal) := fun g hg => by
    have hg88 : c / 32 < 88 := by omega
    rw [Finset.sum_eq_single (⟨spot (c / 32), (spot_lt _ hg88).1⟩ : Fin 128)]
    · rw [if_pos]
      unfold hits
      rw [hg]
      exact (spot_iff _ _ hg88 (spot_lt _ hg88).1).2 rfl
    · intro m _ hm
      rw [if_neg, mul_zero]
      unfold hits
      rw [hg]
      exact fun e => hm (Fin.ext ((spot_iff _ _ hg88 m.isLt).1 e))
    · exact fun hx => absurd (Finset.mem_univ _) hx
  have e := Fin.sum_univ_add (fun m : Fin (128 + 128) => f m * (if hits m c then ((1 / 16 : ℝ) : EReal) else 0))
  refine e.trans (congrArg₂ (· + ·) (one (fun m => m) fun _ => rfl) ?_)
  refine Eq.trans ?_ (one (fun m => m + 128) fun m => by omega)
  refine Finset.sum_congr rfl fun m _ => ?_
  simp only [Fin.val_natAdd, Nat.add_comm]

include h in
/-- The scales spread over the columns. -/
theorem SCB_eq (t T x : ℕ) (ht : t < 8192) (hT : T < 11) (hx : x < 256) :
    rd2 (SCB (F := Ideal) ids scales (t / 256) T) (t % 256) x =
      gval ids scales t ((256 * T + x) / 32) * ((1 / 16 : ℝ) : EReal)
        + (gval ids scales t ((256 * T + x) / 32) - gval ids scales t ((256 * T + x) / 32)) * ((1 / 16 : ℝ) : EReal) := by
  have key : ∀ (a : Vec Ideal S256x256 .f32) (b : Vec Ideal S256x256 .bf16) (i j : Fin 256),
      k0_pay56 (F := Ideal) a b (ix2 i j) = ∑ m, (a (ix2 i m) : EReal) * b (ix2 m j) := fun a b i j => by
    pointwise [k0_pay56]
  unfold SCB
  rw [rd2_ix _ (Nat.mod_lt t (by decide)) hx, key]
  have et : 256 * (t / 256) + t % 256 = t := by omega
  have hc : 256 * T + x < 2816 := by omega
  obtain ⟨c, ec⟩ : ∃ c, 256 * T + x = c := ⟨_, rfl⟩
  rw [ec] at hc ⊢
  have hs := spot_lt (c / 32) (by omega)
  have hv : val ids scales t (spot (c / 32)) = gval ids scales t (c / 32) := by
    have e := ((spot_iff (c / 32) (spot (c / 32)) (by omega) hs.1).2 rfl).2
    rw [Nat.mod_eq_of_lt hs.1] at e
    unfold val gval lane16
    rw [e]
  have hsum := sum_hits (LHS ids scales t) c hc
  rw [LHS_high ids scales h t _ ht hs.1 hs.2, LHS_low ids scales h t _ ht hs.1 hs.2, hv] at hsum
  refine Eq.trans (Finset.sum_congr rfl fun m _ => ?_) hsum
  refine congrArg₂ (fun a b : EReal => a * b) (congrArg (fun n => LHS ids scales n (m : ℕ)) et) ?_
  refine Eq.trans (congrArg (EXP (F := Ideal) (m : ℕ)) ec) ?_
  rw [EXP_eq _ _ m.isLt hc, sixteenth]

end Expanded

end Cert.Kernel.Value

end
-- ==== Proof.KCode.lean ====
/-
  The kernel's codes over the extended reals: the byte that each entry of the result is converted from, and the result's value.
-/
module

public import proofs.«01_k».proof.Proof.KScale

@[expose] public section

set_option maxRecDepth 16384

noncomputable section

namespace Cert.Kernel.Value

open Idealize.ShloMosaic Idealize.ShloMosaic.TcCoe Cert.Kernel Cert.Kernel.Gen Cert.Kernel.Spec

/-- A word's bytes, from the lowest. -/
def byte (w : BitVec 32) (k : ℕ) : BitVec 8 := w.extractLsb' (8 * k) 8

/-- Four bytes side by side, read back. -/
theorem quad_byte (v : Fin 4 → BitVec 8) (k : ℕ) (hk : k < 4) : byte (v 3 ++ v 2 ++ v 1 ++ v 0) k = v ⟨k, hk⟩ := by
  apply BitVec.eq_of_getLsbD_eq
  intro i hi
  rw [byte, BitVec.getLsbD_extractLsb', decide_eq_true hi, Bool.true_and]
  interval_cases k <;> simp only [BitVec.getLsbD_append] <;> split_ifs <;>
    first | omega | exact congrArg (BitVec.getLsbD _) (by omega)

/-- A word shifted down by whole bytes. -/
theorem shift_byte (w : BitVec 32) (j : ℕ) (hj : j < 4) : (IntOp.shrui .vector w (BitVec.ofNat 32 (8 * j))).setWidth 8 = byte w j := by
  have key : ∀ j : Fin 4, IntOp.shrui .vector w (BitVec.ofNat 32 (8 * j)) = w >>> (8 * (j : ℕ)) := fun j => by fin_cases j <;> rfl
  rw [key ⟨j, hj⟩]
  apply BitVec.eq_of_getLsbD_eq
  intro i hi
  simp [byte, BitVec.getLsbD_ushiftRight, hi]

/-- Words read as four rows of bytes. -/
theorem rows_bytes (x : IVec S8x128 32) (r : Fin 32) (m : Fin 128) :
    bitcast S32x128 8 x bitcasts_S8x128_w32_S32x128_w8 (ix2 r m) = byte (x (ix2 ⟨r / 4, by omega⟩ m)) (r % 4) := by
  apply BitVec.eq_of_getLsbD_eq
  intro q hq
  rw [bitcast_getLsbD x _ _ q hq (by decide), byte, BitVec.getLsbD_extractLsb', decide_eq_true hq, Bool.true_and]
  have er : S32x128.row (ix2 r m) = r := rfl
  have ej : ∀ hh, bitcasts_S8x128_w32_S32x128_w8.srcIdx (ix2 r m) ((S32x128.row (ix2 r m) * 8 + q) / 32) hh = ix2 ⟨r / 4, by omega⟩ m := fun hh => by
    funext a
    apply Fin.ext
    match a with
    | ⟨0, _⟩ => exact (Shape.Bitcasts.srcIdx_row _ _ _ _ _ rfl).trans (by rw [er]; show ((r : ℕ) * 8 + q) / 32 = r / 4; omega)
    | ⟨1, _⟩ => exact Shape.Bitcasts.srcIdx_other _ _ _ _ _ (show ¬ (1 + 2 = 2) from by decide)
  rw [ej, er, show ((r : ℕ) * 8 + q) % 32 = 8 * (r % 4) + q by omega]

/-- A byte of a masked, shifted word. -/
theorem masked (y : BitVec 32) (s k : ℕ) (hs : s = 0 ∨ s = 4) (hk : k < 4) :
    byte (IntOp.andi (IntOp.shli .vector (IntOp.xori y 2290649224#32) (BitVec.ofNat 32 s)) 4042322160#32) k =
      ((byte y k ^^^ 136#8) <<< s) &&& 240#8 := by
  have e0 : IntOp.shli .vector (IntOp.xori y 2290649224#32) (BitVec.ofNat 32 0) = (y ^^^ 2290649224#32) <<< 0 := rfl
  have e4 : IntOp.shli .vector (IntOp.xori y 2290649224#32) (BitVec.ofNat 32 4) = (y ^^^ 2290649224#32) <<< 4 := rfl
  rcases hs with rfl | rfl
  · rw [e0]
    show byte ((y ^^^ 2290649224#32) <<< 0 &&& 4042322160#32) k = _
    apply BitVec.eq_of_getLsbD_eq
    intro i hi
    interval_cases k <;> interval_cases i <;> simp [byte]
  · rw [e4]
    show byte ((y ^^^ 2290649224#32) <<< 4 &&& 4042322160#32) k = _
    apply BitVec.eq_of_getLsbD_eq
    intro i hi
    interval_cases k <;> interval_cases i <;> simp [byte]

/-- The signed byte is sixteen times the code less eight. -/
theorem signed_low : ∀ b : BitVec 8, (((b ^^^ 136#8) <<< 4) &&& 240#8).toInt = 16 * (((b.toNat % 16 : ℕ) : ℤ) - 8) := by decide +kernel

theorem signed_high : ∀ b : BitVec 8, (((b ^^^ 136#8) <<< 0) &&& 240#8).toInt = 16 * (((b.toNat / 16 : ℕ) : ℤ) - 8) := by decide +kernel

/-- The lane a column's code is taken from. -/
def lanew (v : BitVec 32) : BitVec 32 := Scalar.select (IntOp.cmpi .slt v 0#32) (IntOp.addi v 128#32) v

theorem lane0_eq : ∀ (a : Fin 8) (m : Fin 128), (lanew (lane0 (ix2 a m))).toNat % 128 = m / 2 := by decide +kernel

theorem lane1_eq : ∀ (a : Fin 8) (m : Fin 128), (lanew (lane1 (ix2 a m))).toNat % 128 = 64 + m / 2 := by decide +kernel

/-- How far a column's code is shifted up in its byte. -/
def up (m : ℕ) : ℕ := if m % 2 = 0 then 4 else 0

theorem nib_eq : ∀ (a : Fin 8) (m : Fin 128), nib (ix2 a m) = BitVec.ofNat 32 (up m) := by decide +kernel

/-- The four words of a lane. -/
def four (c d e : IVec S8x128 32) (f g : Vec Ideal S8x128 .i32) (j : S8x128.Idx) : Fin 4 → BitVec 32 :=
  ![c j, d j, e j, IntOp.shrui .vector (f j) (g j)]

theorem pay19_apply (lane nb c d e : IVec S8x128 32) (f g : Vec Ideal S8x128 .i32) (r : Fin 8) (m l : Fin 128)
    (hl : (lanew (lane (ix2 r m))).toNat % 128 = l) :
    k0_pay19 (F := Ideal) lane nb c d e f g (ix2 r m) =
      IntOp.shli .vector (IntOp.xori ((four c d e f g (ix2 r l) 3).setWidth 8 ++ (four c d e f g (ix2 r l) 2).setWidth 8
        ++ (four c d e f g (ix2 r l) 1).setWidth 8 ++ (four c d e f g (ix2 r l) 0).setWidth 8) 2290649224#32) (nb (ix2 r m)) := by
  have el : l = ⟨(lanew (lane (ix2 r m))).toNat % 128, Nat.mod_lt _ (by decide)⟩ := Fin.ext hl.symm
  rw [el]
  pointwise [k0_pay19, k0_pay17]
  rfl

theorem pay57_apply (a : IVec S8x128 32) (b : BitVec 32) (sc : Vec Ideal S32x128 .f32) (r : Fin 32) (m : Fin 128) :
    k0_pay57 (F := Ideal) a b sc (ix3 0 r m) =
      (((byte (IntOp.andi (a (ix2 ⟨r / 4, by omega⟩ m)) b) (r % 4)).toInt : ℝ) : EReal) * sc (ix2 r m) := by
  pointwise [k0_pay57]
  rw [rows_bytes]
  rfl

theorem pay18_eq (lane nb c d e : IVec S8x128 32) (f g : Vec Ideal S8x128 .i32) (sc : Vec Ideal S32x128 .f32) :
    k0_pay18 (F := Ideal) lane nb c d e f g sc = k0_pay57 (F := Ideal) (k0_pay19 (F := Ideal) lane nb c d e f g) 4042322160#32 sc := rfl

section Out
variable (ids : Vec Ideal S4x2048 .i32) (codes : Vec Ideal S8000x1408 .i32) (scales : Vec Ideal S88x32000 .i16) (h : ∀ i, (ids i).toNat < 32000)

/-- The code byte of token `t` at byte column `b`. -/
def code8 (t b : ℕ) : BitVec 8 := byte (rd2 codes (voc ids t / 4) b) (voc ids t % 4)

include h in
/-- One entry of thirty-two rows: the signed byte times the scale. -/
theorem entry (lane : IVec S8x128 32) (T t : ℕ) (ht : t < 8192) (m l : Fin 128) (sc : Vec Ideal S32x128 .f32)
    (hl : ∀ a, (lanew (lane (ix2 a m))).toNat % 128 = l) :
    k0_pay57 (F := Ideal) (k0_pay19 (F := Ideal) lane nib (k0_pay14 (F := Ideal) (CW ids codes T (32 * (t / 32))) (SHB ids (32 * (t / 32)) 4))
      (k0_pay15 (F := Ideal) (CW ids codes T (32 * (t / 32) + 1)) (SHB ids (32 * (t / 32) + 1) 4))
      (k0_pay16 (F := Ideal) (CW ids codes T (32 * (t / 32) + 2)) (SHB ids (32 * (t / 32) + 2) 4))
      (CW ids codes T (32 * (t / 32) + 3)) (SHB ids (32 * (t / 32) + 3) 4)) 4042322160#32 sc (ix3 0 (Fin.ofNat 32 t) m) =
      ((((((code8 ids codes t (128 * T + l) ^^^ 136#8) <<< up m) &&& 240#8).toInt : ℝ)) : EReal) * sc (ix2 (Fin.ofNat 32 t) m) := by
  have hk : ((Fin.ofNat 32 t : Fin 32) : ℕ) % 4 < 4 := Nat.mod_lt _ (by decide)
  rw [pay57_apply, pay19_apply _ _ _ _ _ _ _ _ _ l (hl _), nib_eq]
  refine congrArg (fun z : BitVec 8 => ((z.toInt : ℝ) : EReal) * sc (ix2 (Fin.ofNat 32 t) m)) ((masked _ _ _ (by unfold up; split <;> simp) hk).trans ?_)
  refine congrArg (fun b : BitVec 8 => ((b ^^^ 136#8) <<< up m) &&& 240#8) ((quad_byte (fun i => (four _ _ _ _ _ _ i).setWidth 8) _ hk).trans ?_)
  have e : ∀ (k : ℕ) (hk : k < 4) (a : Fin 8), four (k0_pay14 (F := Ideal) (CW ids codes T (32 * (t / 32))) (SHB ids (32 * (t / 32)) 4))
      (k0_pay15 (F := Ideal) (CW ids codes T (32 * (t / 32) + 1)) (SHB ids (32 * (t / 32) + 1) 4))
      (k0_pay16 (F := Ideal) (CW ids codes T (32 * (t / 32) + 2)) (SHB ids (32 * (t / 32) + 2) 4))
      (CW ids codes T (32 * (t / 32) + 3)) (SHB ids (32 * (t / 32) + 3) 4) (ix2 a l) ⟨k, hk⟩ =
      IntOp.shrui .vector (rd2 codes (GG ids (32 * (t / 32) + k + 4 * a)) (128 * T + l)) (SH ids (32 * (t / 32) + k + 4 * a) l) := fun k hk a => by
    interval_cases k <;> rfl
  refine (congrArg (BitVec.setWidth 8) (e _ hk _)).trans ?_
  have et : 32 * (t / 32) + t % 32 % 4 + 4 * (t % 32 / 4) = t := by omega
  refine (congrArg (fun n => (IntOp.shrui .vector (rd2 codes (GG ids n) (128 * T + l)) (SH ids n l)).setWidth 8) et).trans ?_
  rw [SH_eq ids t l ht l.isLt, GG_eq ids t h]
  exact shift_byte _ _ (Nat.mod_lt _ (by decide))

/-- The code of token `t` at column `c`. -/
def qcode (t c : ℕ) : ℕ := if c % 2 = 0 then (code8 ids codes t (c / 2)).toNat % 16 else (code8 ids codes t (c / 2)).toNat / 16

theorem signed (t b m c : ℕ) (hb : b = c / 2) (hm : m = c % 128) :
    (((code8 ids codes t b ^^^ 136#8) <<< up m) &&& 240#8).toInt = 16 * ((qcode ids codes t c : ℤ) - 8) := by
  subst hb hm
  unfold qcode up
  by_cases hc : c % 2 = 0
  · rw [if_pos hc, if_pos (by omega)]; exact signed_low _
  · rw [if_neg hc, if_neg (by omega)]; exact signed_high _

/-- The halves of a scale add up to it, a sixteenth of it sixteen times over. -/
theorem scaled (k : ℤ) (f : EReal) : (((16 * (k - 8) : ℤ) : ℝ) : EReal) * (f * ((1 / 16 : ℝ) : EReal) + (f - f) * ((1 / 16 : ℝ) : EReal)) =
    ((((k : ℝ) - 8 : ℝ)) : EReal) * (f + (f - f)) := by
  have e : f * ((1 / 16 : ℝ) : EReal) + (f - f) * ((1 / 16 : ℝ) : EReal) = (f + (f - f)) * ((1 / 16 : ℝ) : EReal) := by
    induction f with
    | bot =>
      rw [EReal.bot_sub, EReal.bot_mul_coe_of_pos (by norm_num), EReal.bot_add, EReal.bot_mul_coe_of_pos (by norm_num)]
    | top =>
      rw [show (⊤ - ⊤ : EReal) = ⊥ from rfl, EReal.bot_mul_coe_of_pos (by norm_num), EReal.add_bot, EReal.add_bot, EReal.bot_mul_coe_of_pos (by norm_num)]
    | coe x =>
      rw [← EReal.coe_sub, ← EReal.coe_mul, ← EReal.coe_mul, ← EReal.coe_add, ← EReal.coe_add, ← EReal.coe_mul]
      congr 1
      ring
  rw [e, mul_comm (f + (f - f)), ← mul_assoc, ← EReal.coe_mul]
  congr 2
  push_cast
  ring

include h in
/-- The kernel's result at row `t`, column `c`. -/
theorem OUT_eq (t c : ℕ) (ht : t < 8192) (hc : c < 2816) : OUT (F := Ideal) ids codes scales t c =
    ((((qcode ids codes t c : ℝ) - 8 : ℝ)) : EReal) * (gval ids scales t (c / 32) + (gval ids scales t (c / 32) - gval ids scales t (c / 32))) := by
  have er : 32 * (t % 256 / 32) + t % 32 = t % 256 := by omega
  have sc : ∀ (hh : ℕ), 128 * hh + c % 128 = c % 256 →
      SCU (F := Ideal) ids scales (t / 256) (c / 256) (t % 256 / 32) hh (ix2 (Fin.ofNat 32 t) (Fin.ofNat 128 c)) =
        gval ids scales t (c / 32) * ((1 / 16 : ℝ) : EReal) + (gval ids scales t (c / 32) - gval ids scales t (c / 32)) * ((1 / 16 : ℝ) : EReal) := fun hh e => by
    have := SCB_eq ids scales h t (c / 256) (c % 256) ht (by omega) (Nat.mod_lt _ (by decide))
    rw [show 256 * (c / 256) + c % 256 = c by omega] at this
    refine Eq.trans ?_ this
    show rd2 _ (32 * (t % 256 / 32) + t % 32) (128 * hh + c % 128) = _
    rw [er, e]
  rw [← show (((qcode ids codes t c : ℤ) : ℝ)) = (qcode ids codes t c : ℝ) by norm_cast, ← scaled]
  unfold OUT
  by_cases hlt : c % 256 < 128
  · rw [if_pos hlt]
    unfold OUT0
    rw [pay18_eq, entry ids codes h lane0 (c / 256) t ht (Fin.ofNat 128 c) ⟨c % 128 / 2, by omega⟩ _ (fun a => lane0_eq a _), sc 0 (by omega)]
    refine congrArg (fun z : ℤ => ((z : ℝ) : EReal) * _) (signed ids codes t _ _ c ?_ rfl)
    show 128 * (c / 256) + c % 128 / 2 = _
    omega
  · rw [if_neg hlt]
    unfold OUT1
    rw [entry ids codes h lane1 (c / 256) t ht (Fin.ofNat 128 c) ⟨64 + c % 128 / 2, by omega⟩ _ (fun a => lane1_eq a _), sc 1 (by omega)]
    refine congrArg (fun z : ℤ => ((z : ℝ) : EReal) * _) (signed ids codes t _ _ c ?_ rfl)
    show 128 * (c / 256) + (64 + c % 128 / 2) = _
    omega

end Out

end Cert.Kernel.Value

end
-- ==== Proof.RefVal.lean ====
/-
  The reference's result as a few named towers, and each entry of it.
-/
module

public import proofs.«01_k».proof.Proof.Gen.ReferenceIdeal.Run
public import proofs.«01_k».proof.Proof.Decode
public import Idealize.ShloMosaic.Lib.Pointwise
public import Idealize.ShloMosaic.Lib.ValueIdxCore

@[expose] public section

set_option maxRecDepth 16384

noncomputable section

namespace Cert.RefVal

open Idealize.ShloMosaic Idealize.ShloMosaic.TcCoe Cert.ReferenceIdeal Cert.ReferenceIdeal.Gen

/-- The rows to take: the token ids, a negative one counted from the end. -/
def take (ids : IVec S4x2048 32) : IVec S8192x1 32 :=
  broadcastInDim S8192x1 ![0] bcast_S8192_S8192x1_0
    (select (cmpi .slt (shapeCast S8192 ids shapeCasts_S4x2048_S8192) (broadcastInDim S8192 ![] bcast_S_S8192 (constantI S_ 32 0#32)))
      (addi (shapeCast S8192 ids shapeCasts_S4x2048_S8192) (broadcastInDim S8192 ![] bcast_S_S8192 (constantI S_ 32 32000#32)))
      (shapeCast S8192 ids shapeCasts_S4x2048_S8192))

/-- The codes of the tokens, one byte a word. -/
def codes8 (ids : IVec S4x2048 32) (codes : IVec S32000x1408 8) : IVec S8192x1408 32 :=
  extui 32 (Host.gather gather_S32000x1408_S8192x1_S8192x1408_1_0_n_n_0_1_11408 codes (take ids)) natLt_8_32

/-- The scales' patterns, one a word. -/
def scale16 (ids : IVec S4x2048 32) (scales : IVec S32000x88 16) : IVec S8192x88 32 :=
  extui 32 (Host.gather gather_S32000x88_S8192x1_S8192x88_1_0_n_n_0_1_188 scales (take ids)) natLt_16_32

/-- A word at every entry. -/
def all (v : BitVec 32) : IVec S8192x88 32 := broadcastInDim S8192x88 ![] bcast_S_S8192x88 (constantI S_ 32 v)

/-- A number at every entry. -/
def allF (v : BitVec 32) : FVec Ideal S8192x88 .f32 := broadcastInDim S8192x88 ![] bcast_S_S8192x88 (constant S_ .f32 v)

/-- The scales decoded. -/
def dec (s : IVec S8192x88 32) : FVec Ideal S8192x88 .f32 :=
  mulf (id (select (cmpi .ne (andi s (all 32768#32)) (all 0#32)) (allF 0xBF800000#32) (allF 0x3F800000#32)))
    (select (cmpi .eq (andi (Host.shrsi s (all 10#32)) (all 31#32)) (all 31#32))
      (id (select (cmpi .eq (andi s (all 1023#32)) (all 0#32)) (allF 0x7F800000#32) (allF 0x7FC00000#32)))
      (mulf (sitofp .f32 (select (cmpi .eq (andi (Host.shrsi s (all 10#32)) (all 31#32)) (all 0#32)) (andi s (all 1023#32)) (addi (andi s (all 1023#32)) (all 1024#32))))
        (mulf (sitofp .f32 (Host.shli (all 1#32) (maxsi (andi (Host.shrsi s (all 10#32)) (all 31#32)) (all 1#32)))) (allF 0x33000000#32))))

/-- The column's group, as the floored quotient of the column by sixteen. -/
def grp : IVec S1x1408 32 :=
  let i := broadcastInDim S1x1408 ![1] bcast_S1408_S1x1408_1 (iotaInDim S1408 32 0)
  let k : IVec S_ 32 := id (constantI S_ 32 16#32)
  select (andi (cmpi .ne (signi i) (broadcastInDim S1x1408 ![] bcast_S_S1x1408 (signi k)))
      (cmpi .ne (Host.remsi i (broadcastInDim S1x1408 ![] bcast_S_S1x1408 k)) (broadcastInDim S1x1408 ![] bcast_S_S1x1408 (constantI S_ 32 0#32))))
    (subi (Host.divsi i (broadcastInDim S1x1408 ![] bcast_S_S1x1408 k)) (broadcastInDim S1x1408 ![] bcast_S_S1x1408 (constantI S_ 32 1#32)))
    (Host.divsi i (broadcastInDim S1x1408 ![] bcast_S_S1x1408 k))

/-- One where the row is the column's group. -/
def hot : FVec Ideal S88x1408 .bf16 :=
  uitofp .bf16 (cmpi .eq (broadcastInDim S88x1408 ![0, 1] bcast_S1x1408_S88x1408_0_1 grp)
    (broadcastInDim S88x1408 ![0, 1] bcast_S88x1_S88x1408_0_1 (broadcastInDim S88x1 ![0] bcast_S88_S88x1_0 (iotaInDim S88 32 0))))

/-- The scales spread over the bytes. -/
def spread (d : FVec Ideal S8192x88 .f32) : FVec Ideal S8192x1408 .f32 :=
  addf (Host.dotGeneral dot_S8192x88_S88x1408_S8192x1408_1_0_0_1_n_n none (truncf .bf16 d bitsLt_bf16_f32) hot)
    (Host.dotGeneral dot_S8192x88_S88x1408_S8192x1408_1_0_0_1_n_n none
      (truncf .bf16 (subf d (extf .f32 (truncf .bf16 d bitsLt_bf16_f32) bitsLt_bf16_f32)) bitsLt_bf16_f32) hot)

/-- A half of the entries, from its codes: the code less eight, times the scale. -/
def half (q : IVec S8192x1408 32) (sc : FVec Ideal S8192x1408 .f32) : FVec Ideal S8192x1408 .bf16 :=
  truncf .bf16 (mulf (subf (sitofp .f32 q) (broadcastInDim S8192x1408 ![] bcast_S_S8192x1408 (constant S_ .f32 0x41000000#32))) sc) bitsLt_bf16_f32

/-- Where each entry goes. -/
def dst : IVec S2816 32 :=
  select (cmpi .slt (iotaInDim S2816 32 0) (broadcastInDim S2816 ![] bcast_S_S2816 (constantI S_ 32 1408#32)))
    (muli (broadcastInDim S2816 ![] bcast_S_S2816 (constantI S_ 32 2#32)) (iotaInDim S2816 32 0))
    (addi (muli (broadcastInDim S2816 ![] bcast_S_S2816 (constantI S_ 32 2#32))
        (subi (iotaInDim S2816 32 0) (broadcastInDim S2816 ![] bcast_S_S2816 (constantI S_ 32 1408#32))))
      (broadcastInDim S2816 ![] bcast_S_S2816 (constantI S_ 32 1#32)))

/-- One where the row's entry goes to the column. -/
def perm : FVec Ideal S2816x2816 .bf16 :=
  uitofp .bf16 (cmpi .eq (broadcastInDim S2816x2816 ![0, 1] bcast_S2816x1_S2816x2816_0_1 (broadcastInDim S2816x1 ![0] bcast_S2816_S2816x1_0 dst))
    (broadcastInDim S2816x2816 ![0, 1] bcast_S1x2816_S2816x2816_0_1 (broadcastInDim S1x2816 ![1] bcast_S2816_S1x2816_1 (iotaInDim S2816 32 0))))

/-- The two halves side by side. -/
def both (ids : IVec S4x2048 32) (codes : IVec S32000x1408 8) (scales : IVec S32000x88 16) : FVec Ideal S8192x2816 .bf16 :=
  concatenate S8192x2816 1
    [⟨S8192x1408, half (andi (codes8 ids codes) (broadcastInDim S8192x1408 ![] bcast_S_S8192x1408 (constantI S_ 32 15#32))) (spread (dec (scale16 ids scales)))⟩,
     ⟨S8192x1408, half (Host.shrsi (codes8 ids codes) (broadcastInDim S8192x1408 ![] bcast_S_S8192x1408 (constantI S_ 32 4#32))) (spread (dec (scale16 ids scales)))⟩]
    concatenates_S8192x1408_S8192x1408_S8192x2816_d1

/-- The result. -/
def res (ids : IVec S4x2048 32) (codes : IVec S32000x1408 8) (scales : IVec S32000x88 16) : FVec Ideal S8192x2816 .bf16 :=
  truncf .bf16 (Host.dotGeneral dot_S8192x2816_S2816x2816_S8192x2816_1_0_0_1_n_n none (both ids codes scales) perm) bitsLt_bf16_f32

theorem res_eq (m) (c : Dev nD) : Cert.ReferenceIdeal.Value.res_main_v101 (F := Ideal) m c =
    res (m ((c.tc : Thread nD τ).loc main_arg0)) (m ((c.tc : Thread nD τ).loc main_arg1)) (m ((c.tc : Thread nD τ).loc main_arg2)) := by
  unfold Cert.ReferenceIdeal.Value.res_main_v101
  rfl

/-- A one-hot entry. -/
theorem uit_eq (x y : BitVec 32) : (FloatOps.uitofp (F := Ideal) .bf16 (IntOp.cmpi .eq x y) : EReal) = if x = y then 1 else 0 := by
  show (((IntOp.cmpi .eq x y).toNat : ℝ) : EReal) = _
  unfold IntOp.cmpi
  by_cases h : x = y
  · subst h; simp
  · rw [if_neg h]; dsimp only; rw [beq_false_of_ne h]; simp

/-- The rows to take, none of them negative. -/
theorem take_apply (ids : IVec S4x2048 32) (h : ∀ i, (ids i).toNat < 32000) (t : Fin 8192) :
    take ids (ix2 t 0) = ids (ix2 ⟨t / 2048, by omega⟩ ⟨t % 2048, by omega⟩) := by
  pointwise [take]
  unfold Scalar.select IntOp.cmpi
  have := h (ix2 ⟨t / 2048, by omega⟩ ⟨t % 2048, by omega⟩)
  rw [if_neg]
  dsimp only
  rw [BitVec.slt_eq_decide, BitVec.toInt_eq_toNat_cond, if_pos (by omega), decide_eq_false (by
    rw [show (0#32 : BitVec 32).toInt = 0 from rfl]; omega)]
  decide

section Rows
variable {α : Type}

/-- Rows taken from a table, one index each. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem gather_rows {N C B : ℕ} (wf) (x : (⟨2, ![N, C]⟩ : Shape).Idx → α) (idx : IVec ⟨2, ![B, 1]⟩ 32) (b : Fin B) (j : Fin C)
    (n : Fin N) (hn : min (idx (ix2 b 0)).toInt.toNat (N - 1) = n) :
    Host.gather (rowDims N C B wf) x idx (ix2 b j) = x (ix2 n j) := by
  unfold Host.gather
  congr 1
  funext a
  refine Fin.ext ?_
  show (rowDims N C B wf).start (ix2 b j) idx a + (rowDims N C B wf).batchCoord (ix2 b j) a + (rowDims N C B wf).offCoord (ix2 b j) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b j) ⟨List.idxOf (0 : Fin 2) (rowDims N C B wf).startIndexMap,
        List.idxOf_lt_length_iff.2 (List.mem_singleton.mpr rfl)⟩ = ix2 b 0 := by
      funext d; refine Fin.ext ?_
      match d with
      | ⟨0, _⟩ => rfl
      | ⟨1, _⟩ => rfl
    rw [hsi]
    exact hn
  · unfold GatherDims.start
    rw [dif_neg (show ¬ (1 : Fin 2) ∈ (rowDims N C B wf).startIndexMap from fun e => absurd (congrArg Fin.val (List.mem_singleton.mp e)) Nat.one_ne_zero)]
    unfold GatherDims.offCoord
    rw [dif_pos (show (1 : Fin 2) ∈ (rowDims N C B wf).sKept from (GatherDims.mem_sKept _ _).mpr ⟨fun e => absurd (congrArg Fin.val (List.mem_singleton.mp e)) Nat.one_ne_zero, List.not_mem_nil⟩)]
    simp only [Nat.zero_add]
    rfl

end Rows

section Entries
variable (ids : IVec S4x2048 32) (codes : IVec S32000x1408 8) (scales : IVec S32000x88 16) (h : ∀ i, (ids i).toNat < 32000)

/-- The vocabulary row of token `t`. -/
def row (t : Fin 8192) : Fin 32000 :=
  ⟨(ids (ix2 ⟨t / 2048, by omega⟩ ⟨t % 2048, by omega⟩)).toNat, h _⟩

theorem row_min (t : Fin 8192) : min (take ids (ix2 t 0)).toInt.toNat (32000 - 1) = row ids h t := by
  rw [take_apply ids h]
  have := h (ix2 ⟨t / 2048, by omega⟩ ⟨t % 2048, by omega⟩)
  rw [BitVec.toInt_eq_toNat_cond, if_pos (by omega)]
  unfold row
  dsimp only
  omega

theorem codes8_apply (t : Fin 8192) (b : Fin 1408) : codes8 ids codes (ix2 t b) = (codes (ix2 (row ids h t) b)).setWidth 32 :=
  congrArg (BitVec.setWidth 32) (gather_rows _ codes (take ids) t b _ (row_min ids h t))

theorem scale16_apply (t : Fin 8192) (g : Fin 88) : scale16 ids scales (ix2 t g) = (scales (ix2 (row ids h t) g)).setWidth 32 :=
  congrArg (BitVec.setWidth 32) (gather_rows _ scales (take ids) t g _ (row_min ids h t))

end Entries

theorem dec_apply (s : IVec S8192x88 32) (t : Fin 8192) (g : Fin 88) : dec s (ix2 t g) = Cert.Decode.fr' (s (ix2 t g)) := rfl

/-- The group word of a byte. -/
theorem grp_apply : ∀ b : Fin 1408, grp (ix2 0 b) = BitVec.ofNat 32 (b / 16) := by decide +kernel

theorem hot_apply (g : Fin 88) (b : Fin 1408) : hot (ix2 g b) = if (g : ℕ) = b / 16 then 1 else 0 := by
  have : hot (ix2 g b) = FloatOps.uitofp (F := Ideal) .bf16 (IntOp.cmpi .eq (grp (ix2 0 b)) (BitVec.ofNat 32 g)) := by
    pointwise [hot]
  rw [this, uit_eq, grp_apply]
  simp only [Cert.Decode.ofNat_inj (b / 16) g (by omega) (by omega), eq_comm]

theorem spread_apply (d : FVec Ideal S8192x88 .f32) (t : Fin 8192) (b : Fin 1408) (g : Fin 88) (hg : (g : ℕ) = b / 16) :
    spread d (ix2 t b) = d (ix2 t g) + (d (ix2 t g) - d (ix2 t g)) := by
  pointwise [spread]
  have one : ∀ f : Fin 88 → EReal, ∑ x, f x * hot (ix2 x b) = f g := fun f => by
    rw [Finset.sum_eq_single g]
    · rw [hot_apply, if_pos hg, mul_one]
    · intro x _ hx
      rw [hot_apply, if_neg (fun e => hx (Fin.ext (e.trans hg.symm))), mul_zero]
    · exact fun hx => absurd (Finset.mem_univ _) hx
  exact congrArg₂ (· + ·) (one fun x => d (ix2 t x)) (one fun x => d (ix2 t x) - d (ix2 t x))

theorem eight : Ideal.ofBits .f32 0x41000000#32 = ((8 : ℝ) : EReal) := by
  have := Cert.Decode.ieee_word 130 0 (by norm_num) (by norm_num) (by norm_num)
  rw [show (0x41000000#32 : BitVec 32) = BitVec.ofNat 32 (130 * 8388608 + 0 * 8192) from by decide, this]
  norm_num

theorem half_apply (q : IVec S8192x1408 32) (s) (a : Fin 8192) (b : Fin 1408) (n : ℕ) (hn : (q (ix2 a b)).toInt = n) :
    half q s (ix2 a b) = (((n : ℝ) - 8 : ℝ) : EReal) * s (ix2 a b) := by
  pointwise [half]
  refine congrArg (· * s (ix2 a b)) ?_
  rw [eight, EReal.coe_sub]
  refine congrArg (· - ((8 : ℝ) : EReal)) ?_
  show (((q (ix2 a b)).toInt : ℝ) : EReal) = _
  rw [hn]
  norm_num

theorem low_nibble : ∀ x : BitVec 8, (x.setWidth 32 &&& 15#32).toInt = ((x.toNat % 16 : ℕ) : ℤ) := by decide +kernel

theorem high_nibble : ∀ x : BitVec 8, (IntOp.shrsi .host (x.setWidth 32) 4#32).toInt = ((x.toNat / 16 : ℕ) : ℤ) := by decide +kernel

/-- Where entry `a` goes. -/
def goes (a : ℕ) : ℕ := if a < 1408 then 2 * a else 2 * (a - 1408) + 1

theorem dst_apply : ∀ a : Fin 2816, dst (ix1 a) = BitVec.ofNat 32 (goes a) := by decide +kernel

theorem goes_lt (a : Fin 2816) : goes a < 2816 := by unfold goes; split <;> omega

theorem perm_apply (a b : Fin 2816) : perm (ix2 a b) = if goes a = b then 1 else 0 := by
  have : perm (ix2 a b) = FloatOps.uitofp (F := Ideal) .bf16 (IntOp.cmpi .eq (dst (ix1 a)) (BitVec.ofNat 32 b)) := by
    pointwise [perm]
  have := goes_lt a
  rw [‹perm _ = _›, uit_eq, dst_apply]
  simp only [Cert.Decode.ofNat_inj (goes a) b (by omega) (by omega)]

section Result
variable (ids : IVec S4x2048 32) (codes : IVec S32000x1408 8) (scales : IVec S32000x88 16) (h : ∀ i, (ids i).toNat < 32000)

/-- The code of token `t` at column `c`. -/
def nibble (t : Fin 8192) (c : Fin 2816) : ℕ :=
  if (c : ℕ) % 2 = 0 then (codes (ix2 (row ids h t) ⟨c / 2, by omega⟩)).toNat % 16 else (codes (ix2 (row ids h t) ⟨c / 2, by omega⟩)).toNat / 16

/-- The scale pattern of token `t` at column `c`. -/
def pat (t : Fin 8192) (c : Fin 2816) : BitVec 16 := scales (ix2 (row ids h t) ⟨c / 32, by omega⟩)

theorem spread_dec (t : Fin 8192) (b : Fin 1408) (c : Fin 2816) (hb : (b : ℕ) = c / 2) : spread (dec (scale16 ids scales)) (ix2 t b) =
    Cert.Decode.fr' ((pat ids scales h t c).setWidth 32) + (Cert.Decode.fr' ((pat ids scales h t c).setWidth 32) - Cert.Decode.fr' ((pat ids scales h t c).setWidth 32)) := by
  rw [spread_apply _ t b ⟨c / 32, by omega⟩ (by show (c : ℕ) / 32 = _; omega), dec_apply, scale16_apply ids scales h]
  rfl

theorem res_apply (t : Fin 8192) (c : Fin 2816) : res ids codes scales (ix2 t c) =
    (((nibble ids codes h t c : ℝ) - 8 : ℝ) : EReal) *
      (Cert.Decode.fr' ((pat ids scales h t c).setWidth 32) + (Cert.Decode.fr' ((pat ids scales h t c).setWidth 32) - Cert.Decode.fr' ((pat ids scales h t c).setWidth 32))) := by
  have hsum : res ids codes scales (ix2 t c) = ∑ x, both ids codes scales (ix2 t x) * perm (ix2 x c) := by
    pointwise [res]
  have hb : ∀ x : Fin 2816, goes x = c → res ids codes scales (ix2 t c) = both ids codes scales (ix2 t x) := fun x hx => by
    rw [hsum, Finset.sum_eq_single x]
    · rw [perm_apply, if_pos hx, mul_one]
    · intro y _ hy
      rw [perm_apply, if_neg, mul_zero]
      intro e
      refine hy (Fin.ext ?_)
      have := e.trans hx.symm
      unfold goes at this
      split at this <;> split at this <;> omega
    · exact fun hx => absurd (Finset.mem_univ _) hx
  by_cases hc : (c : ℕ) % 2 = 0
  · rw [hb ⟨c / 2, by omega⟩ (by unfold goes; dsimp only; rw [if_pos (by omega)]; omega)]
    pointwise [both]
    rw [dif_pos (show (c : ℕ) / 2 < 1408 by omega), half_apply _ _ _ _ _ (by
      show ((codes8 ids codes (ix2 t ⟨c / 2, _⟩)) &&& 15#32).toInt = _
      rw [codes8_apply ids codes h]; exact low_nibble _), spread_dec ids scales h t _ c rfl]
    unfold nibble
    rw [if_pos hc]
  · rw [hb ⟨c / 2 + 1408, by omega⟩ (by unfold goes; dsimp only; rw [if_neg (by omega)]; omega)]
    pointwise [both]
    rw [dif_neg (show ¬ (c : ℕ) / 2 + 1408 < 1408 by omega), half_apply _ _ _ _ _ (by
      show (IntOp.shrsi .host (codes8 ids codes (ix2 t _)) 4#32).toInt = _
      rw [codes8_apply ids codes h]; exact high_nibble _), spread_dec ids scales h t _ c (by show (c : ℕ) / 2 + 1408 - 1408 = _; omega)]
    unfold nibble
    rw [if_neg hc]
    simp only [Nat.add_sub_cancel]

end Result

end Cert.RefVal

end
-- ==== Proof.Value.lean ====
/-
  The kernel's result and the reference's, read over the extended reals, are equal.
-/
module

public import proofs.«01_k».proof.Proof.Runs
public import proofs.«01_k».proof.Proof.KCode
public import proofs.«01_k».proof.Proof.RefVal
public import Idealize.ShloMosaic.Lib.BitcastConvert
public import Idealize.ShloMosaic.Lib.StableHlo.Run

@[expose] public section

set_option maxRecDepth 16384

noncomputable section

namespace Cert.Value

open Idealize.ShloMosaic Idealize.ShloMosaic.TcCoe Cert.Kernel Cert.Kernel.Gen Cert.Kernel.Spec Cert.Kernel.Launch

section Args
variable (m : (ℓ : Loc nD τ sig) → Buf (Elt Ideal) ℓ) (c : Dev nD)

theorem scalesOf_eq : scalesOf (F := Ideal) m c =
    transpose S88x32000 [1, 0] (m ((c.tc : Thread nD τ).loc main_arg2) : IVec S32000x88 16) transposes_S32000x88_S88x32000_1_0 := by
  unfold scalesOf V
  after_results

theorem codesOf_eq : codesOf (F := Ideal) m c =
    Host.bitcastConvertWiden S8000x1408 32 (transpose S8000x1408x4 [0, 2, 1]
      (shapeCast S8000x4x1408 (m ((c.tc : Thread nD τ).loc main_arg1) : IVec S32000x1408 8) shapeCasts_S32000x1408_S8000x4x1408)
      transposes_S8000x4x1408_S8000x1408x4_0_2_1) splits_S8000x1408_w32_S8000x1408x4_w8 := by
  unfold codesOf V
  after_results
  rfl

end Args

/-- The scales the kernel reads are the scales, rows for columns. -/
theorem scale_entry (x : IVec S32000x88 16) (g n : ℕ) (hg : g < 88) (hn : n < 32000) :
    rd2 (transpose S88x32000 [1, 0] x transposes_S32000x88_S88x32000_1_0) g n = x (ix2 ⟨n, hn⟩ ⟨g, hg⟩) := by
  rw [rd2_ix _ hg hn]
  pointwise []

/-- The bytes of a code word are four rows' codes. -/
theorem code_entry (x : IVec S32000x1408 8) (n b : ℕ) (hn : n < 32000) (hb : b < 1408) :
    Cert.Kernel.Value.byte (rd2 (Host.bitcastConvertWiden S8000x1408 32 (transpose S8000x1408x4 [0, 2, 1]
      (shapeCast S8000x4x1408 x shapeCasts_S32000x1408_S8000x4x1408)
      transposes_S8000x4x1408_S8000x1408x4_0_2_1) splits_S8000x1408_w32_S8000x1408x4_w8) (n / 4) b) (n % 4) = x (ix2 ⟨n, hn⟩ ⟨b, hb⟩) := by
  have key : ∀ (g : Fin 8000) (b : Fin 1408) (k : Fin 4), transpose S8000x1408x4 [0, 2, 1]
      (shapeCast S8000x4x1408 x shapeCasts_S32000x1408_S8000x4x1408) transposes_S8000x4x1408_S8000x1408x4_0_2_1 (ix3 g b k) =
        x (ix2 ⟨4 * g + k, by omega⟩ b) := fun g b k => by
    pointwise []
    simp only [Nat.mul_comm]
  rw [rd2_ix _ (show n / 4 < 8000 by omega) hb]
  apply BitVec.eq_of_getLsbD_eq
  intro q hq
  have hk : n % 4 < 4 := Nat.mod_lt _ (by decide)
  unfold Cert.Kernel.Value.byte
  rw [BitVec.getLsbD_extractLsb', decide_eq_true hq, Bool.true_and, Host.bitcastConvertWiden_getLsbD _ _ _ _ _ _ (by omega)]
  have ej : ∀ h, splits_S8000x1408_w32_S8000x1408x4_w8.snoc (ix2 ⟨n / 4, by omega⟩ ⟨b, hb⟩) ⟨(8 * (n % 4) + q) / 8, h⟩ =
      ix3 (⟨n / 4, by omega⟩ : Fin 8000) (⟨b, hb⟩ : Fin 1408) (⟨n % 4, hk⟩ : Fin 4) := fun h => by
    funext a
    apply Fin.ext
    match a with
    | ⟨0, _⟩ => exact Shape.SplitsWords.snoc_apply_val_of_lt _ _ _ _ (show 0 < 2 by decide)
    | ⟨1, _⟩ => exact Shape.SplitsWords.snoc_apply_val_of_lt _ _ _ _ (show 1 < 2 by decide)
    | ⟨2, _⟩ =>
      have := congrArg Fin.val (Shape.SplitsWords.snoc_axis splits_S8000x1408_w32_S8000x1408x4_w8 (ix2 ⟨n / 4, by omega⟩ ⟨b, hb⟩) ⟨(8 * (n % 4) + q) / 8, h⟩)
      refine Eq.trans this ?_
      show (8 * (n % 4) + q) / 8 = n % 4
      omega
  rw [ej, key, show (8 * (n % 4) + q) % 8 = q by omega]
  simp only [show 4 * (n / 4) + n % 4 = n by omega]

/-- The two results, entry by entry. -/
theorem equal (ids : IVec S4x2048 32) (codes : IVec S32000x1408 8) (scales : IVec S32000x88 16) (h : ∀ i, (ids i).toNat < 32000) :
    Cert.Kernel.Body.OUF (F := Ideal) ids
      (Host.bitcastConvertWiden S8000x1408 32 (transpose S8000x1408x4 [0, 2, 1]
        (shapeCast S8000x4x1408 codes shapeCasts_S32000x1408_S8000x4x1408)
        transposes_S8000x4x1408_S8000x1408x4_0_2_1) splits_S8000x1408_w32_S8000x1408x4_w8)
      (transpose S88x32000 [1, 0] scales transposes_S32000x88_S88x32000_1_0) = Cert.RefVal.res ids codes scales := by
  funext i
  obtain ⟨t, c, rfl⟩ : ∃ (t : Fin 8192) (c : Fin 2816), i = ix2 t c := ⟨i 0, i 1, by funext a; fin_cases a <;> rfl⟩
  have hv : Cert.Kernel.Value.voc ids t = (Cert.RefVal.row ids h t : ℕ) := by
    unfold Cert.Kernel.Value.voc Cert.RefVal.row
    rw [rd2_ix _ (show (t : ℕ) / 2048 < 4 by omega) (Nat.mod_lt _ (by decide))]
  have hlt : (Cert.RefVal.row ids h t : ℕ) < 32000 := (Cert.RefVal.row ids h t).isLt
  rw [Cert.RefVal.res_apply ids codes scales h, ← Cert.Decode.decode_eq]
  refine (Cert.Kernel.Value.OUT_eq ids _ _ h t c t.isLt c.isLt).trans ?_
  unfold Cert.Kernel.Value.qcode Cert.Kernel.Value.gval Cert.Kernel.Value.code8 Cert.RefVal.nibble Cert.RefVal.pat
  rw [hv, scale_entry _ _ _ (by omega) hlt, code_entry _ _ _ hlt (by omega)]

theorem algebraic : Cert.algebraic_KernelIdeal_ReferenceIdeal := fun m g m' g' hp hag => by
  refine ⟨fun c => Cert.Kernel.Body.OUF (idsOf (F := Ideal) m c) (codesOf (F := Ideal) m c) (scalesOf (F := Ideal) m c), ?_, ?_⟩
  · exact (θ_run Cert.KernelIdeal.defs _ _).mono (fun _ h c => ⟨(h.1 c).2.2.2, (h.1 c).1, (h.1 c).2.1, (h.1 c).2.2.1⟩) (Cert.Runs.run_ideal m g hp)
  · refine (θ_run Cert.ReferenceIdeal.defs _ _).mono (fun r h c => ⟨(h c).1.trans ?_, (h c).2⟩) (Cert.ReferenceIdeal.Value.run (F := Ideal) m' g')
    rw [Cert.RefVal.res_eq, (hag c).1, (hag c).2.1, (hag c).2.2]
    show _ = Cert.Kernel.Body.OUF (idsOf (F := Ideal) m c) (codesOf (F := Ideal) m c) (scalesOf (F := Ideal) m c)
    rw [codesOf_eq, scalesOf_eq]
    have hi := Cert.Runs.hids (F := Ideal) m hp c
    have e : idsOf (F := Ideal) m c = m ((c.tc : Thread nD τ).loc main_arg0) := V_main_arg0 m c
    rw [e] at hi ⊢
    exact (equal _ _ _ hi).symm

end Cert.Value

end
-- ==== Proof.lean ====
/-
  The proof of the certificate's claims.
-/
module

public import proofs.«01_k».proof.Defs
public import proofs.«01_k».proof.Proof.Runs
public import proofs.«01_k».proof.Proof.Value

@[expose] public section

namespace Cert.Proof

theorem claim : Cert.Claim :=
  ⟨Cert.Kernel.Gen.facts, Cert.KernelIdeal.Gen.facts, Cert.ReferenceIdeal.Gen.facts, Cert.Pre_ids_in_range.Gen.facts,
    Cert.Runs.frame_p, Cert.Runs.frame_pi, Cert.Runs.frame_ri,
    (fun m ρ _ => Cert.Runs.frame_ri m ρ trivial), trivial, Cert.Value.algebraic⟩

end Cert.Proof

end
